-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def Pre_Moe [hPre_work_list : Cert.Pre_work_list.Facts] (m : (ℓ : Loc Cert.Moe.nD Cert.Moe.τ Cert.Moe.sig) → Buf (Elt Bits) ℓ) : Prop :=
  ∀ c : Dev Cert.Moe.nD,
    (Cert.Pre_work_list.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5)) (m ((c.tc : Thread Cert.Moe.nD Cert.Moe.τ).loc Cert.Moe.main_arg6)) (m ((c.tc : Thread Cert.Moe.nD Cert.Moe.τ).loc Cert.Moe.main_arg7)) (m ((c.tc : Thread Cert.Moe.nD Cert.Moe.τ).loc Cert.Moe.main_arg8))) = (fun _ => 1#1)

def Pre_MoeIdeal [hPre_work_list : Cert.Pre_work_list.Facts] (m : (ℓ : Loc Cert.MoeIdeal.nD Cert.MoeIdeal.τ Cert.MoeIdeal.sig) → Buf (Elt Ideal) ℓ) : Prop :=
  ∀ c : Dev Cert.MoeIdeal.nD,
    (Cert.Pre_work_list.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7)) (m ((c.tc : Thread Cert.MoeIdeal.nD Cert.MoeIdeal.τ).loc Cert.MoeIdeal.main_arg8))) = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_work_list [hPre_work_list : Cert.Pre_work_list.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_work_list.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6)) (m ((c.tc : Thread Cert.MoeRefIdeal.nD Cert.MoeRefIdeal.τ).loc Cert.MoeRefIdeal.main_arg7)) (m ((c.tc : Thread Cert.MoeRefIdeal.nD Cert.MoeRefIdeal.τ).loc Cert.MoeRefIdeal.main_arg8))) = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4)
      ∧ r.2.mem ((c.tc : Thread Cert.Last.nD Cert.Last.τ).loc Cert.Last.main_arg5) = m ((c.tc : Thread Cert.Last.nD Cert.Last.τ).loc Cert.Last.main_arg5))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4)
      ∧ r.2.mem ((c.tc : Thread Cert.LastRefIdeal.nD Cert.LastRefIdeal.τ).loc Cert.LastRefIdeal.main_arg5) = m ((c.tc : Thread Cert.LastRefIdeal.nD Cert.LastRefIdeal.τ).loc Cert.LastRefIdeal.main_arg5))
      ∧ r.2.sem = fun _ => 0)

def quiescent_Moe [hMoe : Cert.Moe.Facts] [hPre_work_list : Cert.Pre_work_list.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6)
      ∧ r.2.mem ((c.tc : Thread Cert.Moe.nD Cert.Moe.τ).loc Cert.Moe.main_arg7) = m ((c.tc : Thread Cert.Moe.nD Cert.Moe.τ).loc Cert.Moe.main_arg7)
      ∧ r.2.mem ((c.tc : Thread Cert.Moe.nD Cert.Moe.τ).loc Cert.Moe.main_arg8) = m ((c.tc : Thread Cert.Moe.nD Cert.Moe.τ).loc Cert.Moe.main_arg8))
      ∧ r.2.sem = fun _ => 0)

def quiescent_MoeIdeal [hMoeIdeal : Cert.MoeIdeal.Facts] [hPre_work_list : Cert.Pre_work_list.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
      ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7)
      ∧ r.2.mem ((c.tc : Thread Cert.MoeRefIdeal.nD Cert.MoeRefIdeal.τ).loc Cert.MoeRefIdeal.main_arg8) = m ((c.tc : Thread Cert.MoeRefIdeal.nD Cert.MoeRefIdeal.τ).loc Cert.MoeRefIdeal.main_arg8))
      ∧ r.2.sem = fun _ => 0)

def quiescent_MoeRefIdeal_pre_work_list [hMoeRefIdeal : Cert.MoeRefIdeal.Facts] [hPre_work_list : Cert.Pre_work_list.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_work_list m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7)
      ∧ r.2.mem ((c.tc : Thread Cert.MoeRefIdeal.nD Cert.MoeRefIdeal.τ).loc Cert.MoeRefIdeal.main_arg8) = m ((c.tc : Thread Cert.MoeRefIdeal.nD Cert.MoeRefIdeal.τ).loc Cert.MoeRefIdeal.main_arg8))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7)
      ∧ r.2.mem ((c.tc : Thread Cert.Out.nD Cert.Out.τ).loc Cert.Out.main_arg8) = m ((c.tc : Thread Cert.Out.nD Cert.Out.τ).loc Cert.Out.main_arg8))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
      ∧ r.2.mem ((c.tc : Thread Cert.OutIdeal.nD Cert.OutIdeal.τ).loc Cert.OutIdeal.main_arg8) = m ((c.tc : Thread Cert.OutIdeal.nD Cert.OutIdeal.τ).loc Cert.OutIdeal.main_arg8))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7)
      ∧ r.2.mem ((c.tc : Thread Cert.OutRefIdeal.nD Cert.OutRefIdeal.τ).loc Cert.OutRefIdeal.main_arg8) = m ((c.tc : Thread Cert.OutRefIdeal.nD Cert.OutRefIdeal.τ).loc Cert.OutRefIdeal.main_arg8))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4)
      ∧ r.2.mem ((c.tc : Thread Cert.In.nD Cert.In.τ).loc Cert.In.main_arg5) = m ((c.tc : Thread Cert.In.nD Cert.In.τ).loc Cert.In.main_arg5)
      ∧ r.2.mem ((c.tc : Thread Cert.In.nD Cert.In.τ).loc Cert.In.main_arg6) = m ((c.tc : Thread Cert.In.nD Cert.In.τ).loc Cert.In.main_arg6)
      ∧ r.2.mem ((c.tc : Thread Cert.In.nD Cert.In.τ).loc Cert.In.main_arg7) = m ((c.tc : Thread Cert.In.nD Cert.In.τ).loc Cert.In.main_arg7)
      ∧ r.2.mem ((c.tc : Thread Cert.In.nD Cert.In.τ).loc Cert.In.main_arg8) = m ((c.tc : Thread Cert.In.nD Cert.In.τ).loc Cert.In.main_arg8)
      ∧ r.2.mem ((c.tc : Thread Cert.In.nD Cert.In.τ).loc Cert.In.main_arg9) = m ((c.tc : Thread Cert.In.nD Cert.In.τ).loc Cert.In.main_arg9)
      ∧ r.2.mem ((c.tc : Thread Cert.In.nD Cert.In.τ).loc Cert.In.main_arg10) = m ((c.tc : Thread Cert.In.nD Cert.In.τ).loc Cert.In.main_arg10)
      ∧ r.2.mem ((c.tc : Thread Cert.In.nD Cert.In.τ).loc Cert.In.main_arg11) = m ((c.tc : Thread Cert.In.nD Cert.In.τ).loc Cert.In.main_arg11))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5)
      ∧ r.2.mem ((c.tc : Thread Cert.InIdeal.nD Cert.InIdeal.τ).loc Cert.InIdeal.main_arg6) = m ((c.tc : Thread Cert.InIdeal.nD Cert.InIdeal.τ).loc Cert.InIdeal.main_arg6)
      ∧ r.2.mem ((c.tc : Thread Cert.InIdeal.nD Cert.InIdeal.τ).loc Cert.InIdeal.main_arg7) = m ((c.tc : Thread Cert.InIdeal.nD Cert.InIdeal.τ).loc Cert.InIdeal.main_arg7)
      ∧ r.2.mem ((c.tc : Thread Cert.InIdeal.nD Cert.InIdeal.τ).loc Cert.InIdeal.main_arg8) = m ((c.tc : Thread Cert.InIdeal.nD Cert.InIdeal.τ).loc Cert.InIdeal.main_arg8)
      ∧ r.2.mem ((c.tc : Thread Cert.InIdeal.nD Cert.InIdeal.τ).loc Cert.InIdeal.main_arg9) = m ((c.tc : Thread Cert.InIdeal.nD Cert.InIdeal.τ).loc Cert.InIdeal.main_arg9)
      ∧ r.2.mem ((c.tc : Thread Cert.InIdeal.nD Cert.InIdeal.τ).loc Cert.InIdeal.main_arg10) = m ((c.tc : Thread Cert.InIdeal.nD Cert.InIdeal.τ).loc Cert.InIdeal.main_arg10)
      ∧ r.2.mem ((c.tc : Thread Cert.InIdeal.nD Cert.InIdeal.τ).loc Cert.InIdeal.main_arg11) = m ((c.tc : Thread Cert.InIdeal.nD Cert.InIdeal.τ).loc Cert.InIdeal.main_arg11))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5)
      ∧ r.2.mem ((c.tc : Thread Cert.InRefIdeal.nD Cert.InRefIdeal.τ).loc Cert.InRefIdeal.main_arg6) = m ((c.tc : Thread Cert.InRefIdeal.nD Cert.InRefIdeal.τ).loc Cert.InRefIdeal.main_arg6)
      ∧ r.2.mem ((c.tc : Thread Cert.InRefIdeal.nD Cert.InRefIdeal.τ).loc Cert.InRefIdeal.main_arg7) = m ((c.tc : Thread Cert.InRefIdeal.nD Cert.InRefIdeal.τ).loc Cert.InRefIdeal.main_arg7)
      ∧ r.2.mem ((c.tc : Thread Cert.InRefIdeal.nD Cert.InRefIdeal.τ).loc Cert.InRefIdeal.main_arg8) = m ((c.tc : Thread Cert.InRefIdeal.nD Cert.InRefIdeal.τ).loc Cert.InRefIdeal.main_arg8)
      ∧ r.2.mem ((c.tc : Thread Cert.InRefIdeal.nD Cert.InRefIdeal.τ).loc Cert.InRefIdeal.main_arg9) = m ((c.tc : Thread Cert.InRefIdeal.nD Cert.InRefIdeal.τ).loc Cert.InRefIdeal.main_arg9)
      ∧ r.2.mem ((c.tc : Thread Cert.InRefIdeal.nD Cert.InRefIdeal.τ).loc Cert.InRefIdeal.main_arg10) = m ((c.tc : Thread Cert.InRefIdeal.nD Cert.InRefIdeal.τ).loc Cert.InRefIdeal.main_arg10)
      ∧ r.2.mem ((c.tc : Thread Cert.InRefIdeal.nD Cert.InRefIdeal.τ).loc Cert.InRefIdeal.main_arg11) = m ((c.tc : Thread Cert.InRefIdeal.nD Cert.InRefIdeal.τ).loc Cert.InRefIdeal.main_arg11))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v2) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v34) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)
      ∧ m' ((c.tc : Thread Cert.LastRefIdeal.nD Cert.LastRefIdeal.τ).loc Cert.LastRefIdeal.main_arg4) = m ((c.tc : Thread Cert.LastIdeal.nD Cert.LastIdeal.τ).loc Cert.LastIdeal.main_arg4)
      ∧ m' ((c.tc : Thread Cert.LastRefIdeal.nD Cert.LastRefIdeal.τ).loc Cert.LastRefIdeal.main_arg5) = m ((c.tc : Thread Cert.LastIdeal.nD Cert.LastIdeal.τ).loc Cert.LastIdeal.main_arg5)) →
    ∃ (v0 : (c : Dev Cert.LastIdeal.nD) → Buf (Elt Ideal) ((c.tc : Thread Cert.LastIdeal.nD Cert.LastIdeal.τ).loc Cert.LastIdeal.main_v0)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v0) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
          ∧ r.2.mem ((c.tc : Thread Cert.LastIdeal.nD Cert.LastIdeal.τ).loc Cert.LastIdeal.main_arg5) = m ((c.tc : Thread Cert.LastIdeal.nD Cert.LastIdeal.τ).loc Cert.LastIdeal.main_arg5))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v29) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3)
          ∧ r.2.mem ((c.tc : Thread Cert.LastRefIdeal.nD Cert.LastRefIdeal.τ).loc Cert.LastRefIdeal.main_arg4) = m' ((c.tc : Thread Cert.LastRefIdeal.nD Cert.LastRefIdeal.τ).loc Cert.LastRefIdeal.main_arg4)
          ∧ r.2.mem ((c.tc : Thread Cert.LastRefIdeal.nD Cert.LastRefIdeal.τ).loc Cert.LastRefIdeal.main_arg5) = m' ((c.tc : Thread Cert.LastRefIdeal.nD Cert.LastRefIdeal.τ).loc Cert.LastRefIdeal.main_arg5))

def preserves_Moe_MoeIdeal : Prop :=
  True

def algebraic_MoeIdeal_MoeRefIdeal [hMoeIdeal : Cert.MoeIdeal.Facts] [hMoeRefIdeal : Cert.MoeRefIdeal.Facts] [hPre_work_list : Cert.Pre_work_list.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)
      ∧ m' ((c.tc : Thread Cert.MoeRefIdeal.nD Cert.MoeRefIdeal.τ).loc Cert.MoeRefIdeal.main_arg7) = m ((c.tc : Thread Cert.MoeIdeal.nD Cert.MoeIdeal.τ).loc Cert.MoeIdeal.main_arg7)
      ∧ m' ((c.tc : Thread Cert.MoeRefIdeal.nD Cert.MoeRefIdeal.τ).loc Cert.MoeRefIdeal.main_arg8) = m ((c.tc : Thread Cert.MoeIdeal.nD Cert.MoeIdeal.τ).loc Cert.MoeIdeal.main_arg8)) →
    ∃ (v0 : (c : Dev Cert.MoeIdeal.nD) → Buf (Elt Ideal) ((c.tc : Thread Cert.MoeIdeal.nD Cert.MoeIdeal.τ).loc Cert.MoeIdeal.main_v0)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v0) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
          ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
          ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v52) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6)
          ∧ r.2.mem ((c.tc : Thread Cert.MoeRefIdeal.nD Cert.MoeRefIdeal.τ).loc Cert.MoeRefIdeal.main_arg7) = m' ((c.tc : Thread Cert.MoeRefIdeal.nD Cert.MoeRefIdeal.τ).loc Cert.MoeRefIdeal.main_arg7)
          ∧ r.2.mem ((c.tc : Thread Cert.MoeRefIdeal.nD Cert.MoeRefIdeal.τ).loc Cert.MoeRefIdeal.main_arg8) = m' ((c.tc : Thread Cert.MoeRefIdeal.nD Cert.MoeRefIdeal.τ).loc Cert.MoeRefIdeal.main_arg8))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)
      ∧ m' ((c.tc : Thread Cert.OutRefIdeal.nD Cert.OutRefIdeal.τ).loc Cert.OutRefIdeal.main_arg7) = m ((c.tc : Thread Cert.OutIdeal.nD Cert.OutIdeal.τ).loc Cert.OutIdeal.main_arg7)
      ∧ m' ((c.tc : Thread Cert.OutRefIdeal.nD Cert.OutRefIdeal.τ).loc Cert.OutRefIdeal.main_arg8) = m ((c.tc : Thread Cert.OutIdeal.nD Cert.OutIdeal.τ).loc Cert.OutIdeal.main_arg8)) →
    ∃ (v0 : (c : Dev Cert.OutIdeal.nD) → Buf (Elt Ideal) ((c.tc : Thread Cert.OutIdeal.nD Cert.OutIdeal.τ).loc Cert.OutIdeal.main_v5_0)) (v1 : (c : Dev Cert.OutIdeal.nD) → Buf (Elt Ideal) ((c.tc : Thread Cert.OutIdeal.nD Cert.OutIdeal.τ).loc Cert.OutIdeal.main_v5_1)) (v2 : (c : Dev Cert.OutIdeal.nD) → Buf (Elt Ideal) ((c.tc : Thread Cert.OutIdeal.nD Cert.OutIdeal.τ).loc Cert.OutIdeal.main_v5_2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v5_0) = v0 c
          ∧ r.2.mem ((c.tc : Thread Cert.OutIdeal.nD Cert.OutIdeal.τ).loc Cert.OutIdeal.main_v5_1) = v1 c
          ∧ r.2.mem ((c.tc : Thread Cert.OutIdeal.nD Cert.OutIdeal.τ).loc Cert.OutIdeal.main_v5_2) = v2 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
          ∧ r.2.mem ((c.tc : Thread Cert.OutIdeal.nD Cert.OutIdeal.τ).loc Cert.OutIdeal.main_arg8) = m ((c.tc : Thread Cert.OutIdeal.nD Cert.OutIdeal.τ).loc Cert.OutIdeal.main_arg8))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v80) = v0 c
          ∧ r.2.mem ((c.tc : Thread Cert.OutRefIdeal.nD Cert.OutRefIdeal.τ).loc Cert.OutRefIdeal.main_v78) = v1 c
          ∧ r.2.mem ((c.tc : Thread Cert.OutRefIdeal.nD Cert.OutRefIdeal.τ).loc Cert.OutRefIdeal.main_v81) = v2 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7)
          ∧ r.2.mem ((c.tc : Thread Cert.OutRefIdeal.nD Cert.OutRefIdeal.τ).loc Cert.OutRefIdeal.main_arg8) = m' ((c.tc : Thread Cert.OutRefIdeal.nD Cert.OutRefIdeal.τ).loc Cert.OutRefIdeal.main_arg8))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)
      ∧ m' ((c.tc : Thread Cert.InRefIdeal.nD Cert.InRefIdeal.τ).loc Cert.InRefIdeal.main_arg4) = m ((c.tc : Thread Cert.InIdeal.nD Cert.InIdeal.τ).loc Cert.InIdeal.main_arg4)
      ∧ m' ((c.tc : Thread Cert.InRefIdeal.nD Cert.InRefIdeal.τ).loc Cert.InRefIdeal.main_arg5) = m ((c.tc : Thread Cert.InIdeal.nD Cert.InIdeal.τ).loc Cert.InIdeal.main_arg5)
      ∧ m' ((c.tc : Thread Cert.InRefIdeal.nD Cert.InRefIdeal.τ).loc Cert.InRefIdeal.main_arg6) = m ((c.tc : Thread Cert.InIdeal.nD Cert.InIdeal.τ).loc Cert.InIdeal.main_arg6)
      ∧ m' ((c.tc : Thread Cert.InRefIdeal.nD Cert.InRefIdeal.τ).loc Cert.InRefIdeal.main_arg7) = m ((c.tc : Thread Cert.InIdeal.nD Cert.InIdeal.τ).loc Cert.InIdeal.main_arg7)
      ∧ m' ((c.tc : Thread Cert.InRefIdeal.nD Cert.InRefIdeal.τ).loc Cert.InRefIdeal.main_arg8) = m ((c.tc : Thread Cert.InIdeal.nD Cert.InIdeal.τ).loc Cert.InIdeal.main_arg8)
      ∧ m' ((c.tc : Thread Cert.InRefIdeal.nD Cert.InRefIdeal.τ).loc Cert.InRefIdeal.main_arg9) = m ((c.tc : Thread Cert.InIdeal.nD Cert.InIdeal.τ).loc Cert.InIdeal.main_arg9)
      ∧ m' ((c.tc : Thread Cert.InRefIdeal.nD Cert.InRefIdeal.τ).loc Cert.InRefIdeal.main_arg10) = m ((c.tc : Thread Cert.InIdeal.nD Cert.InIdeal.τ).loc Cert.InIdeal.main_arg10)
      ∧ m' ((c.tc : Thread Cert.InRefIdeal.nD Cert.InRefIdeal.τ).loc Cert.InRefIdeal.main_arg11) = m ((c.tc : Thread Cert.InIdeal.nD Cert.InIdeal.τ).loc Cert.InIdeal.main_arg11)) →
    ∃ (v0 : (c : Dev Cert.InIdeal.nD) → Buf (Elt Ideal) ((c.tc : Thread Cert.InIdeal.nD Cert.InIdeal.τ).loc Cert.InIdeal.main_v1_0)) (v1 : (c : Dev Cert.InIdeal.nD) → Buf (Elt Ideal) ((c.tc : Thread Cert.InIdeal.nD Cert.InIdeal.τ).loc Cert.InIdeal.main_v1_1)) (v2 : (c : Dev Cert.InIdeal.nD) → Buf (Elt Ideal) ((c.tc : Thread Cert.InIdeal.nD Cert.InIdeal.τ).loc Cert.InIdeal.main_v1_2)) (v3 : (c : Dev Cert.InIdeal.nD) → Buf (Elt Ideal) ((c.tc : Thread Cert.InIdeal.nD Cert.InIdeal.τ).loc Cert.InIdeal.main_v1_3)) (v4 : (c : Dev Cert.InIdeal.nD) → Buf (Elt Ideal) ((c.tc : Thread Cert.InIdeal.nD Cert.InIdeal.τ).loc Cert.InIdeal.main_v1_4)) (v5 : (c : Dev Cert.InIdeal.nD) → Buf (Elt Ideal) ((c.tc : Thread Cert.InIdeal.nD Cert.InIdeal.τ).loc Cert.InIdeal.main_v1_5)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v1_0) = v0 c
          ∧ r.2.mem ((c.tc : Thread Cert.InIdeal.nD Cert.InIdeal.τ).loc Cert.InIdeal.main_v1_1) = v1 c
          ∧ r.2.mem ((c.tc : Thread Cert.InIdeal.nD Cert.InIdeal.τ).loc Cert.InIdeal.main_v1_2) = v2 c
          ∧ r.2.mem ((c.tc : Thread Cert.InIdeal.nD Cert.InIdeal.τ).loc Cert.InIdeal.main_v1_3) = v3 c
          ∧ r.2.mem ((c.tc : Thread Cert.InIdeal.nD Cert.InIdeal.τ).loc Cert.InIdeal.main_v1_4) = v4 c
          ∧ r.2.mem ((c.tc : Thread Cert.InIdeal.nD Cert.InIdeal.τ).loc Cert.InIdeal.main_v1_5) = v5 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4)
          ∧ r.2.mem ((c.tc : Thread Cert.InIdeal.nD Cert.InIdeal.τ).loc Cert.InIdeal.main_arg5) = m ((c.tc : Thread Cert.InIdeal.nD Cert.InIdeal.τ).loc Cert.InIdeal.main_arg5)
          ∧ r.2.mem ((c.tc : Thread Cert.InIdeal.nD Cert.InIdeal.τ).loc Cert.InIdeal.main_arg6) = m ((c.tc : Thread Cert.InIdeal.nD Cert.InIdeal.τ).loc Cert.InIdeal.main_arg6)
          ∧ r.2.mem ((c.tc : Thread Cert.InIdeal.nD Cert.InIdeal.τ).loc Cert.InIdeal.main_arg7) = m ((c.tc : Thread Cert.InIdeal.nD Cert.InIdeal.τ).loc Cert.InIdeal.main_arg7)
          ∧ r.2.mem ((c.tc : Thread Cert.InIdeal.nD Cert.InIdeal.τ).loc Cert.InIdeal.main_arg8) = m ((c.tc : Thread Cert.InIdeal.nD Cert.InIdeal.τ).loc Cert.InIdeal.main_arg8)
          ∧ r.2.mem ((c.tc : Thread Cert.InIdeal.nD Cert.InIdeal.τ).loc Cert.InIdeal.main_arg9) = m ((c.tc : Thread Cert.InIdeal.nD Cert.InIdeal.τ).loc Cert.InIdeal.main_arg9)
          ∧ r.2.mem ((c.tc : Thread Cert.InIdeal.nD Cert.InIdeal.τ).loc Cert.InIdeal.main_arg10) = m ((c.tc : Thread Cert.InIdeal.nD Cert.InIdeal.τ).loc Cert.InIdeal.main_arg10)
          ∧ r.2.mem ((c.tc : Thread Cert.InIdeal.nD Cert.InIdeal.τ).loc Cert.InIdeal.main_arg11) = m ((c.tc : Thread Cert.InIdeal.nD Cert.InIdeal.τ).loc Cert.InIdeal.main_arg11))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v150) = v0 c
          ∧ r.2.mem ((c.tc : Thread Cert.InRefIdeal.nD Cert.InRefIdeal.τ).loc Cert.InRefIdeal.main_v152) = v1 c
          ∧ r.2.mem ((c.tc : Thread Cert.InRefIdeal.nD Cert.InRefIdeal.τ).loc Cert.InRefIdeal.main_v154) = v2 c
          ∧ r.2.mem ((c.tc : Thread Cert.InRefIdeal.nD Cert.InRefIdeal.τ).loc Cert.InRefIdeal.main_v156) = v3 c
          ∧ r.2.mem ((c.tc : Thread Cert.InRefIdeal.nD Cert.InRefIdeal.τ).loc Cert.InRefIdeal.main_v158) = v4 c
          ∧ r.2.mem ((c.tc : Thread Cert.InRefIdeal.nD Cert.InRefIdeal.τ).loc Cert.InRefIdeal.main_v159) = v5 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4)
          ∧ r.2.mem ((c.tc : Thread Cert.InRefIdeal.nD Cert.InRefIdeal.τ).loc Cert.InRefIdeal.main_arg5) = m' ((c.tc : Thread Cert.InRefIdeal.nD Cert.InRefIdeal.τ).loc Cert.InRefIdeal.main_arg5)
          ∧ r.2.mem ((c.tc : Thread Cert.InRefIdeal.nD Cert.InRefIdeal.τ).loc Cert.InRefIdeal.main_arg6) = m' ((c.tc : Thread Cert.InRefIdeal.nD Cert.InRefIdeal.τ).loc Cert.InRefIdeal.main_arg6)
          ∧ r.2.mem ((c.tc : Thread Cert.InRefIdeal.nD Cert.InRefIdeal.τ).loc Cert.InRefIdeal.main_arg7) = m' ((c.tc : Thread Cert.InRefIdeal.nD Cert.InRefIdeal.τ).loc Cert.InRefIdeal.main_arg7)
          ∧ r.2.mem ((c.tc : Thread Cert.InRefIdeal.nD Cert.InRefIdeal.τ).loc Cert.InRefIdeal.main_arg8) = m' ((c.tc : Thread Cert.InRefIdeal.nD Cert.InRefIdeal.τ).loc Cert.InRefIdeal.main_arg8)
          ∧ r.2.mem ((c.tc : Thread Cert.InRefIdeal.nD Cert.InRefIdeal.τ).loc Cert.InRefIdeal.main_arg9) = m' ((c.tc : Thread Cert.InRefIdeal.nD Cert.InRefIdeal.τ).loc Cert.InRefIdeal.main_arg9)
          ∧ r.2.mem ((c.tc : Thread Cert.InRefIdeal.nD Cert.InRefIdeal.τ).loc Cert.InRefIdeal.main_arg10) = m' ((c.tc : Thread Cert.InRefIdeal.nD Cert.InRefIdeal.τ).loc Cert.InRefIdeal.main_arg10)
          ∧ r.2.mem ((c.tc : Thread Cert.InRefIdeal.nD Cert.InRefIdeal.τ).loc Cert.InRefIdeal.main_arg11) = m' ((c.tc : Thread Cert.InRefIdeal.nD Cert.InRefIdeal.τ).loc Cert.InRefIdeal.main_arg11))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hLast : Cert.Last.Facts) (hLastIdeal : Cert.LastIdeal.Facts) (hLastRefIdeal : Cert.LastRefIdeal.Facts) (hMoe : Cert.Moe.Facts) (hMoeIdeal : Cert.MoeIdeal.Facts) (hMoeRefIdeal : Cert.MoeRefIdeal.Facts) (hOut : Cert.Out.Facts) (hOutIdeal : Cert.OutIdeal.Facts) (hOutRefIdeal : Cert.OutRefIdeal.Facts) (hIn : Cert.In.Facts) (hInIdeal : Cert.InIdeal.Facts) (hInRefIdeal : Cert.InRefIdeal.Facts) (hPre_finite_qk : Cert.Pre_finite_qk.Facts) (hPre_work_list : Cert.Pre_work_list.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Ffn (hFfn := hFfn)
    ∧ quiescent_FfnIdeal (hFfnIdeal := hFfnIdeal)
    ∧ quiescent_FfnRefIdeal (hFfnRefIdeal := hFfnRefIdeal)
    ∧ quiescent_Last (hLast := hLast)
    ∧ quiescent_LastIdeal (hLastIdeal := hLastIdeal)
    ∧ quiescent_LastRefIdeal (hLastRefIdeal := hLastRefIdeal)
    ∧ quiescent_Moe (hMoe := hMoe) (hPre_work_list := hPre_work_list)
    ∧ quiescent_MoeIdeal (hMoeIdeal := hMoeIdeal) (hPre_work_list := hPre_work_list)
    ∧ quiescent_MoeRefIdeal (hMoeRefIdeal := hMoeRefIdeal)
    ∧ quiescent_MoeRefIdeal_pre_work_list (hMoeRefIdeal := hMoeRefIdeal) (hPre_work_list := hPre_work_list)
    ∧ quiescent_Out (hOut := hOut)
    ∧ quiescent_OutIdeal (hOutIdeal := hOutIdeal)
    ∧ quiescent_OutRefIdeal (hOutRefIdeal := hOutRefIdeal)
    ∧ quiescent_In (hIn := hIn)
    ∧ quiescent_InIdeal (hInIdeal := hInIdeal)
    ∧ quiescent_InRefIdeal (hInRefIdeal := hInRefIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Ffn_FfnIdeal
    ∧ algebraic_FfnIdeal_FfnRefIdeal (hFfnIdeal := hFfnIdeal) (hFfnRefIdeal := hFfnRefIdeal)
    ∧ preserves_Last_LastIdeal
    ∧ algebraic_LastIdeal_LastRefIdeal (hLastIdeal := hLastIdeal) (hLastRefIdeal := hLastRefIdeal)
    ∧ preserves_Moe_MoeIdeal
    ∧ algebraic_MoeIdeal_MoeRefIdeal (hMoeIdeal := hMoeIdeal) (hMoeRefIdeal := hMoeRefIdeal) (hPre_work_list := hPre_work_list)
    ∧ preserves_Out_OutIdeal
    ∧ algebraic_OutIdeal_OutRefIdeal (hOutIdeal := hOutIdeal) (hOutRefIdeal := hOutRefIdeal)
    ∧ preserves_In_InIdeal
    ∧ algebraic_InIdeal_InRefIdeal (hInIdeal := hInIdeal) (hInRefIdeal := hInRefIdeal)
-- ==== Pre_finite_qk.lean ====
abbrev S4x4352x512 : Shape := ⟨3, ![4, 4352, 512]⟩
abbrev S4x4352x256 : Shape := ⟨3, ![4, 4352, 256]⟩
abbrev S_ : Shape := ⟨0, ![]⟩

class Facts : Prop where
  bitsLt_bf16_f32 : FTy.bits .bf16 < FTy.bits .f32
  bcast_S_S4x4352x512 : S_.BroadcastsInDim S4x4352x512 (![] : Fin 0 → Fin S4x4352x512.rank)
  reducesTo_S4x4352x512_S_d0_1_2 : S4x4352x512.ReducesTo [0, 1, 2] S_
  h_S_ : 0 < S_.numel

variable [Facts]

def fn {F : FTy → Type} [FloatOps F] (main_arg0 : FVec F S4x4352x512 .bf16) (main_arg1 : FVec F S4x4352x512 .bf16) (main_arg2 : FVec F S4x4352x256 .bf16) : IVec S_ 1 :=
  let main_v0 : FVec F S4x4352x512 .f32 := (extf .f32 · bitsLt_bf16_f32) main_arg0
  let main_v1 : FVec F S4x4352x512 .f32 := Host.absf main_v0
  let main_cst : FVec F S_ .f32 := constant S_ .f32 0x7F800000#32
  let main_v2 : FVec F S4x4352x512 .f32 := broadcastInDim S4x4352x512 ![] bcast_S_S4x4352x512 main_cst
  let main_v3 : IVec S4x4352x512 1 := cmpf .olt main_v1 main_v2
  let main_c : IVec S_ 1 := constantI S_ 1 1#1
  let main_v4 : IVec S_ 1 := (fun x v => Host.reduce IntOp.andi x v reducesTo_S4x4352x512_S_d0_1_2 h_S_) main_v3 main_c
  let main_v5 : FVec F S4x4352x512 .f32 := (extf .f32 · bitsLt_bf16_f32) main_arg1
  let main_v6 : FVec F S4x4352x512 .f32 := Host.absf main_v5
  let main_cst_0 : FVec F S_ .f32 := constant S_ .f32 0x7F800000#32
  let main_v7 : FVec F S4x4352x512 .f32 := broadcastInDim S4x4352x512 ![] bcast_S_S4x4352x512 main_cst_0
  let main_v8 : IVec S4x4352x512 1 := cmpf .olt main_v6 main_v7
  let main_c_1 : IVec S_ 1 := constantI S_ 1 1#1
  let main_v9 : IVec S_ 1 := (fun x v => Host.reduce IntOp.andi x v reducesTo_S4x4352x512_S_d0_1_2 h_S_) main_v8 main_c_1
  let main_v10 : IVec S_ 1 := andi main_v4 main_v9
  main_v10
-- ==== Pre_work_list.lean ====
abbrev S75 : Shape := ⟨1, ![75]⟩
abbrev S34816x1024 : Shape := ⟨2, ![34816, 1024]⟩
abbrev S2x8x1024x3584 : Shape := ⟨4, ![2, 8, 1024, 3584]⟩
abbrev S2x8x3584x1024 : Shape := ⟨4, ![2, 8, 3584, 1024]⟩
abbrev S74 : Shape := ⟨1, ![74]⟩
abbrev S_ : Shape := ⟨0, ![]⟩
abbrev S1 : Shape := ⟨1, ![1]⟩

class Facts : Prop where
  slices_S75_S74_1 : S75.Slices ![1] S74
  slices_S75_S74_0 : S75.Slices ![0] S74
  bcast_S_S74 : S_.BroadcastsInDim S74 (![] : Fin 0 → Fin S74.rank)
  bcast_S_S75 : S_.BroadcastsInDim S75 (![] : Fin 0 → Fin S75.rank)
  reducesTo_S75_S_d0 : S75.ReducesTo [0] S_
  h_S_ : 0 < S_.numel
  reducesTo_S74_S_d0 : S74.ReducesTo [0] S_
  slices_S75_S1_0 : S75.Slices ![0] S1
  shapeCasts_S1_S_ : S1.ShapeCasts S_
  slices_S75_S1_74 : S75.Slices ![74] S1

variable [Facts]

def fn_part2 {F : FTy → Type} [FloatOps F] (main_arg0 : IVec S75 32) (main_arg4 : IVec S75 32) (main_v36 : IVec S_ 1) : IVec S_ 1 :=
  let main_v37 : IVec S1 32 := (extractStridedSlice S1 ![74] · slices_S75_S1_74) main_arg0
  let main_v38 : IVec S_ 32 := shapeCast S_ main_v37 shapeCasts_S1_S_
  let main_c_10 : IVec S_ 32 := constantI S_ 32 67#32
  let main_v39 : IVec S_ 1 := cmpi .eq main_v38 main_c_10
  let main_v40 : IVec S_ 1 := andi main_v36 main_v39
  let main_v41 : IVec S1 32 := (extractStridedSlice S1 ![0] · slices_S75_S1_0) main_arg4
  let main_v42 : IVec S_ 32 := shapeCast S_ main_v41 shapeCasts_S1_S_
  let main_c_11 : IVec S_ 32 := constantI S_ 32 0#32
  let main_v43 : IVec S_ 1 := cmpi .sgt main_v42 main_c_11
  let main_v44 : IVec S_ 1 := andi main_v40 main_v43
  main_v44

def fn_part1 {F : FTy → Type} [FloatOps F] (main_arg0 : IVec S75 32) (main_arg1 : IVec S75 32) (main_arg4 : IVec S75 32) (main_v8 : IVec S74 1) (main_v15 : IVec S74 1) (main_v17 : IVec S75 1) (main_v19 : IVec S75 1) : IVec S_ 1 :=
  let main_v20 : IVec S75 1 := andi main_v17 main_v19
  let main_c_3 : IVec S_ 1 := constantI S_ 1 1#1
  let main_v21 : IVec S_ 1 := (fun x v => Host.reduce IntOp.andi x v reducesTo_S75_S_d0 h_S_) main_v20 main_c_3
  let main_c_4 : IVec S_ 32 := constantI S_ 32 0#32
  let main_v22 : IVec S75 32 := broadcastInDim S75 ![] bcast_S_S75 main_c_4
  let main_v23 : IVec S75 1 := cmpi .sge main_arg1 main_v22
  let main_c_5 : IVec S_ 32 := constantI S_ 32 8#32
  let main_v24 : IVec S75 32 := broadcastInDim S75 ![] bcast_S_S75 main_c_5
  let main_v25 : IVec S75 1 := cmpi .slt main_arg1 main_v24
  let main_v26 : IVec S75 1 := andi main_v23 main_v25
  let main_c_6 : IVec S_ 1 := constantI S_ 1 1#1
  let main_v27 : IVec S_ 1 := (fun x v => Host.reduce IntOp.andi x v reducesTo_S75_S_d0 h_S_) main_v26 main_c_6
  let main_v28 : IVec S_ 1 := andi main_v21 main_v27
  let main_c_7 : IVec S_ 1 := constantI S_ 1 1#1
  let main_v29 : IVec S_ 1 := (fun x v => Host.reduce IntOp.andi x v reducesTo_S74_S_d0 h_S_) main_v8 main_c_7
  let main_v30 : IVec S_ 1 := andi main_v28 main_v29
  let main_c_8 : IVec S_ 1 := constantI S_ 1 1#1
  let main_v31 : IVec S_ 1 := (fun x v => Host.reduce IntOp.andi x v reducesTo_S74_S_d0 h_S_) main_v15 main_c_8
  let main_v32 : IVec S_ 1 := andi main_v30 main_v31
  let main_v33 : IVec S1 32 := (extractStridedSlice S1 ![0] · slices_S75_S1_0) main_arg0
  let main_v34 : IVec S_ 32 := shapeCast S_ main_v33 shapeCasts_S1_S_
  let main_c_9 : IVec S_ 32 := constantI S_ 32 0#32
  let main_v35 : IVec S_ 1 := cmpi .eq main_v34 main_c_9
  let main_v36 : IVec S_ 1 := andi main_v32 main_v35
  fn_part2 (F := F) main_arg0 main_arg4 main_v36

def fn {F : FTy → Type} [FloatOps F] (main_arg0 : IVec S75 32) (main_arg1 : IVec S75 32) (main_arg2 : IVec S75 32) (main_arg3 : IVec S75 32) (main_arg4 : IVec S75 32) (main_arg5 : FVec F S34816x1024 .f32) (main_arg6 : FVec F S2x8x1024x3584 .bf16) (main_arg7 : FVec F S2x8x1024x3584 .bf16) (main_arg8 : FVec F S2x8x3584x1024 .bf16) : IVec S_ 1 :=
  let main_v0 : IVec S74 32 := (extractStridedSlice S74 ![1] · slices_S75_S74_1) main_arg0
  let main_v1 : IVec S74 32 := (extractStridedSlice S74 ![0] · slices_S75_S74_0) main_arg0
  let main_v2 : IVec S74 1 := cmpi .eq main_v0 main_v1
  let main_v3 : IVec S74 32 := (extractStridedSlice S74 ![1] · slices_S75_S74_1) main_arg0
  let main_v4 : IVec S74 32 := (extractStridedSlice S74 ![0] · slices_S75_S74_0) main_arg0
  let main_c : IVec S_ 32 := constantI S_ 32 1#32
  let main_v5 : IVec S74 32 := broadcastInDim S74 ![] bcast_S_S74 main_c
  let main_v6 : IVec S74 32 := addi main_v4 main_v5
  let main_v7 : IVec S74 1 := cmpi .eq main_v3 main_v6
  let main_v8 : IVec S74 1 := ori main_v2 main_v7
  let main_v9 : IVec S74 32 := (extractStridedSlice S74 ![1] · slices_S75_S74_1) main_arg4
  let main_c_0 : IVec S_ 32 := constantI S_ 32 0#32
  let main_v10 : IVec S74 32 := broadcastInDim S74 ![] bcast_S_S74 main_c_0
  let main_v11 : IVec S74 1 := cmpi .sgt main_v9 main_v10
  let main_v12 : IVec S74 32 := (extractStridedSlice S74 ![1] · slices_S75_S74_1) main_arg0
  let main_v13 : IVec S74 32 := (extractStridedSlice S74 ![0] · slices_S75_S74_0) main_arg0
  let main_v14 : IVec S74 1 := cmpi .ne main_v12 main_v13
  let main_v15 : IVec S74 1 := cmpi .eq main_v11 main_v14
  let main_c_1 : IVec S_ 32 := constantI S_ 32 0#32
  let main_v16 : IVec S75 32 := broadcastInDim S75 ![] bcast_S_S75 main_c_1
  let main_v17 : IVec S75 1 := cmpi .sge main_arg0 main_v16
  let main_c_2 : IVec S_ 32 := constantI S_ 32 68#32
  let main_v18 : IVec S75 32 := broadcastInDim S75 ![] bcast_S_S75 main_c_2
  let main_v19 : IVec S75 1 := cmpi .slt main_arg0 main_v18
  fn_part1 (F := F) main_arg0 main_arg1 main_arg4 main_v8 main_v15 main_v17 main_v19
-- ==== Kernel.lean ====
abbrev S4x4352x512 : Shape := ⟨3, ![4, 4352, 512]⟩
abbrev S4x4352x256 : Shape := ⟨3, ![4, 4352, 256]⟩
abbrev S1x256x256 : Shape := ⟨3, ![1, 256, 256]⟩
abbrev S1x4352x256 : Shape := ⟨3, ![1, 4352, 256]⟩
abbrev S1x4352x128 : Shape := ⟨3, ![1, 4352, 128]⟩
abbrev S1x256x128 : Shape := ⟨3, ![1, 256, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S4352x128 : Shape := ⟨2, ![4352, 128]⟩
abbrev S256x4352 : Shape := ⟨2, ![256, 4352]⟩

abbrev nBuf : Space → Nat
  | .hbm => 4
  | .vmem => 8
  | .smem => 0
  | _ => 0

abbrev bufTy : (tb : Table) → Fin (tcTables nBuf tb) → BufTy
  | .hbm, ⟨0, _⟩ => ⟨S4x4352x512, .bf16⟩
  | .hbm, ⟨1, _⟩ => ⟨S4x4352x512, .bf16⟩
  | .hbm, ⟨2, _⟩ => ⟨S4x4352x256, .bf16⟩
  | .hbm, ⟨3, _⟩ => ⟨S4x4352x256, .bf16⟩
  | .local _ .vmem, ⟨0, _⟩ => ⟨S1x256x256, .bf16⟩
  | .local _ .vmem, ⟨1, _⟩ => ⟨S1x256x256, .bf16⟩
  | .local _ .vmem, ⟨2, _⟩ => ⟨S1x4352x256, .bf16⟩
  | .local _ .vmem, ⟨3, _⟩ => ⟨S1x4352x256, .bf16⟩
  | .local _ .vmem, ⟨4, _⟩ => ⟨S1x4352x128, .bf16⟩
  | .local _ .vmem, ⟨5, _⟩ => ⟨S1x4352x128, .bf16⟩
  | .local _ .vmem, ⟨6, _⟩ => ⟨S1x256x128, .bf16⟩
  | .local _ .vmem, ⟨7, _⟩ => ⟨S1x256x128, .bf16⟩
  | _, _ => ⟨S4x4352x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 17], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4352x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S4x4352x512 : Shape := ⟨3, ![4, 4352, 512]⟩
abbrev S4x4352x256 : Shape := ⟨3, ![4, 4352, 256]⟩
abbrev S4x4352x4x128 : Shape := ⟨4, ![4, 4352, 4, 128]⟩
abbrev S4x4352x4x64 : Shape := ⟨4, ![4, 4352, 4, 64]⟩
abbrev S_ : Shape := ⟨0, ![]⟩
abbrev S4x256x4x128 : Shape := ⟨4, ![4, 256, 4, 128]⟩
abbrev S4x4096x4x128 : Shape := ⟨4, ![4, 4096, 4, 128]⟩
abbrev S4x256x4x64 : Shape := ⟨4, ![4, 256, 4, 64]⟩
abbrev S4x4096x4x64 : Shape := ⟨4, ![4, 4096, 4, 64]⟩
abbrev S4x4x256x256 : Shape := ⟨4, ![4, 4, 256, 256]⟩
abbrev S4x4x256 : Shape := ⟨3, ![4, 4, 256]⟩
abbrev S4x4x256x1 : Shape := ⟨4, ![4, 4, 256, 1]⟩
abbrev S4x4x64x256 : Shape := ⟨4, ![4, 4, 64, 256]⟩
abbrev S4x4x4096x4096 : Shape := ⟨4, ![4, 4, 4096, 4096]⟩
abbrev S4x4x4096x256 : Shape := ⟨4, ![4, 4, 4096, 256]⟩
abbrev S4x4x4096 : Shape := ⟨3, ![4, 4, 4096]⟩
abbrev S4x4x4096x1 : Shape := ⟨4, ![4, 4, 4096, 1]⟩
abbrev S4x4x64x4096 : Shape := ⟨4, ![4, 4, 64, 4096]⟩

abbrev nBuf : Space → Nat
  | .hbm => 77
  | .vmem => 0
  | .smem => 0
  | _ => 0

abbrev bufTy : (tb : Table) → Fin (tcTables nBuf tb) → BufTy
  | .hbm, ⟨0, _⟩ => ⟨S4x4352x512, .bf16⟩
  | .hbm, ⟨1, _⟩ => ⟨S4x4352x512, .bf16⟩
  | .hbm, ⟨2, _⟩ => ⟨S4x4352x256, .bf16⟩
  | .hbm, ⟨3, _⟩ => ⟨S4x4352x512, .f32⟩
  | .hbm, ⟨4, _⟩ => ⟨S4x4352x4x128, .f32⟩
  | .hbm, ⟨5, _⟩ => ⟨S4x4352x512, .f32⟩
  | .hbm, ⟨6, _⟩ => ⟨S4x4352x4x128, .f32⟩
  | .hbm, ⟨7, _⟩ => ⟨S4x4352x256, .f32⟩
  | .hbm, ⟨8, _⟩ => ⟨S4x4352x4x64, .f32⟩
  | .hbm, ⟨9, _⟩ => ⟨S_, .f32⟩
  | .hbm, ⟨10, _⟩ => ⟨S_, .f32⟩
  | .hbm, ⟨11, _⟩ => ⟨S4x256x4x128, .f32⟩
  | .hbm, ⟨12, _⟩ => ⟨S4x4096x4x128, .f32⟩
  | .hbm, ⟨13, _⟩ => ⟨S4x256x4x128, .f32⟩
  | .hbm, ⟨14, _⟩ => ⟨S4x4096x4x128, .f32⟩
  | .hbm, ⟨15, _⟩ => ⟨S4x256x4x64, .f32⟩
  | .hbm, ⟨16, _⟩ => ⟨S4x4096x4x64, .f32⟩
  | .hbm, ⟨17, _⟩ => ⟨S4x4x256x256, .f32⟩
  | .hbm, ⟨18, _⟩ => ⟨S4x4x256x256, .f32⟩
  | .hbm, ⟨19, _⟩ => ⟨S4x4x256x256, .f32⟩
  | .hbm, ⟨20, _⟩ => ⟨S_, .f32⟩
  | .hbm, ⟨21, _⟩ => ⟨S4x4x256, .f32⟩
  | .hbm, ⟨22, _⟩ => ⟨S4x4x256x1, .f32⟩
  | .hbm, ⟨23, _⟩ => ⟨S4x4x256x256, .f32⟩
  | .hbm, ⟨24, _⟩ => ⟨S4x4x256x256, .f32⟩
  | .hbm, ⟨25, _⟩ => ⟨S4x4x256x256, .f32⟩
  | .hbm, ⟨26, _⟩ => ⟨S_, .f32⟩
  | .hbm, ⟨27, _⟩ => ⟨S4x4x256, .f32⟩
  | .hbm, ⟨28, _⟩ => ⟨S4x4x256x1, .f32⟩
  | .hbm, ⟨29, _⟩ => ⟨S_, .f32⟩
  | .hbm, ⟨30, _⟩ => ⟨S4x4x256x1, .f32⟩
  | .hbm, ⟨31, _⟩ => ⟨S4x4x256x1, .f32⟩
  | .hbm, ⟨32, _⟩ => ⟨S4x4x256x256, .f32⟩
  | .hbm, ⟨33, _⟩ => ⟨S4x4x256x256, .f32⟩
  | .hbm, ⟨34, _⟩ => ⟨S4x4x64x256, .f32⟩
  | .hbm, ⟨35, _⟩ => ⟨S4x256x4x64, .f32⟩
  | .hbm, ⟨36, _⟩ => ⟨S4x4x4096x4096, .f32⟩
  | .hbm, ⟨37, _⟩ => ⟨S4x4x4096x4096, .f32⟩
  | .hbm, ⟨38, _⟩ => ⟨S4x4x4096x4096, .f32⟩
  | .hbm, ⟨39, _⟩ => ⟨S4x4x4096x256, .f32⟩
  | .hbm, ⟨40, _⟩ => ⟨S4x4x4096x256, .f32⟩
  | .hbm, ⟨41, _⟩ => ⟨S4x4x4096x256, .f32⟩
  | .hbm, ⟨42, _⟩ => ⟨S_, .f32⟩
  | .hbm, ⟨43, _⟩ => ⟨S4x4x4096, .f32⟩
  | .hbm, ⟨44, _⟩ => ⟨S4x4x4096x1, .f32⟩
  | .hbm, ⟨45, _⟩ => ⟨S_, .f32⟩
  | .hbm, ⟨46, _⟩ => ⟨S4x4x4096, .f32⟩
  | .hbm, ⟨47, _⟩ => ⟨S4x4x4096x1, .f32⟩
  | .hbm, ⟨48, _⟩ => ⟨S4x4x4096x1, .f32⟩
  | .hbm, ⟨49, _⟩ => ⟨S4x4x4096x4096, .f32⟩
  | .hbm, ⟨50, _⟩ => ⟨S4x4x4096x4096, .f32⟩
  | .hbm, ⟨51, _⟩ => ⟨S4x4x4096x4096, .f32⟩
  | .hbm, ⟨52, _⟩ => ⟨S4x4x4096x256, .f32⟩
  | .hbm, ⟨53, _⟩ => ⟨S4x4x4096x256, .f32⟩
  | .hbm, ⟨54, _⟩ => ⟨S4x4x4096x256, .f32⟩
  | .hbm, ⟨55, _⟩ => ⟨S_, .f32⟩
  | .hbm, ⟨56, _⟩ => ⟨S4x4x4096, .f32⟩
  | .hbm, ⟨57, _⟩ => ⟨S4x4x4096x1, .f32⟩
  | .hbm, ⟨58, _⟩ => ⟨S_, .f32⟩
  | .hbm, ⟨59, _⟩ => ⟨S4x4x4096x1, .f32⟩
  | .hbm, ⟨60, _⟩ => ⟨S4x4x4096x1, .f32⟩
  | .hbm, ⟨61, _⟩ => ⟨S_, .f32⟩
  | .hbm, ⟨62, _⟩ => ⟨S4x4x4096, .f32⟩
  | .hbm, ⟨63, _⟩ => ⟨S4x4x4096x1, .f32⟩
  | .hbm, ⟨64, _⟩ => ⟨S4x4x4096x1, .f32⟩
  | .hbm, ⟨65, _⟩ => ⟨S4x4x4096x4096, .f32⟩
  | .hbm, ⟨66, _⟩ => ⟨S4x4x4096x4096, .f32⟩
  | .hbm, ⟨67, _⟩ => ⟨S4x4x4096x256, .f32⟩
  | .hbm, ⟨68, _⟩ => ⟨S4x4x4096x256, .f32⟩
  | .hbm, ⟨69, _⟩ => ⟨S4x4x64x4096, .f32⟩
  | .hbm, ⟨70, _⟩ => ⟨S4x4096x4x64, .f32⟩
  | .hbm, ⟨71, _⟩ => ⟨S4x4x64x4096, .f32⟩
  | .hbm, ⟨72, _⟩ => ⟨S4x4096x4x64, .f32⟩
  | .hbm, ⟨73, _⟩ => ⟨S4x4096x4x64, .f32⟩
  | .hbm, ⟨74, _⟩ => ⟨S4x4352x4x64, .f32⟩
  | .hbm, ⟨75, _⟩ => ⟨S4x4352x256, .f32⟩
  | .hbm, ⟨76, _⟩ => ⟨S4x4352x256, .bf16⟩
  | _, _ => ⟨S4x4352x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_1 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_3 : Ref sig .tc := ⟨.hbm, 42, rfl⟩
abbrev main_v35 : Ref sig .tc := ⟨.hbm, 43, rfl⟩
abbrev main_v36 : Ref sig .tc := ⟨.hbm, 44, rfl⟩
abbrev main_cst_4 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_cst_5 : Ref sig .tc := ⟨.hbm, 55, rfl⟩
abbrev main_v46 : Ref sig .tc := ⟨.hbm, 56, rfl⟩
abbrev main_v47 : Ref sig .tc := ⟨.hbm, 57, rfl⟩
abbrev main_cst_6 : Ref sig .tc := ⟨.hbm, 58, rfl⟩
abbrev main_v48 : Ref sig .tc := ⟨.hbm, 59, rfl⟩
abbrev main_v49 : Ref sig .tc := ⟨.hbm, 60, rfl⟩
abbrev main_cst_7 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩

abbrev nD : Nat := 1
abbrev τ : Topo := Topo.v7x

variable {F : FTy → Type} [FloatOps F]
-- ==== Ffn.lean ====
abbrev S4x4352x1024 : Shape := ⟨3, ![4, 4352, 1024]⟩
abbrev S4x2x8x1024 : Shape := ⟨4, ![4, 2, 8, 1024]⟩
abbrev S2x1024x3584 : Shape := ⟨3, ![2, 1024, 3584]⟩
abbrev S2x3584x1024 : Shape := ⟨3, ![2, 3584, 1024]⟩
abbrev S17408x1024 : Shape := ⟨2, ![17408, 1024]⟩
abbrev S512x1024 : Shape := ⟨2, ![512, 1024]⟩
abbrev S1x1x8x1024 : Shape := ⟨4, ![1, 1, 8, 1024]⟩
abbrev S1x1024x3584 : Shape := ⟨3, ![1, 1024, 3584]⟩
abbrev S1x3584x1024 : Shape := ⟨3, ![1, 3584, 1024]⟩
abbrev S1x1024x512 : Shape := ⟨3, ![1, 1024, 512]⟩
abbrev S1024x512 : Shape := ⟨2, ![1024, 512]⟩
abbrev S512x512 : Shape := ⟨2, ![512, 512]⟩
abbrev S1x512x1024 : Shape := ⟨3, ![1, 512, 1024]⟩
abbrev S256x1024 : Shape := ⟨2, ![256, 1024]⟩
abbrev S1x1x1x1024 : Shape := ⟨4, ![1, 1, 1, 1024]⟩
abbrev S1x1024 : Shape := ⟨2, ![1, 1024]⟩

abbrev nBuf : Space → Nat
  | .hbm => 9
  | .vmem => 13
  | .smem => 0
  | _ => 0

abbrev bufTy : (tb : Table) → Fin (tcTables nBuf tb) → BufTy
  | .hbm, ⟨0, _⟩ => ⟨S4x4352x1024, .bf16⟩
  | .hbm, ⟨1, _⟩ => ⟨S4x4352x1024, .f32⟩
  | .hbm, ⟨2, _⟩ => ⟨S4x2x8x1024, .f32⟩
  | .hbm, ⟨3, _⟩ => ⟨S2x1024x3584, .bf16⟩
  | .hbm, ⟨4, _⟩ => ⟨S2x1024x3584, .bf16⟩
  | .hbm, ⟨5, _⟩ => ⟨S2x3584x1024, .bf16⟩
  | .hbm, ⟨6, _⟩ => ⟨S17408x1024, .bf16⟩
  | .hbm, ⟨7, _⟩ => ⟨S17408x1024, .f32⟩
  | .hbm, ⟨8, _⟩ => ⟨S17408x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1x1x8x1024, .f32⟩
  | .local _ .vmem, ⟨5, _⟩ => ⟨S1x1x8x1024, .f32⟩
  | .local _ .vmem, ⟨6, _⟩ => ⟨S1x1x8x1024, .f32⟩
  | .local _ .vmem, ⟨7, _⟩ => ⟨S1x1x8x1024, .f32⟩
  | .local _ .vmem, ⟨8, _⟩ => ⟨S1x1024x3584, .bf16⟩
  | .local _ .vmem, ⟨9, _⟩ => ⟨S1x1024x3584, .bf16⟩
  | .local _ .vmem, ⟨10, _⟩ => ⟨S1x3584x1024, .bf16⟩
  | .local _ .vmem, ⟨11, _⟩ => ⟨S512x1024, .f32⟩
  | .local _ .vmem, ⟨12, _⟩ => ⟨S512x1024, .f32⟩
  | _, _ => ⟨S4x4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let c17_i32 : BitVec 32 := 17#32
  let v2 : BitVec 32 := Scalar.divsi v1 c17_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c17_i32 c0_i32_2
  let v9 : BitVec 32 := Scalar.extui v8
  let c0_i32_3 : BitVec 32 := 0#32
  let v10 : BitVec 1 := Scalar.cmpi .slt c17_i32 c0_i32_3
  let v11 : BitVec 32 := Scalar.extui v10
  let v12 : BitVec 32 := Scalar.subi v9 v11
  let v13 : BitVec 1 := Scalar.cmpi .ne v7 v12
  let v14 : BitVec 32 := Scalar.remsi v1 c17_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c2_i32_5 : BitVec 32 := 2#32
  let v19 : BitVec 32 := Scalar.muli c2_i32_5 arg0
  let c0_i32_6 : BitVec 32 := 0#32
  let v20 : BitVec 32 := Scalar.addi v19 c0_i32_6
  let c17_i32_7 : BitVec 32 := 17#32
  let c0_i32_8 : BitVec 32 := 0#32
  let v21 : BitVec 1 := Scalar.cmpi .eq c17_i32_7 c0_i32_8
  let c1_i32_9 : BitVec 32 := 1#32
  let v22 : BitVec 32 := Scalar.select v21 c1_i32_9 c17_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c1_i32_13 : BitVec 32 := 1#32
  let v31 : BitVec 32 := Scalar.minsi v30 c1_i32_13
  let c0_i32_14 : BitVec 32 := 0#32
  let c0_i32_15 : BitVec 32 := 0#32
  let c0_i32_16 : BitVec 32 := 0#32
  ![v18.toNat, v31.toNat, c0_i32_14.toNat, c0_i32_15.toNat]

def cc0_transform_3 (i : grid0.Coords) : Fin 4 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c2_i32_5 : BitVec 32 := 2#32
  let v19 : BitVec 32 := Scalar.muli c2_i32_5 arg0
  let c1_i32_6 : BitVec 32 := 1#32
  let v20 : BitVec 32 := Scalar.addi v19 c1_i32_6
  let c17_i32_7 : BitVec 32 := 17#32
  let c0_i32_8 : BitVec 32 := 0#32
  let v21 : BitVec 1 := Scalar.cmpi .eq c17_i32_7 c0_i32_8
  let c1_i32_9 : BitVec 32 := 1#32
  let v22 : BitVec 32 := Scalar.select v21 c1_i32_9 c17_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c1_i32_13 : BitVec 32 := 1#32
  let v31 : BitVec 32 := Scalar.minsi v30 c1_i32_13
  let c0_i32_14 : BitVec 32 := 0#32
  let c0_i32_15 : BitVec 32 := 0#32
  let c0_i32_16 : BitVec 32 := 0#32
  ![v18.toNat, v31.toNat, c0_i32_14.toNat, c0_i32_15.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x3584 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3584x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnRefIdeal.lean ====
abbrev S4x4352x1024 : Shape := ⟨3, ![4, 4352, 1024]⟩
abbrev S4x2x8x1024 : Shape := ⟨4, ![4, 2, 8, 1024]⟩
abbrev S2x1024x3584 : Shape := ⟨3, ![2, 1024, 3584]⟩
abbrev S2x3584x1024 : Shape := ⟨3, ![2, 3584, 1024]⟩
abbrev S17408x1024 : Shape := ⟨2, ![17408, 1024]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S17408x3584 : Shape := ⟨2, ![17408, 3584]⟩
abbrev S_ : Shape := ⟨0, ![]⟩
abbrev S4x1x1x1024 : Shape := ⟨4, ![4, 1, 1, 1024]⟩
abbrev S4x1024 : Shape := ⟨2, ![4, 1024]⟩
abbrev S4x1x1024 : Shape := ⟨3, ![4, 1, 1024]⟩
abbrev S4x256x1024 : Shape := ⟨3, ![4, 256, 1024]⟩
abbrev S4x4096x1024 : Shape := ⟨3, ![4, 4096, 1024]⟩

abbrev nBuf : Space → Nat
  | .hbm => 49
  | .vmem => 0
  | .smem => 0
  | _ => 0

abbrev bufTy : (tb : Table) → Fin (tcTables nBuf tb) → BufTy
  | .hbm, ⟨0, _⟩ => ⟨S4x4352x1024, .bf16⟩
  | .hbm, ⟨1, _⟩ => ⟨S4x4352x1024, .f32⟩
  | .hbm, ⟨2, _⟩ => ⟨S4x2x8x1024, .f32⟩
  | .hbm, ⟨3, _⟩ => ⟨S2x1024x3584, .bf16⟩
  | .hbm, ⟨4, _⟩ => ⟨S2x1024x3584, .bf16⟩
  | .hbm, ⟨5, _⟩ => ⟨S2x3584x1024, .bf16⟩
  | .hbm, ⟨6, _⟩ => ⟨S4x4352x1024, .f32⟩
  | .hbm, ⟨7, _⟩ => ⟨S17408x1024, .f32⟩
  | .hbm, ⟨8, _⟩ => ⟨S1x1024x3584, .bf16⟩
  | .hbm, ⟨9, _⟩ => ⟨S1024x3584, .bf16⟩
  | .hbm, ⟨10, _⟩ => ⟨S1024x3584, .f32⟩
  | .hbm, ⟨11, _⟩ => ⟨S1x1024x3584, .bf16⟩
  | .hbm, ⟨12, _⟩ => ⟨S1024x3584, .bf16⟩
  | .hbm, ⟨13, _⟩ => ⟨S1024x3584, .f32⟩
  | .hbm, ⟨14, _⟩ => ⟨S1x3584x1024, .bf16⟩
  | .hbm, ⟨15, _⟩ => ⟨S3584x1024, .bf16⟩
  | .hbm, ⟨16, _⟩ => ⟨S3584x1024, .f32⟩
  | .hbm, ⟨17, _⟩ => ⟨S17408x3584, .f32⟩
  | .hbm, ⟨18, _⟩ => ⟨S17408x3584, .f32⟩
  | .hbm, ⟨19, _⟩ => ⟨S17408x3584, .f32⟩
  | .hbm, ⟨20, _⟩ => ⟨S_, .f32⟩
  | .hbm, ⟨21, _⟩ => ⟨S17408x3584, .f32⟩
  | .hbm, ⟨22, _⟩ => ⟨S17408x3584, .f32⟩
  | .hbm, ⟨23, _⟩ => ⟨S_, .f32⟩
  | .hbm, ⟨24, _⟩ => ⟨S17408x3584, .f32⟩
  | .hbm, ⟨25, _⟩ => ⟨S17408x3584, .f32⟩
  | .hbm, ⟨26, _⟩ => ⟨S17408x3584, .f32⟩
  | .hbm, ⟨27, _⟩ => ⟨S17408x3584, .f32⟩
  | .hbm, ⟨28, _⟩ => ⟨S17408x3584, .f32⟩
  | .hbm, ⟨29, _⟩ => ⟨S17408x1024, .f32⟩
  | .hbm, ⟨30, _⟩ => ⟨S4x4352x1024, .f32⟩
  | .hbm, ⟨31, _⟩ => ⟨S4x1x1x1024, .f32⟩
  | .hbm, ⟨32, _⟩ => ⟨S4x1024, .f32⟩
  | .hbm, ⟨33, _⟩ => ⟨S4x1x1024, .f32⟩
  | .hbm, ⟨34, _⟩ => ⟨S4x1x1x1024, .f32⟩
  | .hbm, ⟨35, _⟩ => ⟨S4x1024, .f32⟩
  | .hbm, ⟨36, _⟩ => ⟨S4x1x1024, .f32⟩
  | .hbm, ⟨37, _⟩ => ⟨S4x256x1024, .f32⟩
  | .hbm, ⟨38, _⟩ => ⟨S4x256x1024, .f32⟩
  | .hbm, ⟨39, _⟩ => ⟨S4x256x1024, .f32⟩
  | .hbm, ⟨40, _⟩ => ⟨S4x256x1024, .f32⟩
  | .hbm, ⟨41, _⟩ => ⟨S4x256x1024, .f32⟩
  | .hbm, ⟨42, _⟩ => ⟨S4x4096x1024, .f32⟩
  | .hbm, ⟨43, _⟩ => ⟨S4x4096x1024, .f32⟩
  | .hbm, ⟨44, _⟩ => ⟨S4x4096x1024, .f32⟩
  | .hbm, ⟨45, _⟩ => ⟨S4x4096x1024, .f32⟩
  | .hbm, ⟨46, _⟩ => ⟨S4x4096x1024, .f32⟩
  | .hbm, ⟨47, _⟩ => ⟨S4x4352x1024, .f32⟩
  | .hbm, ⟨48, _⟩ => ⟨S17408x1024, .f32⟩
  | _, _ => ⟨S4x4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]
-- ==== Last.lean ====
abbrev S4x4352x1024 : Shape := ⟨3, ![4, 4352, 1024]⟩
abbrev S4x4352x128 : Shape := ⟨3, ![4, 4352, 128]⟩
abbrev S4x2x8x1024 : Shape := ⟨4, ![4, 2, 8, 1024]⟩
abbrev S1x1024 : Shape := ⟨2, ![1, 1024]⟩
abbrev S4x4096x1024 : Shape := ⟨3, ![4, 4096, 1024]⟩
abbrev S1x256x1024 : Shape := ⟨3, ![1, 256, 1024]⟩
abbrev S1x256x128 : Shape := ⟨3, ![1, 256, 128]⟩
abbrev S1x1x8x1024 : Shape := ⟨4, ![1, 1, 8, 1024]⟩
abbrev S1x256x1 : Shape := ⟨3, ![1, 256, 1]⟩
abbrev S256x1 : Shape := ⟨2, ![256, 1]⟩
abbrev S256x1024 : Shape := ⟨2, ![256, 1024]⟩
abbrev S1x1x1x1024 : Shape := ⟨4, ![1, 1, 1, 1024]⟩
abbrev S256 : Shape := ⟨1, ![256]⟩

abbrev nBuf : Space → Nat
  | .hbm => 7
  | .vmem => 13
  | .smem => 0
  | _ => 0

abbrev bufTy : (tb : Table) → Fin (tcTables nBuf tb) → BufTy
  | .hbm, ⟨0, _⟩ => ⟨S4x4352x1024, .f32⟩
  | .hbm, ⟨1, _⟩ => ⟨S4x4352x1024, .f32⟩
  | .hbm, ⟨2, _⟩ => ⟨S4x4352x1024, .f32⟩
  | .hbm, ⟨3, _⟩ => ⟨S4x4352x128, .f32⟩
  | .hbm, ⟨4, _⟩ => ⟨S4x2x8x1024, .f32⟩
  | .hbm, ⟨5, _⟩ => ⟨S1x1024, .f32⟩
  | .hbm, ⟨6, _⟩ => ⟨S4x4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x128, .f32⟩
  | .local _ .vmem, ⟨7, _⟩ => ⟨S1x256x128, .f32⟩
  | .local _ .vmem, ⟨8, _⟩ => ⟨S1x1x8x1024, .f32⟩
  | .local _ .vmem, ⟨9, _⟩ => ⟨S1x1x8x1024, .f32⟩
  | .local _ .vmem, ⟨10, _⟩ => ⟨S1x1024, .f32⟩
  | .local _ .vmem, ⟨11, _⟩ => ⟨S1x256x1024, .f32⟩
  | .local _ .vmem, ⟨12, _⟩ => ⟨S1x256x1024, .f32⟩
  | _, _ => ⟨S4x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.minsi v0 c1_i32_0
  let c0_i32 : BitVec 32 := 0#32
  let c0_i32_1 : BitVec 32 := 0#32
  let c0_i32_2 : BitVec 32 := 0#32
  ![arg0.toNat, v1.toNat, c0_i32.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== LastRefIdeal.lean ====
abbrev S4x4352x1024 : Shape := ⟨3, ![4, 4352, 1024]⟩
abbrev S4x4352x128 : Shape := ⟨3, ![4, 4352, 128]⟩
abbrev S4x2x8x1024 : Shape := ⟨4, ![4, 2, 8, 1024]⟩
abbrev S1x1024 : Shape := ⟨2, ![1, 1024]⟩
abbrev S4x4096x1 : Shape := ⟨3, ![4, 4096, 1]⟩
abbrev S4x4096x1024 : Shape := ⟨3, ![4, 4096, 1024]⟩
abbrev S4x1x1x1024 : Shape := ⟨4, ![4, 1, 1, 1024]⟩
abbrev S4x1024 : Shape := ⟨2, ![4, 1024]⟩
abbrev S4x1x1024 : Shape := ⟨3, ![4, 1, 1024]⟩
abbrev S1024 : Shape := ⟨1, ![1024]⟩
abbrev S_ : Shape := ⟨0, ![]⟩
abbrev S4x4096 : Shape := ⟨2, ![4, 4096]⟩
abbrev S1x1x1024 : Shape := ⟨3, ![1, 1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S4x4352x1024, .f32⟩
  | .hbm, ⟨1, _⟩ => ⟨S4x4352x1024, .f32⟩
  | .hbm, ⟨2, _⟩ => ⟨S4x4352x1024, .f32⟩
  | .hbm, ⟨3, _⟩ => ⟨S4x4352x128, .f32⟩
  | .hbm, ⟨4, _⟩ => ⟨S4x2x8x1024, .f32⟩
  | .hbm, ⟨5, _⟩ => ⟨S1x1024, .f32⟩
  | .hbm, ⟨6, _⟩ => ⟨S4x4096x1, .f32⟩
  | .hbm, ⟨7, _⟩ => ⟨S4x4096x1024, .f32⟩
  | .hbm, ⟨8, _⟩ => ⟨S4x4096x1024, .f32⟩
  | .hbm, ⟨9, _⟩ => ⟨S4x4096x1024, .f32⟩
  | .hbm, ⟨10, _⟩ => ⟨S4x4096x1, .f32⟩
  | .hbm, ⟨11, _⟩ => ⟨S4x4096x1024, .f32⟩
  | .hbm, ⟨12, _⟩ => ⟨S4x4096x1024, .f32⟩
  | .hbm, ⟨13, _⟩ => ⟨S4x4096x1024, .f32⟩
  | .hbm, ⟨14, _⟩ => ⟨S4x4096x1024, .f32⟩
  | .hbm, ⟨15, _⟩ => ⟨S4x4096x1024, .f32⟩
  | .hbm, ⟨16, _⟩ => ⟨S4x1x1x1024, .f32⟩
  | .hbm, ⟨17, _⟩ => ⟨S4x1024, .f32⟩
  | .hbm, ⟨18, _⟩ => ⟨S4x1x1024, .f32⟩
  | .hbm, ⟨19, _⟩ => ⟨S4x4096x1024, .f32⟩
  | .hbm, ⟨20, _⟩ => ⟨S4x4096x1024, .f32⟩
  | .hbm, ⟨21, _⟩ => ⟨S4x4096x1024, .f32⟩
  | .hbm, ⟨22, _⟩ => ⟨S1024, .f32⟩
  | .hbm, ⟨23, _⟩ => ⟨S4x4096x1024, .f32⟩
  | .hbm, ⟨24, _⟩ => ⟨S_, .f32⟩
  | .hbm, ⟨25, _⟩ => ⟨S4x4096, .f32⟩
  | .hbm, ⟨26, _⟩ => ⟨S4x4096x1, .f32⟩
  | .hbm, ⟨27, _⟩ => ⟨S_, .f32⟩
  | .hbm, ⟨28, _⟩ => ⟨S4x4096x1, .f32⟩
  | .hbm, ⟨29, _⟩ => ⟨S4x4096x1, .f32⟩
  | .hbm, ⟨30, _⟩ => ⟨S_, .f32⟩
  | .hbm, ⟨31, _⟩ => ⟨S4x4096x1, .f32⟩
  | .hbm, ⟨32, _⟩ => ⟨S4x4096x1, .f32⟩
  | .hbm, ⟨33, _⟩ => ⟨S4x4096x1, .f32⟩
  | .hbm, ⟨34, _⟩ => ⟨S4x4096x1024, .f32⟩
  | .hbm, ⟨35, _⟩ => ⟨S4x4096x1024, .f32⟩
  | .hbm, ⟨36, _⟩ => ⟨S1x1x1024, .f32⟩
  | .hbm, ⟨37, _⟩ => ⟨S4x4096x1024, .f32⟩
  | .hbm, ⟨38, _⟩ => ⟨S4x4096x1024, .f32⟩
  | _, _ => ⟨S4x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== Moe.lean ====
abbrev S75 : Shape := ⟨1, ![75]⟩
abbrev S34816x1024 : Shape := ⟨2, ![34816, 1024]⟩
abbrev S2x8x1024x3584 : Shape := ⟨4, ![2, 8, 1024, 3584]⟩
abbrev S2x8x3584x1024 : Shape := ⟨4, ![2, 8, 3584, 1024]⟩
abbrev S512x1024 : Shape := ⟨2, ![512, 1024]⟩
abbrev S1 : Shape := ⟨1, ![1]⟩
abbrev S1x1x1024x1792 : Shape := ⟨4, ![1, 1, 1024, 1792]⟩
abbrev S1x1x1792x1024 : Shape := ⟨4, ![1, 1, 1792, 1024]⟩
abbrev S512x1 : Shape := ⟨2, ![512, 1]⟩
abbrev S1024x1792 : Shape := ⟨2, ![1024, 1792]⟩
abbrev S512x1792 : Shape := ⟨2, ![512, 1792]⟩
abbrev S1792x1024 : Shape := ⟨2, ![1792, 1024]⟩
abbrev S256x1024 : Shape := ⟨2, ![256, 1024]⟩
abbrev S256x1792 : Shape := ⟨2, ![256, 1792]⟩

abbrev nBuf : Space → Nat
  | .hbm => 5
  | .vmem => 12
  | .smem => 5
  | _ => 0

abbrev bufTy : (tb : Table) → Fin (tcTables nBuf tb) → BufTy
  | .hbm, ⟨0, _⟩ => ⟨S34816x1024, .f32⟩
  | .hbm, ⟨1, _⟩ => ⟨S2x8x1024x3584, .bf16⟩
  | .hbm, ⟨2, _⟩ => ⟨S2x8x1024x3584, .bf16⟩
  | .hbm, ⟨3, _⟩ => ⟨S2x8x3584x1024, .bf16⟩
  | .hbm, ⟨4, _⟩ => ⟨S34816x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024x1792, .bf16⟩
  | .local _ .vmem, ⟨3, _⟩ => ⟨S1x1x1024x1792, .bf16⟩
  | .local _ .vmem, ⟨4, _⟩ => ⟨S1x1x1024x1792, .bf16⟩
  | .local _ .vmem, ⟨5, _⟩ => ⟨S1x1x1024x1792, .bf16⟩
  | .local _ .vmem, ⟨6, _⟩ => ⟨S1x1x1792x1024, .bf16⟩
  | .local _ .vmem, ⟨7, _⟩ => ⟨S1x1x1792x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .f32⟩
  | .local _ .smem, ⟨0, _⟩ => ⟨S75, .i32⟩
  | .local _ .smem, ⟨1, _⟩ => ⟨S75, .i32⟩
  | .local _ .smem, ⟨2, _⟩ => ⟨S75, .i32⟩
  | .local _ .smem, ⟨3, _⟩ => ⟨S75, .i32⟩
  | .local _ .smem, ⟨4, _⟩ => ⟨S75, .i32⟩
  | _, _ => ⟨S34816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg5 : Ref sig .tc := ⟨.hbm, 0, rfl⟩
abbrev main_arg6 : Ref sig .tc := ⟨.hbm, 1, rfl⟩
abbrev main_arg7 : Ref sig .tc := ⟨.hbm, 2, rfl⟩
abbrev main_arg8 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev main_arg4 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![75, 2], ![false, false]⟩

abbrev pre0 : Pipeline.Prefetch sig := ⟨5, ![main_arg0.idx, main_arg1.idx, main_arg2.idx, main_arg3.idx, main_arg4.idx], fun | 0 => main_arg0.names | 1 => main_arg1.names | 2 => main_arg2.names | 3 => main_arg3.names | 4 => main_arg4.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off2 (i : grid0.Coords) : Fin 1 → Nat :=
  let arg0 : BitVec 32 := BitVec.ofNat 32 (i 0).val
  let v58 : Index := Scalar.indexCast arg0
  ![v58.toNat]
def k0_off3 (i : grid0.Coords) : Fin 1 → Nat :=
  let arg0 : BitVec 32 := BitVec.ofNat 32 (i 0).val
  let v10 : Index := Scalar.indexCast arg0
  ![v10.toNat]
def k0_off4 (i : grid0.Coords) : Fin 1 → Nat :=
  let arg0 : BitVec 32 := BitVec.ofNat 32 (i 0).val
  let v25 : Index := Scalar.indexCast arg0
  ![v25.toNat]
def k0_off5 (i : grid0.Coords) : Fin 1 → Nat :=
  let arg0 : BitVec 32 := BitVec.ofNat 32 (i 0).val
  let v41 : Index := Scalar.indexCast arg0
  ![v41.toNat]
def k0_cond6 (i : grid0.Coords) : BitVec 1 :=
  let arg1 : BitVec 32 := BitVec.ofNat 32 (i 1).val
  let c1_i32 : BitVec 32 := 1#32
  let v55 : BitVec 1 := Scalar.cmpi .eq arg1 c1_i32
  let v56 : BitVec 32 := Scalar.extui v55
  let c0_i32_12 : BitVec 32 := 0#32
  let v57 : BitVec 1 := Scalar.cmpi .ne v56 c0_i32_12
  v57

def cc0_transform_0 (k0_off1_inb : ∀ i : grid0.Coords, ∀ a, (k0_off1 i) a + S1.size a ≤ S75.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S75) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S75.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S75) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg1.toNat]

def cc0_transform_2 (k0_off1_inb : ∀ i : grid0.Coords, ∀ a, (k0_off1 i) a + S1.size a ≤ S75.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S75) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg1.toNat]

def cc0_transform_3 (k0_off1_inb : ∀ i : grid0.Coords, ∀ a, (k0_off1 i) a + S1.size a ≤ S75.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S75) ![v0.toNat] S1.size (k0_off1_inb i)) numel1_S1
  let c0_i32 : BitVec 32 := 0#32
  let c0_i32_0 : BitVec 32 := 0#32
  let c0_i32_1 : BitVec 32 := 0#32
  ![c0_i32.toNat, v1.toNat, arg1.toNat, c0_i32_0.toNat]

def cc0_transform_4 (k0_off1_inb : ∀ i : grid0.Coords, ∀ a, (k0_off1 i) a + S1.size a ≤ S75.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S75) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1792x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MoeRefIdeal.lean ====
abbrev S75 : Shape := ⟨1, ![75]⟩
abbrev S34816x1024 : Shape := ⟨2, ![34816, 1024]⟩
abbrev S2x8x1024x3584 : Shape := ⟨4, ![2, 8, 1024, 3584]⟩
abbrev S2x8x3584x1024 : Shape := ⟨4, ![2, 8, 3584, 1024]⟩
abbrev S34816 : Shape := ⟨1, ![34816]⟩
abbrev S34816x1 : Shape := ⟨2, ![34816, 1]⟩
abbrev S_ : Shape := ⟨0, ![]⟩
abbrev S1x75 : Shape := ⟨2, ![1, 75]⟩
abbrev S34816x75 : Shape := ⟨2, ![34816, 75]⟩
abbrev S75x1 : Shape := ⟨2, ![75, 1]⟩
abbrev S8 : Shape := ⟨1, ![8]⟩
abbrev S1x8 : Shape := ⟨2, ![1, 8]⟩
abbrev S75x8 : Shape := ⟨2, ![75, 8]⟩
abbrev S34816x8 : Shape := ⟨2, ![34816, 8]⟩
abbrev S1x8x1024x3584 : Shape := ⟨4, ![1, 8, 1024, 3584]⟩
abbrev S8x1024x3584 : Shape := ⟨3, ![8, 1024, 3584]⟩
abbrev S8x3584x34816 : Shape := ⟨3, ![8, 3584, 34816]⟩
abbrev S8x34816x3584 : Shape := ⟨3, ![8, 34816, 3584]⟩
abbrev S1x8x3584x1024 : Shape := ⟨4, ![1, 8, 3584, 1024]⟩
abbrev S8x3584x1024 : Shape := ⟨3, ![8, 3584, 1024]⟩
abbrev S8x34816x1024 : Shape := ⟨3, ![8, 34816, 1024]⟩

abbrev nBuf : Space → Nat
  | .hbm => 73
  | .vmem => 0
  | .smem => 0
  | _ => 0

abbrev bufTy : (tb : Table) → Fin (tcTables nBuf tb) → BufTy
  | .hbm, ⟨0, _⟩ => ⟨S75, .i32⟩
  | .hbm, ⟨1, _⟩ => ⟨S75, .i32⟩
  | .hbm, ⟨2, _⟩ => ⟨S75, .i32⟩
  | .hbm, ⟨3, _⟩ => ⟨S75, .i32⟩
  | .hbm, ⟨4, _⟩ => ⟨S75, .i32⟩
  | .hbm, ⟨5, _⟩ => ⟨S34816x1024, .f32⟩
  | .hbm, ⟨6, _⟩ => ⟨S2x8x1024x3584, .bf16⟩
  | .hbm, ⟨7, _⟩ => ⟨S2x8x1024x3584, .bf16⟩
  | .hbm, ⟨8, _⟩ => ⟨S2x8x3584x1024, .bf16⟩
  | .hbm, ⟨9, _⟩ => ⟨S34816, .i32⟩
  | .hbm, ⟨10, _⟩ => ⟨S34816x1, .i32⟩
  | .hbm, ⟨11, _⟩ => ⟨S_, .i32⟩
  | .hbm, ⟨12, _⟩ => ⟨S75, .i32⟩
  | .hbm, ⟨13, _⟩ => ⟨S75, .i32⟩
  | .hbm, ⟨14, _⟩ => ⟨S1x75, .i32⟩
  | .hbm, ⟨15, _⟩ => ⟨S34816x75, .i32⟩
  | .hbm, ⟨16, _⟩ => ⟨S34816x75, .i32⟩
  | .hbm, ⟨17, _⟩ => ⟨S34816x75, .i1⟩
  | .hbm, ⟨18, _⟩ => ⟨S_, .i32⟩
  | .hbm, ⟨19, _⟩ => ⟨S75, .i32⟩
  | .hbm, ⟨20, _⟩ => ⟨S75, .i32⟩
  | .hbm, ⟨21, _⟩ => ⟨S_, .i32⟩
  | .hbm, ⟨22, _⟩ => ⟨S75, .i32⟩
  | .hbm, ⟨23, _⟩ => ⟨S75, .i32⟩
  | .hbm, ⟨24, _⟩ => ⟨S1x75, .i32⟩
  | .hbm, ⟨25, _⟩ => ⟨S34816x75, .i32⟩
  | .hbm, ⟨26, _⟩ => ⟨S34816x75, .i32⟩
  | .hbm, ⟨27, _⟩ => ⟨S34816x75, .i1⟩
  | .hbm, ⟨28, _⟩ => ⟨S34816x75, .i1⟩
  | .hbm, ⟨29, _⟩ => ⟨S1x75, .i32⟩
  | .hbm, ⟨30, _⟩ => ⟨S34816x75, .i32⟩
  | .hbm, ⟨31, _⟩ => ⟨S34816x75, .i32⟩
  | .hbm, ⟨32, _⟩ => ⟨S34816x75, .i1⟩
  | .hbm, ⟨33, _⟩ => ⟨S34816x75, .i1⟩
  | .hbm, ⟨34, _⟩ => ⟨S1x75, .i32⟩
  | .hbm, ⟨35, _⟩ => ⟨S34816x75, .i32⟩
  | .hbm, ⟨36, _⟩ => ⟨S34816x75, .i32⟩
  | .hbm, ⟨37, _⟩ => ⟨S34816x75, .i1⟩
  | .hbm, ⟨38, _⟩ => ⟨S34816x75, .i1⟩
  | .hbm, ⟨39, _⟩ => ⟨S75x1, .i32⟩
  | .hbm, ⟨40, _⟩ => ⟨S8, .i32⟩
  | .hbm, ⟨41, _⟩ => ⟨S1x8, .i32⟩
  | .hbm, ⟨42, _⟩ => ⟨S75x8, .i32⟩
  | .hbm, ⟨43, _⟩ => ⟨S75x8, .i32⟩
  | .hbm, ⟨44, _⟩ => ⟨S75x8, .i1⟩
  | .hbm, ⟨45, _⟩ => ⟨S34816x75, .f32⟩
  | .hbm, ⟨46, _⟩ => ⟨S75x8, .f32⟩
  | .hbm, ⟨47, _⟩ => ⟨S34816x8, .f32⟩
  | .hbm, ⟨48, _⟩ => ⟨S1x8x1024x3584, .bf16⟩
  | .hbm, ⟨49, _⟩ => ⟨S8x1024x3584, .bf16⟩
  | .hbm, ⟨50, _⟩ => ⟨S8x1024x3584, .f32⟩
  | .hbm, ⟨51, _⟩ => ⟨S8x3584x34816, .f32⟩
  | .hbm, ⟨52, _⟩ => ⟨S8x34816x3584, .f32⟩
  | .hbm, ⟨53, _⟩ => ⟨S1x8x1024x3584, .bf16⟩
  | .hbm, ⟨54, _⟩ => ⟨S8x1024x3584, .bf16⟩
  | .hbm, ⟨55, _⟩ => ⟨S8x1024x3584, .f32⟩
  | .hbm, ⟨56, _⟩ => ⟨S8x3584x34816, .f32⟩
  | .hbm, ⟨57, _⟩ => ⟨S8x34816x3584, .f32⟩
  | .hbm, ⟨58, _⟩ => ⟨S8x34816x3584, .f32⟩
  | .hbm, ⟨59, _⟩ => ⟨S8x34816x3584, .f32⟩
  | .hbm, ⟨60, _⟩ => ⟨S_, .f32⟩
  | .hbm, ⟨61, _⟩ => ⟨S8x34816x3584, .f32⟩
  | .hbm, ⟨62, _⟩ => ⟨S8x34816x3584, .f32⟩
  | .hbm, ⟨63, _⟩ => ⟨S_, .f32⟩
  | .hbm, ⟨64, _⟩ => ⟨S8x34816x3584, .f32⟩
  | .hbm, ⟨65, _⟩ => ⟨S8x34816x3584, .f32⟩
  | .hbm, ⟨66, _⟩ => ⟨S8x34816x3584, .f32⟩
  | .hbm, ⟨67, _⟩ => ⟨S8x34816x3584, .f32⟩
  | .hbm, ⟨68, _⟩ => ⟨S1x8x3584x1024, .bf16⟩
  | .hbm, ⟨69, _⟩ => ⟨S8x3584x1024, .bf16⟩
  | .hbm, ⟨70, _⟩ => ⟨S8x3584x1024, .f32⟩
  | .hbm, ⟨71, _⟩ => ⟨S8x34816x1024, .f32⟩
  | .hbm, ⟨72, _⟩ => ⟨S34816x1024, .f32⟩
  | _, _ => ⟨S75, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_call0_v0 : Ref sig .tc := ⟨.hbm, 58, rfl⟩
abbrev main_call0_v1 : Ref sig .tc := ⟨.hbm, 59, rfl⟩
abbrev main_call0_cst : Ref sig .tc := ⟨.hbm, 60, rfl⟩
abbrev main_call0_v2 : Ref sig .tc := ⟨.hbm, 61, rfl⟩
abbrev main_call0_v3 : Ref sig .tc := ⟨.hbm, 62, rfl⟩
abbrev main_call0_cst_0 : Ref sig .tc := ⟨.hbm, 63, rfl⟩
abbrev main_call0_v4 : Ref sig .tc := ⟨.hbm, 64, rfl⟩
abbrev main_call0_v5 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Out.lean ====
abbrev S4x4352x256 : Shape := ⟨3, ![4, 4352, 256]⟩
abbrev S4x4352x1024 : Shape := ⟨3, ![4, 4352, 1024]⟩
abbrev S4x2x8x1024 : Shape := ⟨4, ![4, 2, 8, 1024]⟩
abbrev S1x1024 : Shape := ⟨2, ![1, 1024]⟩
abbrev S4x1024x1024 : Shape := ⟨3, ![4, 1024, 1024]⟩
abbrev S1024x128 : Shape := ⟨2, ![1024, 128]⟩
abbrev S17408x256 : Shape := ⟨2, ![17408, 256]⟩
abbrev S17408x1024 : Shape := ⟨2, ![17408, 1024]⟩
abbrev S17408x128 : Shape := ⟨2, ![17408, 128]⟩
abbrev S512x256 : Shape := ⟨2, ![512, 256]⟩
abbrev S512x1024 : Shape := ⟨2, ![512, 1024]⟩
abbrev S1x1x8x1024 : Shape := ⟨4, ![1, 1, 8, 1024]⟩
abbrev S1x1024x1024 : Shape := ⟨3, ![1, 1024, 1024]⟩
abbrev S512x128 : Shape := ⟨2, ![512, 128]⟩
abbrev S1x256x1024 : Shape := ⟨3, ![1, 256, 1024]⟩
abbrev S256x1024 : Shape := ⟨2, ![256, 1024]⟩
abbrev S1x1x1x1024 : Shape := ⟨4, ![1, 1, 1, 1024]⟩
abbrev S256 : Shape := ⟨1, ![256]⟩
abbrev S256x1 : Shape := ⟨2, ![256, 1]⟩
abbrev S256x128 : Shape := ⟨2, ![256, 128]⟩

abbrev nBuf : Space → Nat
  | .hbm => 17
  | .vmem => 23
  | .smem => 0
  | _ => 0

abbrev bufTy : (tb : Table) → Fin (tcTables nBuf tb) → BufTy
  | .hbm, ⟨0, _⟩ => ⟨S4x4352x256, .bf16⟩
  | .hbm, ⟨1, _⟩ => ⟨S4x4352x256, .bf16⟩
  | .hbm, ⟨2, _⟩ => ⟨S4x4352x256, .bf16⟩
  | .hbm, ⟨3, _⟩ => ⟨S4x4352x256, .bf16⟩
  | .hbm, ⟨4, _⟩ => ⟨S4x4352x1024, .f32⟩
  | .hbm, ⟨5, _⟩ => ⟨S4x2x8x1024, .f32⟩
  | .hbm, ⟨6, _⟩ => ⟨S1x1024, .f32⟩
  | .hbm, ⟨7, _⟩ => ⟨S4x1024x1024, .bf16⟩
  | .hbm, ⟨8, _⟩ => ⟨S1024x128, .f32⟩
  | .hbm, ⟨9, _⟩ => ⟨S17408x256, .bf16⟩
  | .hbm, ⟨10, _⟩ => ⟨S17408x256, .bf16⟩
  | .hbm, ⟨11, _⟩ => ⟨S17408x256, .bf16⟩
  | .hbm, ⟨12, _⟩ => ⟨S17408x256, .bf16⟩
  | .hbm, ⟨13, _⟩ => ⟨S17408x1024, .f32⟩
  | .hbm, ⟨14, _⟩ => ⟨S17408x1024, .f32⟩
  | .hbm, ⟨15, _⟩ => ⟨S17408x1024, .f32⟩
  | .hbm, ⟨16, _⟩ => ⟨S17408x128, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x1024, .f32⟩
  | .local _ .vmem, ⟨9, _⟩ => ⟨S512x1024, .f32⟩
  | .local _ .vmem, ⟨10, _⟩ => ⟨S1x1x8x1024, .f32⟩
  | .local _ .vmem, ⟨11, _⟩ => ⟨S1x1x8x1024, .f32⟩
  | .local _ .vmem, ⟨12, _⟩ => ⟨S1x1x8x1024, .f32⟩
  | .local _ .vmem, ⟨13, _⟩ => ⟨S1x1x8x1024, .f32⟩
  | .local _ .vmem, ⟨14, _⟩ => ⟨S1x1024, .f32⟩
  | .local _ .vmem, ⟨15, _⟩ => ⟨S1x1024x1024, .bf16⟩
  | .local _ .vmem, ⟨16, _⟩ => ⟨S1024x128, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x128, .f32⟩
  | .local _ .vmem, ⟨22, _⟩ => ⟨S512x128, .f32⟩
  | _, _ => ⟨S4x4352x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let c17_i32 : BitVec 32 := 17#32
  let v2 : BitVec 32 := Scalar.divsi v1 c17_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c17_i32 c0_i32_2
  let v9 : BitVec 32 := Scalar.extui v8
  let c0_i32_3 : BitVec 32 := 0#32
  let v10 : BitVec 1 := Scalar.cmpi .slt c17_i32 c0_i32_3
  let v11 : BitVec 32 := Scalar.extui v10
  let v12 : BitVec 32 := Scalar.subi v9 v11
  let v13 : BitVec 1 := Scalar.cmpi .ne v7 v12
  let v14 : BitVec 32 := Scalar.remsi v1 c17_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c2_i32_5 : BitVec 32 := 2#32
  let v19 : BitVec 32 := Scalar.muli c2_i32_5 arg0
  let c0_i32_6 : BitVec 32 := 0#32
  let v20 : BitVec 32 := Scalar.addi v19 c0_i32_6
  let c17_i32_7 : BitVec 32 := 17#32
  let c0_i32_8 : BitVec 32 := 0#32
  let v21 : BitVec 1 := Scalar.cmpi .eq c17_i32_7 c0_i32_8
  let c1_i32_9 : BitVec 32 := 1#32
  let v22 : BitVec 32 := Scalar.select v21 c1_i32_9 c17_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c1_i32_13 : BitVec 32 := 1#32
  let v31 : BitVec 32 := Scalar.minsi v30 c1_i32_13
  let c0_i32_14 : BitVec 32 := 0#32
  let c0_i32_15 : BitVec 32 := 0#32
  let c0_i32_16 : BitVec 32 := 0#32
  ![v18.toNat, v31.toNat, c0_i32_14.toNat, c0_i32_15.toNat]

def cc0_transform_6 (i : grid0.Coords) : Fin 4 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c2_i32_5 : BitVec 32 := 2#32
  let v19 : BitVec 32 := Scalar.muli c2_i32_5 arg0
  let c1_i32_6 : BitVec 32 := 1#32
  let v20 : BitVec 32 := Scalar.addi v19 c1_i32_6
  let c17_i32_7 : BitVec 32 := 17#32
  let c0_i32_8 : BitVec 32 := 0#32
  let v21 : BitVec 1 := Scalar.cmpi .eq c17_i32_7 c0_i32_8
  let c1_i32_9 : BitVec 32 := 1#32
  let v22 : BitVec 32 := Scalar.select v21 c1_i32_9 c17_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c1_i32_13 : BitVec 32 := 1#32
  let v31 : BitVec 32 := Scalar.minsi v30 c1_i32_13
  let c0_i32_14 : BitVec 32 := 0#32
  let c0_i32_15 : BitVec 32 := 0#32
  let c0_i32_16 : BitVec 32 := 0#32
  ![v18.toNat, v31.toNat, c0_i32_14.toNat, c0_i32_15.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== OutRefIdeal.lean ====
abbrev S4x4352x256 : Shape := ⟨3, ![4, 4352, 256]⟩
abbrev S4x4352x1024 : Shape := ⟨3, ![4, 4352, 1024]⟩
abbrev S4x2x8x1024 : Shape := ⟨4, ![4, 2, 8, 1024]⟩
abbrev S1x1024 : Shape := ⟨2, ![1, 1024]⟩
abbrev S4x1024x1024 : Shape := ⟨3, ![4, 1024, 1024]⟩
abbrev S1024x128 : Shape := ⟨2, ![1024, 128]⟩
abbrev S1x1024x1024 : Shape := ⟨3, ![1, 1024, 1024]⟩
abbrev S1024x1024 : Shape := ⟨2, ![1024, 1024]⟩
abbrev S4x1x1x1024 : Shape := ⟨4, ![4, 1, 1, 1024]⟩
abbrev S4x1024 : Shape := ⟨2, ![4, 1024]⟩
abbrev S4x1x1024 : Shape := ⟨3, ![4, 1, 1024]⟩
abbrev S4x256x1024 : Shape := ⟨3, ![4, 256, 1024]⟩
abbrev S4x4096x1024 : Shape := ⟨3, ![4, 4096, 1024]⟩
abbrev S1024 : Shape := ⟨1, ![1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S4x4096 : Shape := ⟨2, ![4, 4096]⟩
abbrev S4x4096x1 : Shape := ⟨3, ![4, 4096, 1]⟩
abbrev S17408x1024 : Shape := ⟨2, ![17408, 1024]⟩
abbrev S17408x128 : Shape := ⟨2, ![17408, 128]⟩

abbrev nBuf : Space → Nat
  | .hbm => 99
  | .vmem => 0
  | .smem => 0
  | _ => 0

abbrev bufTy : (tb : Table) → Fin (tcTables nBuf tb) → BufTy
  | .hbm, ⟨0, _⟩ => ⟨S4x4352x256, .bf16⟩
  | .hbm, ⟨1, _⟩ => ⟨S4x4352x256, .bf16⟩
  | .hbm, ⟨2, _⟩ => ⟨S4x4352x256, .bf16⟩
  | .hbm, ⟨3, _⟩ => ⟨S4x4352x256, .bf16⟩
  | .hbm, ⟨4, _⟩ => ⟨S4x4352x1024, .f32⟩
  | .hbm, ⟨5, _⟩ => ⟨S4x2x8x1024, .f32⟩
  | .hbm, ⟨6, _⟩ => ⟨S1x1024, .f32⟩
  | .hbm, ⟨7, _⟩ => ⟨S4x1024x1024, .bf16⟩
  | .hbm, ⟨8, _⟩ => ⟨S1024x128, .f32⟩
  | .hbm, ⟨9, _⟩ => ⟨S4x4352x256, .f32⟩
  | .hbm, ⟨10, _⟩ => ⟨S4x4352x256, .f32⟩
  | .hbm, ⟨11, _⟩ => ⟨S4x4352x256, .f32⟩
  | .hbm, ⟨12, _⟩ => ⟨S4x4352x256, .f32⟩
  | .hbm, ⟨13, _⟩ => ⟨S4x4352x1024, .f32⟩
  | .hbm, ⟨14, _⟩ => ⟨S1x1024x1024, .bf16⟩
  | .hbm, ⟨15, _⟩ => ⟨S1024x1024, .bf16⟩
  | .hbm, ⟨16, _⟩ => ⟨S1024x1024, .f32⟩
  | .hbm, ⟨17, _⟩ => ⟨S4x4352x1024, .f32⟩
  | .hbm, ⟨18, _⟩ => ⟨S4x1x1x1024, .f32⟩
  | .hbm, ⟨19, _⟩ => ⟨S4x1024, .f32⟩
  | .hbm, ⟨20, _⟩ => ⟨S4x1x1024, .f32⟩
  | .hbm, ⟨21, _⟩ => ⟨S4x1x1x1024, .f32⟩
  | .hbm, ⟨22, _⟩ => ⟨S4x1024, .f32⟩
  | .hbm, ⟨23, _⟩ => ⟨S4x1x1024, .f32⟩
  | .hbm, ⟨24, _⟩ => ⟨S4x1x1x1024, .f32⟩
  | .hbm, ⟨25, _⟩ => ⟨S4x1024, .f32⟩
  | .hbm, ⟨26, _⟩ => ⟨S4x1x1024, .f32⟩
  | .hbm, ⟨27, _⟩ => ⟨S4x1x1x1024, .f32⟩
  | .hbm, ⟨28, _⟩ => ⟨S4x1024, .f32⟩
  | .hbm, ⟨29, _⟩ => ⟨S4x1x1024, .f32⟩
  | .hbm, ⟨30, _⟩ => ⟨S4x1x1x1024, .f32⟩
  | .hbm, ⟨31, _⟩ => ⟨S4x1024, .f32⟩
  | .hbm, ⟨32, _⟩ => ⟨S4x1x1024, .f32⟩
  | .hbm, ⟨33, _⟩ => ⟨S4x1x1x1024, .f32⟩
  | .hbm, ⟨34, _⟩ => ⟨S4x1024, .f32⟩
  | .hbm, ⟨35, _⟩ => ⟨S4x1x1024, .f32⟩
  | .hbm, ⟨36, _⟩ => ⟨S4x256x1024, .f32⟩
  | .hbm, ⟨37, _⟩ => ⟨S4x256x1024, .f32⟩
  | .hbm, ⟨38, _⟩ => ⟨S4x256x1024, .f32⟩
  | .hbm, ⟨39, _⟩ => ⟨S4x256x1024, .f32⟩
  | .hbm, ⟨40, _⟩ => ⟨S4x256x1024, .f32⟩
  | .hbm, ⟨41, _⟩ => ⟨S4x4096x1024, .f32⟩
  | .hbm, ⟨42, _⟩ => ⟨S4x4096x1024, .f32⟩
  | .hbm, ⟨43, _⟩ => ⟨S4x4096x1024, .f32⟩
  | .hbm, ⟨44, _⟩ => ⟨S4x4096x1024, .f32⟩
  | .hbm, ⟨45, _⟩ => ⟨S4x4096x1024, .f32⟩
  | .hbm, ⟨46, _⟩ => ⟨S1024, .f32⟩
  | .hbm, ⟨47, _⟩ => ⟨S4x256x1024, .f32⟩
  | .hbm, ⟨48, _⟩ => ⟨S_, .f32⟩
  | .hbm, ⟨49, _⟩ => ⟨S4x256, .f32⟩
  | .hbm, ⟨50, _⟩ => ⟨S4x256x1, .f32⟩
  | .hbm, ⟨51, _⟩ => ⟨S_, .f32⟩
  | .hbm, ⟨52, _⟩ => ⟨S4x256x1, .f32⟩
  | .hbm, ⟨53, _⟩ => ⟨S4x256x1, .f32⟩
  | .hbm, ⟨54, _⟩ => ⟨S_, .f32⟩
  | .hbm, ⟨55, _⟩ => ⟨S4x256x1, .f32⟩
  | .hbm, ⟨56, _⟩ => ⟨S4x256x1, .f32⟩
  | .hbm, ⟨57, _⟩ => ⟨S4x256x1, .f32⟩
  | .hbm, ⟨58, _⟩ => ⟨S4x256x1024, .f32⟩
  | .hbm, ⟨59, _⟩ => ⟨S4x256x1024, .f32⟩
  | .hbm, ⟨60, _⟩ => ⟨S1x1x1024, .f32⟩
  | .hbm, ⟨61, _⟩ => ⟨S4x256x1024, .f32⟩
  | .hbm, ⟨62, _⟩ => ⟨S4x256x1024, .f32⟩
  | .hbm, ⟨63, _⟩ => ⟨S_, .f32⟩
  | .hbm, ⟨64, _⟩ => ⟨S4x1x1024, .f32⟩
  | .hbm, ⟨65, _⟩ => ⟨S4x1x1024, .f32⟩
  | .hbm, ⟨66, _⟩ => ⟨S4x256x1024, .f32⟩
  | .hbm, ⟨67, _⟩ => ⟨S4x256x1024, .f32⟩
  | .hbm, ⟨68, _⟩ => ⟨S4x256x1024, .f32⟩
  | .hbm, ⟨69, _⟩ => ⟨S4x256x1024, .f32⟩
  | .hbm, ⟨70, _⟩ => ⟨S1024, .f32⟩
  | .hbm, ⟨71, _⟩ => ⟨S4x4096x1024, .f32⟩
  | .hbm, ⟨72, _⟩ => ⟨S_, .f32⟩
  | .hbm, ⟨73, _⟩ => ⟨S4x4096, .f32⟩
  | .hbm, ⟨74, _⟩ => ⟨S4x4096x1, .f32⟩
  | .hbm, ⟨75, _⟩ => ⟨S_, .f32⟩
  | .hbm, ⟨76, _⟩ => ⟨S4x4096x1, .f32⟩
  | .hbm, ⟨77, _⟩ => ⟨S4x4096x1, .f32⟩
  | .hbm, ⟨78, _⟩ => ⟨S_, .f32⟩
  | .hbm, ⟨79, _⟩ => ⟨S4x4096x1, .f32⟩
  | .hbm, ⟨80, _⟩ => ⟨S4x4096x1, .f32⟩
  | .hbm, ⟨81, _⟩ => ⟨S4x4096x1, .f32⟩
  | .hbm, ⟨82, _⟩ => ⟨S4x4096x1024, .f32⟩
  | .hbm, ⟨83, _⟩ => ⟨S4x4096x1024, .f32⟩
  | .hbm, ⟨84, _⟩ => ⟨S1x1x1024, .f32⟩
  | .hbm, ⟨85, _⟩ => ⟨S4x4096x1024, .f32⟩
  | .hbm, ⟨86, _⟩ => ⟨S4x4096x1024, .f32⟩
  | .hbm, ⟨87, _⟩ => ⟨S_, .f32⟩
  | .hbm, ⟨88, _⟩ => ⟨S4x1x1024, .f32⟩
  | .hbm, ⟨89, _⟩ => ⟨S4x1x1024, .f32⟩
  | .hbm, ⟨90, _⟩ => ⟨S4x4096x1024, .f32⟩
  | .hbm, ⟨91, _⟩ => ⟨S4x4096x1024, .f32⟩
  | .hbm, ⟨92, _⟩ => ⟨S4x4096x1024, .f32⟩
  | .hbm, ⟨93, _⟩ => ⟨S4x4096x1024, .f32⟩
  | .hbm, ⟨94, _⟩ => ⟨S4x4352x1024, .f32⟩
  | .hbm, ⟨95, _⟩ => ⟨S17408x1024, .f32⟩
  | .hbm, ⟨96, _⟩ => ⟨S4x4352x1024, .f32⟩
  | .hbm, ⟨97, _⟩ => ⟨S17408x1024, .f32⟩
  | .hbm, ⟨98, _⟩ => ⟨S17408x128, .f32⟩
  | _, _ => ⟨S4x4352x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst : Ref sig .tc := ⟨.hbm, 48, rfl⟩
abbrev main_v39 : Ref sig .tc := ⟨.hbm, 49, rfl⟩
abbrev main_v40 : Ref sig .tc := ⟨.hbm, 50, rfl⟩
abbrev main_cst_0 : Ref sig .tc := ⟨.hbm, 51, rfl⟩
abbrev main_v41 : Ref sig .tc := ⟨.hbm, 52, rfl⟩
abbrev main_v42 : Ref sig .tc := ⟨.hbm, 53, rfl⟩
abbrev main_cst_1 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_2 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_3 : Ref sig .tc := ⟨.hbm, 72, rfl⟩
abbrev main_v59 : Ref sig .tc := ⟨.hbm, 73, rfl⟩
abbrev main_v60 : Ref sig .tc := ⟨.hbm, 74, rfl⟩
abbrev main_cst_4 : Ref sig .tc := ⟨.hbm, 75, rfl⟩
abbrev main_v61 : Ref sig .tc := ⟨.hbm, 76, rfl⟩
abbrev main_v62 : Ref sig .tc := ⟨.hbm, 77, rfl⟩
abbrev main_cst_5 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_cst_6 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩

abbrev nD : Nat := 1
abbrev τ : Topo := Topo.v7x

variable {F : FTy → Type} [FloatOps F]
-- ==== In.lean ====
abbrev S4x4352x1024 : Shape := ⟨3, ![4, 4352, 1024]⟩
abbrev S4x2x8x1024 : Shape := ⟨4, ![4, 2, 8, 1024]⟩
abbrev S1x1024 : Shape := ⟨2, ![1, 1024]⟩
abbrev S4x1024x4736 : Shape := ⟨3, ![4, 1024, 4736]⟩
abbrev S4352x1280 : Shape := ⟨2, ![4352, 1280]⟩
abbrev S1x256 : Shape := ⟨2, ![1, 256]⟩
abbrev S1x128 : Shape := ⟨2, ![1, 128]⟩
abbrev S256x512 : Shape := ⟨2, ![256, 512]⟩
abbrev S128x512 : Shape := ⟨2, ![128, 512]⟩
abbrev S128x256 : Shape := ⟨2, ![128, 256]⟩
abbrev S17408x1024 : Shape := ⟨2, ![17408, 1024]⟩
abbrev S17408x768 : Shape := ⟨2, ![17408, 768]⟩
abbrev S17408x1152 : Shape := ⟨2, ![17408, 1152]⟩
abbrev S17408x512 : Shape := ⟨2, ![17408, 512]⟩
abbrev S17408x256 : Shape := ⟨2, ![17408, 256]⟩
abbrev S512x1024 : Shape := ⟨2, ![512, 1024]⟩
abbrev S1x1x8x1024 : Shape := ⟨4, ![1, 1, 8, 1024]⟩
abbrev S1x1024x4736 : Shape := ⟨3, ![1, 1024, 4736]⟩
abbrev S256x1280 : Shape := ⟨2, ![256, 1280]⟩
abbrev S512x768 : Shape := ⟨2, ![512, 768]⟩
abbrev S512x1152 : Shape := ⟨2, ![512, 1152]⟩
abbrev S512x512 : Shape := ⟨2, ![512, 512]⟩
abbrev S512x256 : Shape := ⟨2, ![512, 256]⟩
abbrev S512 : Shape := ⟨1, ![512]⟩
abbrev S512x1 : Shape := ⟨2, ![512, 1]⟩
abbrev S256x1024 : Shape := ⟨2, ![256, 1024]⟩
abbrev S1x1x1x1024 : Shape := ⟨4, ![1, 1, 1, 1024]⟩
abbrev S1x1024x768 : Shape := ⟨3, ![1, 1024, 768]⟩
abbrev S1024x768 : Shape := ⟨2, ![1024, 768]⟩
abbrev S1x1024x640 : Shape := ⟨3, ![1, 1024, 640]⟩
abbrev S1024x640 : Shape := ⟨2, ![1024, 640]⟩
abbrev S512x640 : Shape := ⟨2, ![512, 640]⟩
abbrev S1x1024x1152 : Shape := ⟨3, ![1, 1024, 1152]⟩
abbrev S1024x1152 : Shape := ⟨2, ![1024, 1152]⟩
abbrev S1x1024x512 : Shape := ⟨3, ![1, 1024, 512]⟩
abbrev S1024x512 : Shape := ⟨2, ![1024, 512]⟩
abbrev S1x1024x128 : Shape := ⟨3, ![1, 1024, 128]⟩
abbrev S1024x128 : Shape := ⟨2, ![1024, 128]⟩
abbrev S512x128 : Shape := ⟨2, ![512, 128]⟩
abbrev S1x1024x1024 : Shape := ⟨3, ![1, 1024, 1024]⟩
abbrev S1024x1024 : Shape := ⟨2, ![1024, 1024]⟩
abbrev S256x640 : Shape := ⟨2, ![256, 640]⟩
abbrev S256x128 : Shape := ⟨2, ![256, 128]⟩

abbrev nBuf : Space → Nat
  | .hbm => 19
  | .vmem => 34
  | .smem => 0
  | _ => 0

abbrev bufTy : (tb : Table) → Fin (tcTables nBuf tb) → BufTy
  | .hbm, ⟨0, _⟩ => ⟨S4x4352x1024, .f32⟩
  | .hbm, ⟨1, _⟩ => ⟨S4x2x8x1024, .f32⟩
  | .hbm, ⟨2, _⟩ => ⟨S1x1024, .f32⟩
  | .hbm, ⟨3, _⟩ => ⟨S4x1024x4736, .bf16⟩
  | .hbm, ⟨4, _⟩ => ⟨S4352x1280, .f32⟩
  | .hbm, ⟨5, _⟩ => ⟨S4352x1280, .f32⟩
  | .hbm, ⟨6, _⟩ => ⟨S1x256, .f32⟩
  | .hbm, ⟨7, _⟩ => ⟨S1x128, .f32⟩
  | .hbm, ⟨8, _⟩ => ⟨S256x512, .bf16⟩
  | .hbm, ⟨9, _⟩ => ⟨S256x512, .bf16⟩
  | .hbm, ⟨10, _⟩ => ⟨S128x512, .bf16⟩
  | .hbm, ⟨11, _⟩ => ⟨S128x256, .bf16⟩
  | .hbm, ⟨12, _⟩ => ⟨S17408x1024, .f32⟩
  | .hbm, ⟨13, _⟩ => ⟨S17408x768, .bf16⟩
  | .hbm, ⟨14, _⟩ => ⟨S17408x1152, .f32⟩
  | .hbm, ⟨15, _⟩ => ⟨S17408x512, .bf16⟩
  | .hbm, ⟨16, _⟩ => ⟨S17408x512, .bf16⟩
  | .hbm, ⟨17, _⟩ => ⟨S17408x256, .bf16⟩
  | .hbm, ⟨18, _⟩ => ⟨S17408x1024, .f32⟩
  | .local _ .vmem, ⟨0, _⟩ => ⟨S512x1024, .f32⟩
  | .local _ .vmem, ⟨1, _⟩ => ⟨S512x1024, .f32⟩
  | .local _ .vmem, ⟨2, _⟩ => ⟨S1x1x8x1024, .f32⟩
  | .local _ .vmem, ⟨3, _⟩ => ⟨S1x1x8x1024, .f32⟩
  | .local _ .vmem, ⟨4, _⟩ => ⟨S1x1x8x1024, .f32⟩
  | .local _ .vmem, ⟨5, _⟩ => ⟨S1x1x8x1024, .f32⟩
  | .local _ .vmem, ⟨6, _⟩ => ⟨S1x1024, .f32⟩
  | .local _ .vmem, ⟨7, _⟩ => ⟨S1x1024x4736, .bf16⟩
  | .local _ .vmem, ⟨8, _⟩ => ⟨S256x1280, .f32⟩
  | .local _ .vmem, ⟨9, _⟩ => ⟨S256x1280, .f32⟩
  | .local _ .vmem, ⟨10, _⟩ => ⟨S256x1280, .f32⟩
  | .local _ .vmem, ⟨11, _⟩ => ⟨S256x1280, .f32⟩
  | .local _ .vmem, ⟨12, _⟩ => ⟨S256x1280, .f32⟩
  | .local _ .vmem, ⟨13, _⟩ => ⟨S256x1280, .f32⟩
  | .local _ .vmem, ⟨14, _⟩ => ⟨S256x1280, .f32⟩
  | .local _ .vmem, ⟨15, _⟩ => ⟨S256x1280, .f32⟩
  | .local _ .vmem, ⟨16, _⟩ => ⟨S1x256, .f32⟩
  | .local _ .vmem, ⟨17, _⟩ => ⟨S1x128, .f32⟩
  | .local _ .vmem, ⟨18, _⟩ => ⟨S256x512, .bf16⟩
  | .local _ .vmem, ⟨19, _⟩ => ⟨S256x512, .bf16⟩
  | .local _ .vmem, ⟨20, _⟩ => ⟨S128x512, .bf16⟩
  | .local _ .vmem, ⟨21, _⟩ => ⟨S128x256, .bf16⟩
  | .local _ .vmem, ⟨22, _⟩ => ⟨S512x768, .bf16⟩
  | .local _ .vmem, ⟨23, _⟩ => ⟨S512x768, .bf16⟩
  | .local _ .vmem, ⟨24, _⟩ => ⟨S512x1152, .f32⟩
  | .local _ .vmem, ⟨25, _⟩ => ⟨S512x1152, .f32⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S512x512, .bf16⟩
  | .local _ .vmem, ⟨30, _⟩ => ⟨S512x256, .bf16⟩
  | .local _ .vmem, ⟨31, _⟩ => ⟨S512x256, .bf16⟩
  | .local _ .vmem, ⟨32, _⟩ => ⟨S512x1024, .f32⟩
  | .local _ .vmem, ⟨33, _⟩ => ⟨S512x1024, .f32⟩
  | _, _ => ⟨S4x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1_0 : Ref sig .tc := ⟨.hbm, 13, rfl⟩
abbrev main_v1_1 : Ref sig .tc := ⟨.hbm, 14, rfl⟩
abbrev main_v1_2 : Ref sig .tc := ⟨.hbm, 15, rfl⟩
abbrev main_v1_3 : Ref sig .tc := ⟨.hbm, 16, rfl⟩
abbrev main_v1_4 : Ref sig .tc := ⟨.hbm, 17, rfl⟩
abbrev main_v1_5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let c17_i32 : BitVec 32 := 17#32
  let v2 : BitVec 32 := Scalar.divsi v1 c17_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c17_i32 c0_i32_2
  let v9 : BitVec 32 := Scalar.extui v8
  let c0_i32_3 : BitVec 32 := 0#32
  let v10 : BitVec 1 := Scalar.cmpi .slt c17_i32 c0_i32_3
  let v11 : BitVec 32 := Scalar.extui v10
  let v12 : BitVec 32 := Scalar.subi v9 v11
  let v13 : BitVec 1 := Scalar.cmpi .ne v7 v12
  let v14 : BitVec 32 := Scalar.remsi v1 c17_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c2_i32_5 : BitVec 32 := 2#32
  let v19 : BitVec 32 := Scalar.muli c2_i32_5 arg0
  let c0_i32_6 : BitVec 32 := 0#32
  let v20 : BitVec 32 := Scalar.addi v19 c0_i32_6
  let c17_i32_7 : BitVec 32 := 17#32
  let c0_i32_8 : BitVec 32 := 0#32
  let v21 : BitVec 1 := Scalar.cmpi .eq c17_i32_7 c0_i32_8
  let c1_i32_9 : BitVec 32 := 1#32
  let v22 : BitVec 32 := Scalar.select v21 c1_i32_9 c17_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c1_i32_13 : BitVec 32 := 1#32
  let v31 : BitVec 32 := Scalar.minsi v30 c1_i32_13
  let c0_i32_14 : BitVec 32 := 0#32
  let c0_i32_15 : BitVec 32 := 0#32
  let c0_i32_16 : BitVec 32 := 0#32
  ![v18.toNat, v31.toNat, c0_i32_14.toNat, c0_i32_15.toNat]

def cc0_transform_2 (i : grid0.Coords) : Fin 4 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c2_i32_5 : BitVec 32 := 2#32
  let v19 : BitVec 32 := Scalar.muli c2_i32_5 arg0
  let c1_i32_6 : BitVec 32 := 1#32
  let v20 : BitVec 32 := Scalar.addi v19 c1_i32_6
  let c17_i32_7 : BitVec 32 := 17#32
  let c0_i32_8 : BitVec 32 := 0#32
  let v21 : BitVec 1 := Scalar.cmpi .eq c17_i32_7 c0_i32_8
  let c1_i32_9 : BitVec 32 := 1#32
  let v22 : BitVec 32 := Scalar.select v21 c1_i32_9 c17_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c1_i32_13 : BitVec 32 := 1#32
  let v31 : BitVec 32 := Scalar.minsi v30 c1_i32_13
  let c0_i32_14 : BitVec 32 := 0#32
  let c0_i32_15 : BitVec 32 := 0#32
  let c0_i32_16 : BitVec 32 := 0#32
  ![v18.toNat, v31.toNat, c0_i32_14.toNat, c0_i32_15.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let c17_i32 : BitVec 32 := 17#32
  let v2 : BitVec 32 := Scalar.divsi v1 c17_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c17_i32 c0_i32_2
  let v9 : BitVec 32 := Scalar.extui v8
  let c0_i32_3 : BitVec 32 := 0#32
  let v10 : BitVec 1 := Scalar.cmpi .slt c17_i32 c0_i32_3
  let v11 : BitVec 32 := Scalar.extui v10
  let v12 : BitVec 32 := Scalar.subi v9 v11
  let v13 : BitVec 1 := Scalar.cmpi .ne v7 v12
  let v14 : BitVec 32 := Scalar.remsi v1 c17_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c2_i32_5 : BitVec 32 := 2#32
  let v19 : BitVec 32 := Scalar.muli c2_i32_5 arg0
  let c0_i32_6 : BitVec 32 := 0#32
  let v20 : BitVec 32 := Scalar.addi v19 c0_i32_6
  let c17_i32_7 : BitVec 32 := 17#32
  let c0_i32_8 : BitVec 32 := 0#32
  let v21 : BitVec 1 := Scalar.cmpi .eq c17_i32_7 c0_i32_8
  let c1_i32_9 : BitVec 32 := 1#32
  let v22 : BitVec 32 := Scalar.select v21 c1_i32_9 c17_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  let c0_i32_14 : BitVec 32 := 0#32
  ![v30.toNat, c0_i32_13.toNat]

def cc0_transform_6 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let c17_i32 : BitVec 32 := 17#32
  let v2 : BitVec 32 := Scalar.divsi v1 c17_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c17_i32 c0_i32_2
  let v9 : BitVec 32 := Scalar.extui v8
  let c0_i32_3 : BitVec 32 := 0#32
  let v10 : BitVec 1 := Scalar.cmpi .slt c17_i32 c0_i32_3
  let v11 : BitVec 32 := Scalar.extui v10
  let v12 : BitVec 32 := Scalar.subi v9 v11
  let v13 : BitVec 1 := Scalar.cmpi .ne v7 v12
  let v14 : BitVec 32 := Scalar.remsi v1 c17_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c2_i32_5 : BitVec 32 := 2#32
  let v19 : BitVec 32 := Scalar.muli c2_i32_5 arg0
  let c0_i32_6 : BitVec 32 := 0#32
  let v20 : BitVec 32 := Scalar.addi v19 c0_i32_6
  let c17_i32_7 : BitVec 32 := 17#32
  let c0_i32_8 : BitVec 32 := 0#32
  let v21 : BitVec 1 := Scalar.cmpi .eq c17_i32_7 c0_i32_8
  let c1_i32_9 : BitVec 32 := 1#32
  let v22 : BitVec 32 := Scalar.select v21 c1_i32_9 c17_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  let c0_i32_14 : BitVec 32 := 0#32
  ![v30.toNat, c0_i32_13.toNat]

def cc0_transform_7 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c2_i32_5 : BitVec 32 := 2#32
  let v19 : BitVec 32 := Scalar.muli c2_i32_5 arg0
  let c1_i32_6 : BitVec 32 := 1#32
  let v20 : BitVec 32 := Scalar.addi v19 c1_i32_6
  let c17_i32_7 : BitVec 32 := 17#32
  let c0_i32_8 : BitVec 32 := 0#32
  let v21 : BitVec 1 := Scalar.cmpi .eq c17_i32_7 c0_i32_8
  let c1_i32_9 : BitVec 32 := 1#32
  let v22 : BitVec 32 := Scalar.select v21 c1_i32_9 c17_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  let c0_i32_14 : BitVec 32 := 0#32
  ![v30.toNat, c0_i32_13.toNat]

def cc0_transform_8 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c2_i32_5 : BitVec 32 := 2#32
  let v19 : BitVec 32 := Scalar.muli c2_i32_5 arg0
  let c1_i32_6 : BitVec 32 := 1#32
  let v20 : BitVec 32 := Scalar.addi v19 c1_i32_6
  let c17_i32_7 : BitVec 32 := 17#32
  let c0_i32_8 : BitVec 32 := 0#32
  let v21 : BitVec 1 := Scalar.cmpi .eq c17_i32_7 c0_i32_8
  let c1_i32_9 : BitVec 32 := 1#32
  let v22 : BitVec 32 := Scalar.select v21 c1_i32_9 c17_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  let c0_i32_14 : BitVec 32 := 0#32
  ![v30.toNat, c0_i32_13.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x4736 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1280 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1280 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x768 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1152 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== InRefIdeal.lean ====
abbrev S4x4352x1024 : Shape := ⟨3, ![4, 4352, 1024]⟩
abbrev S4x2x8x1024 : Shape := ⟨4, ![4, 2, 8, 1024]⟩
abbrev S1x1024 : Shape := ⟨2, ![1, 1024]⟩
abbrev S4x1024x4736 : Shape := ⟨3, ![4, 1024, 4736]⟩
abbrev S4352x1280 : Shape := ⟨2, ![4352, 1280]⟩
abbrev S1x256 : Shape := ⟨2, ![1, 256]⟩
abbrev S1x128 : Shape := ⟨2, ![1, 128]⟩
abbrev S256x512 : Shape := ⟨2, ![256, 512]⟩
abbrev S128x512 : Shape := ⟨2, ![128, 512]⟩
abbrev S128x256 : Shape := ⟨2, ![128, 256]⟩
abbrev S4x1x1x1024 : Shape := ⟨4, ![4, 1, 1, 1024]⟩
abbrev S4x1024 : Shape := ⟨2, ![4, 1024]⟩
abbrev S4x1x1024 : Shape := ⟨3, ![4, 1, 1024]⟩
abbrev S4x256x1024 : Shape := ⟨3, ![4, 256, 1024]⟩
abbrev S1024 : Shape := ⟨1, ![1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S4x4096x1024 : Shape := ⟨3, ![4, 4096, 1024]⟩
abbrev S4x4096 : Shape := ⟨2, ![4, 4096]⟩
abbrev S4x4096x1 : Shape := ⟨3, ![4, 4096, 1]⟩
abbrev S1x1024x4736 : Shape := ⟨3, ![1, 1024, 4736]⟩
abbrev S1024x4736 : Shape := ⟨2, ![1024, 4736]⟩
abbrev S4x4352x4736 : Shape := ⟨3, ![4, 4352, 4736]⟩
abbrev S4x4352x640 : Shape := ⟨3, ![4, 4352, 640]⟩
abbrev S4352x640 : Shape := ⟨2, ![4352, 640]⟩
abbrev S1x4352x640 : Shape := ⟨3, ![1, 4352, 640]⟩
abbrev S4x4352x512 : Shape := ⟨3, ![4, 4352, 512]⟩
abbrev S4352x512 : Shape := ⟨2, ![4352, 512]⟩
abbrev S1x4352x512 : Shape := ⟨3, ![1, 4352, 512]⟩
abbrev S4352x128 : Shape := ⟨2, ![4352, 128]⟩
abbrev S4x4352x128 : Shape := ⟨3, ![4, 4352, 128]⟩
abbrev S1x4352x128 : Shape := ⟨3, ![1, 4352, 128]⟩
abbrev S4x4352x256 : Shape := ⟨3, ![4, 4352, 256]⟩
abbrev S256 : Shape := ⟨1, ![256]⟩
abbrev S4x4352 : Shape := ⟨2, ![4, 4352]⟩
abbrev S4x4352x1 : Shape := ⟨3, ![4, 4352, 1]⟩
abbrev S1x1x256 : Shape := ⟨3, ![1, 1, 256]⟩
abbrev S128 : Shape := ⟨1, ![128]⟩
abbrev S1x1x128 : Shape := ⟨3, ![1, 1, 128]⟩
abbrev S4x4352x4x128 : Shape := ⟨4, ![4, 4352, 4, 128]⟩
abbrev S4352x1x128 : Shape := ⟨3, ![4352, 1, 128]⟩
abbrev S1x4352x1x128 : Shape := ⟨4, ![1, 4352, 1, 128]⟩
abbrev S4x4352x1x128 : Shape := ⟨4, ![4, 4352, 1, 128]⟩
abbrev S4x4352x768 : Shape := ⟨3, ![4, 4352, 768]⟩
abbrev S17408x768 : Shape := ⟨2, ![17408, 768]⟩
abbrev S4x4352x1152 : Shape := ⟨3, ![4, 4352, 1152]⟩
abbrev S17408x1152 : Shape := ⟨2, ![17408, 1152]⟩
abbrev S17408x512 : Shape := ⟨2, ![17408, 512]⟩
abbrev S17408x256 : Shape := ⟨2, ![17408, 256]⟩
abbrev S17408x1024 : Shape := ⟨2, ![17408, 1024]⟩

abbrev nBuf : Space → Nat
  | .hbm => 186
  | .vmem => 0
  | .smem => 0
  | _ => 0

abbrev hbmTy0_0 (i : Nat) : BufTy := match i % 128 with
  | 0 => ⟨S4x4352x1024, .f32⟩
  | 1 => ⟨S4x2x8x1024, .f32⟩
  | 2 => ⟨S1x1024, .f32⟩
  | 3 => ⟨S4x1024x4736, .bf16⟩
  | 4 => ⟨S4352x1280, .f32⟩
  | 5 => ⟨S4352x1280, .f32⟩
  | 6 => ⟨S1x256, .f32⟩
  | 7 => ⟨S1x128, .f32⟩
  | 8 => ⟨S256x512, .bf16⟩
  | 9 => ⟨S256x512, .bf16⟩
  | 10 => ⟨S128x512, .bf16⟩
  | 11 => ⟨S128x256, .bf16⟩
  | 12 => ⟨S4x1x1x1024, .f32⟩
  | 13 => ⟨S4x1024, .f32⟩
  | 14 => ⟨S4x1x1024, .f32⟩
  | 15 => ⟨S4x1x1x1024, .f32⟩
  | 16 => ⟨S4x1024, .f32⟩
  | 17 => ⟨S4x1x1024, .f32⟩
  | 18 => ⟨S4x1x1x1024, .f32⟩
  | 19 => ⟨S4x1024, .f32⟩
  | 20 => ⟨S4x1x1024, .f32⟩
  | 21 => ⟨S4x1x1x1024, .f32⟩
  | 22 => ⟨S4x1024, .f32⟩
  | 23 => ⟨S4x1x1024, .f32⟩
  | 24 => ⟨S4x256x1024, .f32⟩
  | 25 => ⟨S1024, .f32⟩
  | 26 => ⟨S4x256x1024, .f32⟩
  | 27 => ⟨S_, .f32⟩
  | 28 => ⟨S4x256, .f32⟩
  | 29 => ⟨S4x256x1, .f32⟩
  | 30 => ⟨S_, .f32⟩
  | 31 => ⟨S4x256x1, .f32⟩
  | 32 => ⟨S4x256x1, .f32⟩
  | 33 => ⟨S_, .f32⟩
  | 34 => ⟨S4x256x1, .f32⟩
  | 35 => ⟨S4x256x1, .f32⟩
  | 36 => ⟨S4x256x1, .f32⟩
  | 37 => ⟨S4x256x1024, .f32⟩
  | 38 => ⟨S4x256x1024, .f32⟩
  | 39 => ⟨S1x1x1024, .f32⟩
  | 40 => ⟨S4x256x1024, .f32⟩
  | 41 => ⟨S4x256x1024, .f32⟩
  | 42 => ⟨S_, .f32⟩
  | 43 => ⟨S4x1x1024, .f32⟩
  | 44 => ⟨S4x1x1024, .f32⟩
  | 45 => ⟨S4x256x1024, .f32⟩
  | 46 => ⟨S4x256x1024, .f32⟩
  | 47 => ⟨S4x256x1024, .f32⟩
  | 48 => ⟨S4x256x1024, .f32⟩
  | 49 => ⟨S4x4096x1024, .f32⟩
  | 50 => ⟨S1024, .f32⟩
  | 51 => ⟨S4x4096x1024, .f32⟩
  | 52 => ⟨S_, .f32⟩
  | 53 => ⟨S4x4096, .f32⟩
  | 54 => ⟨S4x4096x1, .f32⟩
  | 55 => ⟨S_, .f32⟩
  | 56 => ⟨S4x4096x1, .f32⟩
  | 57 => ⟨S4x4096x1, .f32⟩
  | 58 => ⟨S_, .f32⟩
  | 59 => ⟨S4x4096x1, .f32⟩
  | 60 => ⟨S4x4096x1, .f32⟩
  | 61 => ⟨S4x4096x1, .f32⟩
  | 62 => ⟨S4x4096x1024, .f32⟩
  | 63 => ⟨S4x4096x1024, .f32⟩
  | 64 => ⟨S1x1x1024, .f32⟩
  | 65 => ⟨S4x4096x1024, .f32⟩
  | 66 => ⟨S4x4096x1024, .f32⟩
  | 67 => ⟨S_, .f32⟩
  | 68 => ⟨S4x1x1024, .f32⟩
  | 69 => ⟨S4x1x1024, .f32⟩
  | 70 => ⟨S4x4096x1024, .f32⟩
  | 71 => ⟨S4x4096x1024, .f32⟩
  | 72 => ⟨S4x4096x1024, .f32⟩
  | 73 => ⟨S4x4096x1024, .f32⟩
  | 74 => ⟨S4x4352x1024, .f32⟩
  | 75 => ⟨S1x1024x4736, .bf16⟩
  | 76 => ⟨S1024x4736, .bf16⟩
  | 77 => ⟨S1024x4736, .f32⟩
  | 78 => ⟨S4x4352x4736, .f32⟩
  | 79 => ⟨S4x4352x640, .f32⟩
  | 80 => ⟨S4x4352x640, .f32⟩
  | 81 => ⟨S4352x640, .f32⟩
  | 82 => ⟨S4352x640, .f32⟩
  | 83 => ⟨S1x4352x640, .f32⟩
  | 84 => ⟨S4x4352x640, .f32⟩
  | 85 => ⟨S4x4352x640, .f32⟩
  | 86 => ⟨S1x4352x640, .f32⟩
  | 87 => ⟨S4x4352x640, .f32⟩
  | 88 => ⟨S4x4352x640, .f32⟩
  | 89 => ⟨S4x4352x640, .f32⟩
  | 90 => ⟨S4x4352x512, .f32⟩
  | 91 => ⟨S4x4352x512, .f32⟩
  | 92 => ⟨S4352x512, .f32⟩
  | 93 => ⟨S4352x512, .f32⟩
  | 94 => ⟨S1x4352x512, .f32⟩
  | 95 => ⟨S4x4352x512, .f32⟩
  | 96 => ⟨S4x4352x512, .f32⟩
  | 97 => ⟨S1x4352x512, .f32⟩
  | 98 => ⟨S4x4352x512, .f32⟩
  | 99 => ⟨S4x4352x512, .f32⟩
  | 100 => ⟨S4x4352x512, .f32⟩
  | 101 => ⟨S4352x128, .f32⟩
  | 102 => ⟨S4352x128, .f32⟩
  | 103 => ⟨S4x4352x128, .f32⟩
  | 104 => ⟨S4x4352x128, .f32⟩
  | 105 => ⟨S1x4352x128, .f32⟩
  | 106 => ⟨S4x4352x128, .f32⟩
  | 107 => ⟨S4x4352x128, .f32⟩
  | 108 => ⟨S1x4352x128, .f32⟩
  | 109 => ⟨S4x4352x128, .f32⟩
  | 110 => ⟨S4x4352x128, .f32⟩
  | 111 => ⟨S4x4352x128, .f32⟩
  | 112 => ⟨S4x4352x256, .f32⟩
  | 113 => ⟨S256, .f32⟩
  | 114 => ⟨S4x4352x256, .f32⟩
  | 115 => ⟨S_, .f32⟩
  | 116 => ⟨S4x4352, .f32⟩
  | 117 => ⟨S4x4352x1, .f32⟩
  | 118 => ⟨S_, .f32⟩
  | 119 => ⟨S4x4352x1, .f32⟩
  | 120 => ⟨S4x4352x1, .f32⟩
  | 121 => ⟨S_, .f32⟩
  | 122 => ⟨S4x4352x1, .f32⟩
  | 123 => ⟨S4x4352x1, .f32⟩
  | 124 => ⟨S4x4352x1, .f32⟩
  | 125 => ⟨S4x4352x256, .f32⟩
  | 126 => ⟨S4x4352x256, .f32⟩
  | 127 => ⟨S1x1x256, .f32⟩
  | _ => ⟨S4x4352x1024, .f32⟩

abbrev hbmTy0_1 (i : Nat) : BufTy := match i % 128 with
  | 0 => ⟨S4x4352x256, .f32⟩
  | 1 => ⟨S4x4352x256, .f32⟩
  | 2 => ⟨S4x4352x128, .f32⟩
  | 3 => ⟨S128, .f32⟩
  | 4 => ⟨S4x4352x128, .f32⟩
  | 5 => ⟨S_, .f32⟩
  | 6 => ⟨S4x4352, .f32⟩
  | 7 => ⟨S4x4352x1, .f32⟩
  | 8 => ⟨S_, .f32⟩
  | 9 => ⟨S4x4352x1, .f32⟩
  | 10 => ⟨S4x4352x1, .f32⟩
  | 11 => ⟨S_, .f32⟩
  | 12 => ⟨S4x4352x1, .f32⟩
  | 13 => ⟨S4x4352x1, .f32⟩
  | 14 => ⟨S4x4352x1, .f32⟩
  | 15 => ⟨S4x4352x128, .f32⟩
  | 16 => ⟨S4x4352x128, .f32⟩
  | 17 => ⟨S1x1x128, .f32⟩
  | 18 => ⟨S4x4352x128, .f32⟩
  | 19 => ⟨S4x4352x128, .f32⟩
  | 20 => ⟨S256x512, .f32⟩
  | 21 => ⟨S4x4352x512, .f32⟩
  | 22 => ⟨S4x4352x4x128, .f32⟩
  | 23 => ⟨S256x512, .f32⟩
  | 24 => ⟨S4x4352x512, .f32⟩
  | 25 => ⟨S4x4352x4x128, .f32⟩
  | 26 => ⟨S4352x1x128, .f32⟩
  | 27 => ⟨S4352x1x128, .f32⟩
  | 28 => ⟨S1x4352x1x128, .f32⟩
  | 29 => ⟨S4x4352x4x128, .f32⟩
  | 30 => ⟨S4x4352x4x128, .f32⟩
  | 31 => ⟨S1x4352x1x128, .f32⟩
  | 32 => ⟨S4x4352x4x128, .f32⟩
  | 33 => ⟨S4x4352x4x128, .f32⟩
  | 34 => ⟨S4x4352x4x128, .f32⟩
  | 35 => ⟨S128x512, .f32⟩
  | 36 => ⟨S4x4352x512, .f32⟩
  | 37 => ⟨S4x4352x4x128, .f32⟩
  | 38 => ⟨S4x4352x1x128, .f32⟩
  | 39 => ⟨S4x4352x4x128, .f32⟩
  | 40 => ⟨S4x4352x4x128, .f32⟩
  | 41 => ⟨S128x256, .f32⟩
  | 42 => ⟨S4x4352x256, .f32⟩
  | 43 => ⟨S4x4352x128, .f32⟩
  | 44 => ⟨S4x4352x768, .f32⟩
  | 45 => ⟨S4x4352x512, .f32⟩
  | 46 => ⟨S4x4352x1024, .f32⟩
  | 47 => ⟨S17408x768, .f32⟩
  | 48 => ⟨S17408x768, .bf16⟩
  | 49 => ⟨S4x4352x1152, .f32⟩
  | 50 => ⟨S17408x1152, .f32⟩
  | 51 => ⟨S17408x512, .f32⟩
  | 52 => ⟨S17408x512, .bf16⟩
  | 53 => ⟨S17408x512, .f32⟩
  | 54 => ⟨S17408x512, .bf16⟩
  | 55 => ⟨S17408x256, .f32⟩
  | 56 => ⟨S17408x256, .bf16⟩
  | 57 => ⟨S17408x1024, .f32⟩
  | _ => ⟨S4x4352x1024, .f32⟩

abbrev hbmTy (i : Nat) : BufTy := match i / 128 with
  | 0 => hbmTy0_0 i
  | 1 => hbmTy0_1 i
  | _ => ⟨S4x4352x1024, .f32⟩

abbrev bufTy : (tb : Table) → Fin (tcTables nBuf tb) → BufTy
  | .hbm, ⟨i, _⟩ => hbmTy i
  | _, _ => ⟨S4x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_cst_0 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_2 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_3 : Ref sig .tc := ⟨.hbm, 52, rfl⟩
abbrev main_v36 : Ref sig .tc := ⟨.hbm, 53, rfl⟩
abbrev main_v37 : Ref sig .tc := ⟨.hbm, 54, rfl⟩
abbrev main_cst_4 : Ref sig .tc := ⟨.hbm, 55, rfl⟩
abbrev main_v38 : Ref sig .tc := ⟨.hbm, 56, rfl⟩
abbrev main_v39 : Ref sig .tc := ⟨.hbm, 57, rfl⟩
abbrev main_cst_5 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_6 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_cst_7 : Ref sig .tc := ⟨.hbm, 115, rfl⟩
abbrev main_v95 : Ref sig .tc := ⟨.hbm, 116, rfl⟩
abbrev main_v96 : Ref sig .tc := ⟨.hbm, 117, rfl⟩
abbrev main_cst_8 : Ref sig .tc := ⟨.hbm, 118, rfl⟩
abbrev main_v97 : Ref sig .tc := ⟨.hbm, 119, rfl⟩
abbrev main_v98 : Ref sig .tc := ⟨.hbm, 120, rfl⟩
abbrev main_cst_9 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_cst_10 : Ref sig .tc := ⟨.hbm, 133, rfl⟩
abbrev main_v110 : Ref sig .tc := ⟨.hbm, 134, rfl⟩
abbrev main_v111 : Ref sig .tc := ⟨.hbm, 135, rfl⟩
abbrev main_cst_11 : Ref sig .tc := ⟨.hbm, 136, rfl⟩
abbrev main_v112 : Ref sig .tc := ⟨.hbm, 137, rfl⟩
abbrev main_v113 : Ref sig .tc := ⟨.hbm, 138, rfl⟩
abbrev main_cst_12 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_v158 : Ref sig .tc := ⟨.hbm, 184, rfl⟩
abbrev main_v159 : Ref sig .tc := ⟨.hbm, 185, rfl⟩

abbrev nD : Nat := 1
abbrev τ : Topo := Topo.v7x

variable {F : FTy → Type} [FloatOps F]
-- ==== Proof.MlaMath.lean ====
/-
  The row of an attention over real scores: weights `2 ^ (s - max s)`, their sum divided out of the weighted values
  after the product, is the softmax in base `e` of the scores times `log 2`, divided before the product — over one set
  of keys, and over two sets normalized together.
-/
module

public import Idealize.ShloMosaic.PureOps.Ideal

@[expose] public section

noncomputable section

open Idealize.ShloMosaic

namespace Cert.MlaMath

/-- `log 2` as the reference computes it. -/
abbrev L : EReal := Ideal.log (Ideal.ofBits .f32 0x40000000#32)

/-- The maximum's start. -/
abbrev B : EReal := Ideal.ofBits .f32 0xFF800000#32

theorem L_eq : L = ((Real.log 2 : ℝ) : EReal) := by
  have h : Ideal.ofBits .f32 0x40000000#32 = ((2 : ℝ) : EReal) := by
    simp [Ideal.ofBits, Ideal.ieee, -EReal.coe_mul]; norm_num
  unfold L
  rw [h, Ideal.log_coe, if_neg (by norm_num)]

theorem B_eq : B = (⊥ : EReal) := by simp [B, Ideal.ofBits, Ideal.ieee]

/-- A real factor that is not negative distributes over a sum. -/
theorem sum_mul_coe {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-- A sum of reals is real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Dividing after the weighted sum is dividing the weights. -/
theorem weighted {ι : Type} [Fintype ι] (W : ι → ℝ) (D : ℝ) (hD : 0 < D) (v : ι → EReal) :
    Ideal.div (∑ k, (W k : EReal) * v k) (D : EReal) = ∑ k, v k * Ideal.div (W k : EReal) (D : EReal) := by
  rw [Ideal.div_coe hD.ne', sum_mul_coe _ _ _ (by positivity)]
  refine Finset.sum_congr rfl fun k _ => ?_
  rw [Ideal.div_coe hD.ne', mul_comm (W k : EReal) (v k), mul_assoc]

/-- The maximum of reals is the largest of them. -/
theorem fold_max_coe {n : ℕ} (S : Fin n → ℝ) (k0 : Fin n) (h : ∀ k, S k ≤ S k0) :
    (Finset.univ.fold max B fun k => (S k : EReal)) = (S k0 : EReal) := by
  rw [B_eq]
  show Finset.univ.sup (fun k => (S k : EReal)) = _
  exact le_antisymm (Finset.sup_le fun k _ => by exact_mod_cast h k)
    (Finset.le_sup (f := fun k => (S k : EReal)) (Finset.mem_univ k0))

/-- A maximum of reals no more than `M` is at most `M`. -/
theorem fold_max_le {n : ℕ} (S : Fin n → ℝ) (M : ℝ) (h : ∀ k, S k ≤ M) :
    (Finset.univ.fold max B fun k => (S k : EReal)) ≤ (M : EReal) := by
  rw [B_eq]
  show Finset.univ.sup (fun k => (S k : EReal)) ≤ _
  exact Finset.sup_le fun k _ => by exact_mod_cast h k

theorem le_fold_max {n : ℕ} (S : Fin n → ℝ) (k : Fin n) :
    (S k : EReal) ≤ Finset.univ.fold max B fun k => (S k : EReal) := by
  rw [B_eq]
  exact Finset.le_sup (f := fun k => (S k : EReal)) (Finset.mem_univ k)

/-- The weight in base two. -/
theorem exp2_sub (a b : ℝ) : Ideal.exp2 ((a : EReal) - (b : EReal)) = (((2 : ℝ) ^ (a - b) : ℝ) : EReal) := by
  rw [← EReal.coe_sub, Ideal.exp2_coe]; rfl

/-- The weight in base `e`, of scores times `log 2`. -/
theorem exp_sub (a b : ℝ) : Ideal.exp (((a * Real.log 2 : ℝ) : EReal) - ((b * Real.log 2 : ℝ) : EReal))
    = (((2 : ℝ) ^ (a - b) : ℝ) : EReal) := by
  rw [← EReal.coe_sub, Ideal.exp_coe, Real.rpow_def_of_pos (by norm_num)]
  congr 2; ring

/-- A weighted row as the kernel computes it. -/
def row {n : ℕ} (s v : Fin n → EReal) : EReal :=
  Ideal.div (∑ k, Ideal.exp2 (s k - Finset.univ.fold max B s) * v k) (∑ k, Ideal.exp2 (s k - Finset.univ.fold max B s))

/-- The kernel's row over real scores: the weights are real and their sum is positive. -/
theorem row_eq {n : ℕ} (S : Fin n → ℝ) (k0 : Fin n) (h : ∀ k, S k ≤ S k0) (v : Fin n → EReal) :
    row (fun k => (S k : EReal)) v
      = ∑ k, v k * Ideal.div (((2 : ℝ) ^ (S k - S k0) : ℝ) : EReal) ((∑ k, (2 : ℝ) ^ (S k - S k0) : ℝ) : EReal) := by
  unfold row
  simp only [fold_max_coe S k0 h, exp2_sub]
  rw [← coe_sum]
  exact weighted _ _ (Finset.sum_pos (fun k _ => by positivity) ⟨k0, Finset.mem_univ _⟩) v

/-- ONE SET OF KEYS: the reference's row. -/
theorem row_one {n : ℕ} (hn : 0 < n) (s : Fin n → EReal) (hs : ∀ k, ∃ r : ℝ, s k = r) (v : Fin n → EReal) :
    row s v = ∑ k, v k * Ideal.div (Ideal.exp (s k * L - Finset.univ.fold max B fun k => s k * L))
      (∑ k, Ideal.exp (s k * L - Finset.univ.fold max B fun k => s k * L)) := by
  choose S hS using hs
  obtain rfl : s = fun k => (S k : EReal) := funext hS
  haveI : Nonempty (Fin n) := ⟨⟨0, hn⟩⟩
  obtain ⟨k0, hk0⟩ := Finite.exists_max S
  have hlog : (0 : ℝ) ≤ Real.log 2 := Real.log_nonneg (by norm_num)
  rw [row_eq S k0 hk0]
  simp only [L_eq, ← EReal.coe_mul]
  rw [fold_max_coe (fun k => S k * Real.log 2) k0 fun k => mul_le_mul_of_nonneg_right (hk0 k) hlog]
  simp only [exp_sub]
  rw [coe_sum]

/-- A sum over all keys: the latents' after the context's 256. -/
theorem sum_keys (f : Fin 4352 → EReal) :
    ∑ k, f k = (∑ x : Fin 4096, f ⟨256 + ↑x, by omega⟩) + ∑ x : Fin 256, f ⟨↑x, by omega⟩ :=
  (Fin.sum_univ_add (a := 256) (b := 4096) f).trans (add_comm _ _)

/-- TWO SETS OF KEYS normalized together: the reference's row. -/
theorem row_two (s : Fin 4352 → EReal) (hs : ∀ k, ∃ r : ℝ, s k = r) (v : Fin 4352 → EReal)
    (M : EReal) (hM : M = max (Finset.univ.fold max B fun x : Fin 4096 => s ⟨256 + ↑x, by omega⟩ * L)
      (Finset.univ.fold max B fun x : Fin 256 => s ⟨↑x, by omega⟩ * L))
    (D : EReal) (hD : D = (∑ x : Fin 4096, Ideal.exp (s ⟨256 + ↑x, by omega⟩ * L - M))
      + ∑ x : Fin 256, Ideal.exp (s ⟨↑x, by omega⟩ * L - M)) :
    row s v = (∑ x : Fin 4096, v ⟨256 + ↑x, by omega⟩ * Ideal.div (Ideal.exp (s ⟨256 + ↑x, by omega⟩ * L - M)) D)
      + ∑ x : Fin 256, v ⟨↑x, by omega⟩ * Ideal.div (Ideal.exp (s ⟨↑x, by omega⟩ * L - M)) D := by
  choose S hS using hs
  obtain rfl : s = fun k => (S k : EReal) := funext hS
  obtain ⟨k0, hk0⟩ := Finite.exists_max S
  have hlog : (0 : ℝ) ≤ Real.log 2 := Real.log_nonneg (by norm_num)
  have hm (k) : S k * Real.log 2 ≤ S k0 * Real.log 2 := mul_le_mul_of_nonneg_right (hk0 k) hlog
  have eM : M = ((S k0 * Real.log 2 : ℝ) : EReal) := by
    rw [hM]
    simp only [L_eq, ← EReal.coe_mul]
    refine le_antisymm (max_le (fold_max_le _ _ fun k => hm _) (fold_max_le _ _ fun k => hm _)) ?_
    by_cases h : (k0 : ℕ) < 256
    · exact le_max_of_le_right (le_fold_max (fun x : Fin 256 => S ⟨↑x, by omega⟩ * Real.log 2) ⟨k0, h⟩)
    · refine le_max_of_le_left (le_trans (le_of_eq ?_)
        (le_fold_max (fun x : Fin 4096 => S ⟨256 + ↑x, by omega⟩ * Real.log 2) ⟨k0 - 256, by omega⟩))
      have : k0 = ⟨256 + (↑k0 - 256), by omega⟩ := Fin.ext (by dsimp only; omega)
      exact congrArg (fun k => ((S k * Real.log 2 : ℝ) : EReal)) this
  have eD : D = ((∑ k, (2 : ℝ) ^ (S k - S k0) : ℝ) : EReal) := by
    rw [hD, eM, coe_sum, sum_keys]
    simp only [L_eq, ← EReal.coe_mul, exp_sub]
  rw [row_eq S k0 hk0, sum_keys, ← eD, eM]
  simp only [L_eq, ← EReal.coe_mul, exp_sub]

end Cert.MlaMath

end
-- ==== Proof.MlaKernel.lean ====
/-
  The attention kernel's arithmetic, read at an index: a block of rows over the 256 context keys, and over all 4352 keys.
-/
module

public import proofs.«01_k».proof.Proof.Gen.KernelIdeal.Skeleton
public import proofs.«01_k».proof.Proof.MlaMath
public import Idealize.ShloMosaic.Lib.Pointwise

@[expose] public section

set_option maxRecDepth 16384

noncomputable section

open Idealize.ShloMosaic Idealize.ShloMosaic.TcCoe Idealize.SL.Sem

namespace Cert.KernelIdeal.Arith

open Cert.KernelIdeal Cert.KernelIdeal.Gen Cert.MlaMath

/-- The score of row `r` over key `j`: the product of their 128 lanes. -/
def score {n : ℕ} (q : FVec Ideal S1x256x128 .bf16) (k : FVec Ideal ⟨3, ![1, n, 128]⟩ .bf16) (r : Fin 256) (j : Fin n) : EReal :=
  ∑ x : Fin 128, q (ix3 0 r x) * k (ix3 0 j x)

/-- The maximum over the last axis, at any size. -/
theorem max_last {n : ℕ} (s : FVec Ideal ⟨2, ![256, n]⟩ .f32) (h : (⟨2, ![256, n]⟩ : Shape).Reduces [1] S256)
    (hφ : FKind.Formats .f32) (hacc : 0xFF800000#32 = FKind.maximumf.neutral .f32 hφ) (r : Fin 256) :
    multiReduction .maximumf [1] S256 s 0xFF800000#32 h hφ hacc (ix1 r)
      = Finset.univ.fold max B fun j : Fin n => s (ix2 r j) := by
  pointwise

theorem lt_word : ∀ l : Fin 128, IntOp.cmpi .slt (BitVec.ofNat 32 ↑l) 64#32 = if (l : ℕ) < 64 then 1#1 else 0#1 := by decide
theorem ge_word : ∀ l : Fin 128, IntOp.cmpi .sge (BitVec.ofNat 32 ↑l) 64#32 = if (l : ℕ) < 64 then 0#1 else 1#1 := by decide

/-- The choice of the lower lanes. -/
theorem sel_lt (l : Fin 128) (a b : EReal) :
    Scalar.select (IntOp.cmpi .slt (BitVec.ofNat 32 ↑l) 64#32) a b = if (l : ℕ) < 64 then a else b := by
  rw [lt_word]; split <;> rfl

/-- The choice of the upper lanes. -/
theorem sel_ge (l : Fin 128) (a b : EReal) :
    Scalar.select (IntOp.cmpi .sge (BitVec.ofNat 32 ↑l) 64#32) a b = if (l : ℕ) < 64 then b else a := by
  rw [ge_word]; split <;> rfl

theorem lane64 : (((64 : Fin 128) : ℕ) < 64) = False := by simp
theorem lane0 : (((0 : Fin 128) : ℕ) < 64) = True := by simp

/-- The division and the choice of the head's lanes. -/
theorem pay1_at (a b : FVec Ideal S256x128 .f32) (r : Fin 256) (l : Fin 128) : k0_pay1 (F := Ideal) a b (ix3 0 r l)
    = if (l : ℕ) < 64 then Ideal.div (a (ix2 r l)) (a (ix2 r 64)) else Ideal.div (b (ix2 r l)) (b (ix2 r 0)) := by
  pointwise [k0_pay1]
  exact sel_lt l _ _

/-- The division and the choice of the head's lanes. -/
theorem pay2_at (a b : FVec Ideal S256x128 .f32) (r : Fin 256) (l : Fin 128) : k0_pay2 (F := Ideal) a b (ix3 0 r l)
    = if (l : ℕ) < 64 then Ideal.div (a (ix2 r l)) (a (ix2 r 64)) else Ideal.div (b (ix2 r l)) (b (ix2 r 0)) :=
  pay1_at a b r l

/-! ## The context's block: 256 keys -/

/-- The scores of the block's rows over the keys. -/
def SC (q : FVec Ideal S1x256x128 .bf16) (k : FVec Ideal S1x256x128 .bf16) : FVec Ideal S256x256 .f32 :=
  matmul dot_S256x128_S256x128_S256x256_1_1_0_0_n_n none (shapeCast S256x128 q shapeCasts_S1x256x128_S256x128)
    (shapeCast S256x128 k shapeCasts_S1x256x128_S256x128) (constant S256x256 .f32 0x00000000#32)

/-- A row's maximum. -/
def MC (s : FVec Ideal S256x256 .f32) : FVec Ideal S256 .f32 :=
  multiReduction .maximumf [1] S256 s 0xFF800000#32 reduces_S256x256_S256 (.inl rfl) rfl

/-- The weights, given the maxima. -/
def WC (s : FVec Ideal S256x256 .f32) (mx : FVec Ideal S256 .f32) : FVec Ideal S256x256 .f32 :=
  exp2 (subf s (broadcastTo S256x256 (shapeCast S256x1 mx shapeCasts_S256_S256x1) broadcasts_S256x1_S256x256))

/-- The weighted sums of the lanes of `v`. -/
def PC (w : FVec Ideal S256x256 .f32) (v : FVec Ideal S256x128 .bf16) : FVec Ideal S256x128 .f32 :=
  matmul dot_S256x256_S256x128_S256x128_1_0_0_1_n_n none (truncf .bf16 w bitsLt_bf16_f32) v (constant S256x128 .f32 0x00000000#32)

/-- The values with ones in the upper lanes. -/
def UC (v : FVec Ideal S1x256x128 .bf16) : FVec Ideal S256x128 .bf16 :=
  select (cmpi .sge (iota .tc S256x128 32 [1] iota_S256x128_d1_w32) (broadcast S256x128 64#32))
    (broadcast S256x128 (Scalar.ofBits .bf16 0x3F80#16)) (k0_pay3 v)

/-- The values with ones in the lower lanes. -/
def DC (v : FVec Ideal S1x256x128 .bf16) : FVec Ideal S256x128 .bf16 :=
  select (cmpi .slt (iota .tc S256x128 32 [1] iota_S256x128_d1_w32) (broadcast S256x128 64#32))
    (broadcast S256x128 (Scalar.ofBits .bf16 0x3F80#16)) (k0_pay3 v)

theorem pay4_eq (v : FVec Ideal S1x256x128 .bf16) (q : FVec Ideal S1x256x128 .bf16) (k : FVec Ideal S1x256x128 .bf16) :
    k0_pay4 (F := Ideal) v q k = PC (WC (SC q k) (MC (SC q k))) (UC v) := rfl

theorem pay5_eq (v : FVec Ideal S1x256x128 .bf16) (q : FVec Ideal S1x256x128 .bf16) (k : FVec Ideal S1x256x128 .bf16) :
    k0_pay5 (F := Ideal) v q k = PC (WC (SC q k) (MC (SC q k))) (DC v) := rfl

theorem SC_at (q : FVec Ideal S1x256x128 .bf16) (k : FVec Ideal S1x256x128 .bf16) (r : Fin 256) (j : Fin 256) :
    SC q k (ix2 r j) = ∑ x : Fin 128, q (ix3 0 r x) * k (ix3 0 j x) := by
  pointwise [SC]

theorem MC_at (s : FVec Ideal S256x256 .f32) (r : Fin 256) :
    MC s (ix1 r) = Finset.univ.fold max B fun j : Fin 256 => s (ix2 r j) :=
  max_last s _ _ _ r

theorem WC_at (s : FVec Ideal S256x256 .f32) (mx : FVec Ideal S256 .f32) (r : Fin 256) (j : Fin 256) :
    WC s mx (ix2 r j) = Ideal.exp2 (s (ix2 r j) - mx (ix1 r)) := by
  pointwise [WC]
  rfl

theorem PC_at (w : FVec Ideal S256x256 .f32) (v : FVec Ideal S256x128 .bf16) (r : Fin 256) (l : Fin 128) :
    PC w v (ix2 r l) = ∑ j : Fin 256, w (ix2 r j) * v (ix2 j l) := by
  pointwise [PC]

theorem UC_at (v : FVec Ideal S1x256x128 .bf16) (j : Fin 256) (l : Fin 128) :
    UC v (ix2 j l) = if (l : ℕ) < 64 then v (ix3 0 j l) else 1 := by
  pointwise [UC, k0_pay3]
  exact sel_ge l _ _

theorem DC_at (v : FVec Ideal S1x256x128 .bf16) (j : Fin 256) (l : Fin 128) :
    DC v (ix2 j l) = if (l : ℕ) < 64 then 1 else v (ix3 0 j l) := by
  pointwise [DC, k0_pay3]
  exact sel_lt l _ _

/-- The first head's weighted sums. -/
theorem pay4_at (v : FVec Ideal S1x256x128 .bf16) (q : FVec Ideal S1x256x128 .bf16) (k : FVec Ideal S1x256x128 .bf16)
    (r : Fin 256) (l : Fin 128) : k0_pay4 (F := Ideal) v q k (ix2 r l)
      = ∑ j : Fin 256, Ideal.exp2 (score q k r j - Finset.univ.fold max B (score q k r)) * (if (l : ℕ) < 64 then v (ix3 0 j l) else 1) := by
  rw [pay4_eq, PC_at]
  simp only [WC_at, MC_at, SC_at, UC_at]
  rfl

/-- The second head's weighted sums. -/
theorem pay5_at (v : FVec Ideal S1x256x128 .bf16) (q : FVec Ideal S1x256x128 .bf16) (k : FVec Ideal S1x256x128 .bf16)
    (r : Fin 256) (l : Fin 128) : k0_pay5 (F := Ideal) v q k (ix2 r l)
      = ∑ j : Fin 256, Ideal.exp2 (score q k r j - Finset.univ.fold max B (score q k r)) * (if (l : ℕ) < 64 then 1 else v (ix3 0 j l)) := by
  rw [pay5_eq, PC_at]
  simp only [WC_at, MC_at, SC_at, DC_at]
  rfl

/-- The stored block: in each head's lanes, that head's row. -/
theorem blockC (v : FVec Ideal S1x256x128 .bf16) (q0 q1 : FVec Ideal S1x256x128 .bf16) (k0 k1 : FVec Ideal S1x256x128 .bf16)
    (r : Fin 256) (l : Fin 128) :
    k0_pay1 (F := Ideal) (k0_pay4 (F := Ideal) v q0 k0) (k0_pay5 (F := Ideal) v q1 k1) (ix3 0 r l)
      = if (l : ℕ) < 64 then row (score q0 k0 r) (fun j => v (ix3 0 j l)) else row (score q1 k1 r) (fun j => v (ix3 0 j l)) := by
  rw [pay1_at]
  by_cases h : (l : ℕ) < 64
  · rw [if_pos h, if_pos h, pay4_at, pay4_at]
    simp only [if_pos h, lane64, if_false, mul_one]
    rfl
  · rw [if_neg h, if_neg h, pay5_at, pay5_at]
    simp only [if_neg h, lane0, if_true, mul_one]
    rfl

/-! ## A latent block: all 4352 keys -/

/-- The scores of the block's rows over the keys. -/
def SA (q : FVec Ideal S1x256x128 .bf16) (k : FVec Ideal S1x4352x128 .bf16) : FVec Ideal S256x4352 .f32 :=
  matmul dot_S256x128_S4352x128_S256x4352_1_1_0_0_n_n none (shapeCast S256x128 q shapeCasts_S1x256x128_S256x128)
    (shapeCast S4352x128 k shapeCasts_S1x4352x128_S4352x128) (constant S256x4352 .f32 0x00000000#32)

/-- A row's maximum. -/
def MA (s : FVec Ideal S256x4352 .f32) : FVec Ideal S256 .f32 :=
  multiReduction .maximumf [1] S256 s 0xFF800000#32 reduces_S256x4352_S256 (.inl rfl) rfl

/-- The weights, given the maxima. -/
def WA (s : FVec Ideal S256x4352 .f32) (mx : FVec Ideal S256 .f32) : FVec Ideal S256x4352 .f32 :=
  exp2 (subf s (broadcastTo S256x4352 (shapeCast S256x1 mx shapeCasts_S256_S256x1) broadcasts_S256x1_S256x4352))

/-- The weighted sums of the lanes of `v`. -/
def PA (w : FVec Ideal S256x4352 .f32) (v : FVec Ideal S4352x128 .bf16) : FVec Ideal S256x128 .f32 :=
  matmul dot_S256x4352_S4352x128_S256x128_1_0_0_1_n_n none (truncf .bf16 w bitsLt_bf16_f32) v (constant S256x128 .f32 0x00000000#32)

/-- The values with ones in the upper lanes. -/
def UA (v : FVec Ideal S1x4352x128 .bf16) : FVec Ideal S4352x128 .bf16 :=
  select (cmpi .sge (iota .tc S4352x128 32 [1] iota_S4352x128_d1_w32) (broadcast S4352x128 64#32))
    (broadcast S4352x128 (Scalar.ofBits .bf16 0x3F80#16)) (k0_pay6 v)

/-- The values with ones in the lower lanes. -/
def DA (v : FVec Ideal S1x4352x128 .bf16) : FVec Ideal S4352x128 .bf16 :=
  select (cmpi .slt (iota .tc S4352x128 32 [1] iota_S4352x128_d1_w32) (broadcast S4352x128 64#32))
    (broadcast S4352x128 (Scalar.ofBits .bf16 0x3F80#16)) (k0_pay6 v)

theorem pay7_eq (v : FVec Ideal S1x4352x128 .bf16) (q : FVec Ideal S1x256x128 .bf16) (k : FVec Ideal S1x4352x128 .bf16) :
    k0_pay7 (F := Ideal) v q k = PA (WA (SA q k) (MA (SA q k))) (UA v) := rfl

theorem pay8_eq (v : FVec Ideal S1x4352x128 .bf16) (q : FVec Ideal S1x256x128 .bf16) (k : FVec Ideal S1x4352x128 .bf16) :
    k0_pay8 (F := Ideal) v q k = PA (WA (SA q k) (MA (SA q k))) (DA v) := rfl

theorem SA_at (q : FVec Ideal S1x256x128 .bf16) (k : FVec Ideal S1x4352x128 .bf16) (r : Fin 256) (j : Fin 4352) :
    SA q k (ix2 r j) = ∑ x : Fin 128, q (ix3 0 r x) * k (ix3 0 j x) := by
  pointwise [SA]

theorem MA_at (s : FVec Ideal S256x4352 .f32) (r : Fin 256) :
    MA s (ix1 r) = Finset.univ.fold max B fun j : Fin 4352 => s (ix2 r j) :=
  max_last s _ _ _ r

theorem WA_at (s : FVec Ideal S256x4352 .f32) (mx : FVec Ideal S256 .f32) (r : Fin 256) (j : Fin 4352) :
    WA s mx (ix2 r j) = Ideal.exp2 (s (ix2 r j) - mx (ix1 r)) := by
  pointwise [WA]
  rfl

theorem PA_at (w : FVec Ideal S256x4352 .f32) (v : FVec Ideal S4352x128 .bf16) (r : Fin 256) (l : Fin 128) :
    PA w v (ix2 r l) = ∑ j : Fin 4352, w (ix2 r j) * v (ix2 j l) := by
  pointwise [PA]

theorem UA_at (v : FVec Ideal S1x4352x128 .bf16) (j : Fin 4352) (l : Fin 128) :
    UA v (ix2 j l) = if (l : ℕ) < 64 then v (ix3 0 j l) else 1 := by
  pointwise [UA, k0_pay6]
  exact sel_ge l _ _

theorem DA_at (v : FVec Ideal S1x4352x128 .bf16) (j : Fin 4352) (l : Fin 128) :
    DA v (ix2 j l) = if (l : ℕ) < 64 then 1 else v (ix3 0 j l) := by
  pointwise [DA, k0_pay6]
  exact sel_lt l _ _

/-- The first head's weighted sums. -/
theorem pay7_at (v : FVec Ideal S1x4352x128 .bf16) (q : FVec Ideal S1x256x128 .bf16) (k : FVec Ideal S1x4352x128 .bf16)
    (r : Fin 256) (l : Fin 128) : k0_pay7 (F := Ideal) v q k (ix2 r l)
      = ∑ j : Fin 4352, Ideal.exp2 (score q k r j - Finset.univ.fold max B (score q k r)) * (if (l : ℕ) < 64 then v (ix3 0 j l) else 1) := by
  rw [pay7_eq, PA_at]
  simp only [WA_at, MA_at, SA_at, UA_at]
  rfl

/-- The second head's weighted sums. -/
theorem pay8_at (v : FVec Ideal S1x4352x128 .bf16) (q : FVec Ideal S1x256x128 .bf16) (k : FVec Ideal S1x4352x128 .bf16)
    (r : Fin 256) (l : Fin 128) : k0_pay8 (F := Ideal) v q k (ix2 r l)
      = ∑ j : Fin 4352, Ideal.exp2 (score q k r j - Finset.univ.fold max B (score q k r)) * (if (l : ℕ) < 64 then 1 else v (ix3 0 j l)) := by
  rw [pay8_eq, PA_at]
  simp only [WA_at, MA_at, SA_at, DA_at]
  rfl

/-- The stored block: in each head's lanes, that head's row. -/
theorem blockA (v : FVec Ideal S1x4352x128 .bf16) (q0 q1 : FVec Ideal S1x256x128 .bf16) (k0 k1 : FVec Ideal S1x4352x128 .bf16)
    (r : Fin 256) (l : Fin 128) :
    k0_pay2 (F := Ideal) (k0_pay7 (F := Ideal) v q0 k0) (k0_pay8 (F := Ideal) v q1 k1) (ix3 0 r l)
      = if (l : ℕ) < 64 then row (score q0 k0 r) (fun j => v (ix3 0 j l)) else row (score q1 k1 r) (fun j => v (ix3 0 j l)) := by
  rw [pay2_at]
  by_cases h : (l : ℕ) < 64
  · rw [if_pos h, if_pos h, pay7_at, pay7_at]
    simp only [if_pos h, lane64, if_false, mul_one]
    rfl
  · rw [if_neg h, if_neg h, pay8_at, pay8_at]
    simp only [if_neg h, lane0, if_true, mul_one]
    rfl

end Cert.KernelIdeal.Arith

end
-- ==== Proof.MlaRef.lean ====
/-
  The latent attention's reference as one function of the queries, keys and values, in named parts: the scores, their
  row maxima, the softmax numerators and denominators, the two weighted sums.
-/
module

public import proofs.«01_k».proof.Proof.Gen.ReferenceIdeal.Run
public import Idealize.ShloMosaic.PureOps.Ideal
public import Idealize.ShloMosaic.Lib.Pointwise

@[expose] public section

set_option maxRecDepth 16384

noncomputable section

open Idealize.ShloMosaic Idealize.ShloMosaic.TcCoe Idealize.SL.Sem

namespace Cert.ReferenceIdeal.Term

open Cert.ReferenceIdeal Cert.ReferenceIdeal.Gen

/-- Queries or keys by head. -/
def QH (q : FVec Ideal S4x4352x512 .bf16) : FVec Ideal S4x4352x4x128 .f32 :=
  shapeCast _ (extf .f32 q bitsLt_bf16_f32) shapeCasts_S4x4352x512_S4x4352x4x128

/-- Values by head. -/
def VH (v : FVec Ideal S4x4352x256 .bf16) : FVec Ideal S4x4352x4x64 .f32 :=
  shapeCast _ (extf .f32 v bitsLt_bf16_f32) shapeCasts_S4x4352x256_S4x4352x4x64

/-- The logarithm of two, by which the scores leave base two. -/
def LN2 : FVec Ideal S_ .f32 := Host.log (constant S_ .f32 0x40000000#32)

/-- Scores of the context rows over the context keys. -/
def SC (q k : FVec Ideal S4x4352x512 .bf16) : FVec Ideal S4x4x256x256 .f32 :=
  mulf (Host.dotGeneral dot_S4x256x4x128_S4x256x4x128_S4x4x256x256_3_3_1_1_02_02 none (extractStridedSlice S4x256x4x128 ![0, 0, 0, 0] (QH q) slices_S4x4352x4x128_S4x256x4x128_0_0_0_0) (extractStridedSlice S4x256x4x128 ![0, 0, 0, 0] (QH k) slices_S4x4352x4x128_S4x256x4x128_0_0_0_0)) (broadcastInDim S4x4x256x256 ![] bcast_S_S4x4x256x256 LN2)

/-- Scores of the latent rows over the latent keys. -/
def SL (q k : FVec Ideal S4x4352x512 .bf16) : FVec Ideal S4x4x4096x4096 .f32 :=
  mulf (Host.dotGeneral dot_S4x4096x4x128_S4x4096x4x128_S4x4x4096x4096_3_3_1_1_02_02 none (extractStridedSlice S4x4096x4x128 ![0, 256, 0, 0] (QH q) slices_S4x4352x4x128_S4x4096x4x128_0_256_0_0) (extractStridedSlice S4x4096x4x128 ![0, 256, 0, 0] (QH k) slices_S4x4352x4x128_S4x4096x4x128_0_256_0_0)) (broadcastInDim S4x4x4096x4096 ![] bcast_S_S4x4x4096x4096 LN2)

/-- Scores of the latent rows over the context keys. -/
def SX (q k : FVec Ideal S4x4352x512 .bf16) : FVec Ideal S4x4x4096x256 .f32 :=
  mulf (Host.dotGeneral dot_S4x4096x4x128_S4x256x4x128_S4x4x4096x256_3_3_1_1_02_02 none (extractStridedSlice S4x4096x4x128 ![0, 256, 0, 0] (QH q) slices_S4x4352x4x128_S4x4096x4x128_0_256_0_0) (extractStridedSlice S4x256x4x128 ![0, 0, 0, 0] (QH k) slices_S4x4352x4x128_S4x256x4x128_0_0_0_0)) (broadcastInDim S4x4x4096x256 ![] bcast_S_S4x4x4096x256 LN2)

/-- The context rows' maxima. -/
def MC (s : FVec Ideal S4x4x256x256 .f32) : FVec Ideal S4x4x256x1 .f32 :=
  broadcastInDim S4x4x256x1 ![0, 1, 2] bcast_S4x4x256_S4x4x256x1_0_1_2 (Host.reduce FloatOps.maximumf s (constant S_ .f32 0xFF800000#32) reducesTo_S4x4x256x256_S4x4x256_d3 h_S_)

/-- The latent rows' maxima over the latent keys. -/
def ML (s : FVec Ideal S4x4x4096x4096 .f32) : FVec Ideal S4x4x4096 .f32 :=
  Host.reduce FloatOps.maximumf s (constant S_ .f32 0xFF800000#32) reducesTo_S4x4x4096x4096_S4x4x4096_d3 h_S_

/-- The latent rows' maxima over the context keys. -/
def MR (s' : FVec Ideal S4x4x4096x256 .f32) : FVec Ideal S4x4x4096 .f32 :=
  Host.reduce FloatOps.maximumf s' (constant S_ .f32 0xFF800000#32) reducesTo_S4x4x4096x256_S4x4x4096_d3 h_S_

/-- The latent rows' maxima, over both kinds of keys. -/
def MX (s : FVec Ideal S4x4x4096x4096 .f32) (s' : FVec Ideal S4x4x4096x256 .f32) : FVec Ideal S4x4x4096x1 .f32 :=
  maximumf (broadcastInDim S4x4x4096x1 ![0, 1, 2] bcast_S4x4x4096_S4x4x4096x1_0_1_2 (ML s)) (broadcastInDim S4x4x4096x1 ![0, 1, 2] bcast_S4x4x4096_S4x4x4096x1_0_1_2 (MR s'))

/-- Numerators: context rows. -/
def PC (s : FVec Ideal S4x4x256x256 .f32) : FVec Ideal S4x4x256x256 .f32 :=
  Host.exp (subf s (broadcastInDim S4x4x256x256 ![0, 1, 2, 3] bcast_S4x4x256x1_S4x4x256x256_0_1_2_3 (MC s)))

/-- Numerators: latent rows, latent keys. -/
def PL (s : FVec Ideal S4x4x4096x4096 .f32) (s' : FVec Ideal S4x4x4096x256 .f32) : FVec Ideal S4x4x4096x4096 .f32 :=
  Host.exp (subf s (broadcastInDim S4x4x4096x4096 ![0, 1, 2, 3] bcast_S4x4x4096x1_S4x4x4096x4096_0_1_2_3 (MX s s')))

/-- Numerators: latent rows, context keys. -/
def PX (s : FVec Ideal S4x4x4096x4096 .f32) (s' : FVec Ideal S4x4x4096x256 .f32) : FVec Ideal S4x4x4096x256 .f32 :=
  Host.exp (subf s' (broadcastInDim S4x4x4096x256 ![0, 1, 2, 3] bcast_S4x4x4096x1_S4x4x4096x256_0_1_2_3 (MX s s')))

/-- Denominators: context rows. -/
def DC (s : FVec Ideal S4x4x256x256 .f32) : FVec Ideal S4x4x256x1 .f32 :=
  addf (broadcastInDim S4x4x256x1 ![] bcast_S_S4x4x256x1 (constant S_ .f32 0x00000000#32)) (broadcastInDim S4x4x256x1 ![0, 1, 2] bcast_S4x4x256_S4x4x256x1_0_1_2 (Host.reduceAdd (PC s) (constant S_ .f32 0x00000000#32) reducesTo_S4x4x256x256_S4x4x256_d3 h_S_))

/-- Denominators: latent rows. -/
def DX (s : FVec Ideal S4x4x4096x4096 .f32) (s' : FVec Ideal S4x4x4096x256 .f32) : FVec Ideal S4x4x4096x1 .f32 :=
  addf (addf (broadcastInDim S4x4x4096x1 ![] bcast_S_S4x4x4096x1 (constant S_ .f32 0x00000000#32)) (broadcastInDim S4x4x4096x1 ![0, 1, 2] bcast_S4x4x4096_S4x4x4096x1_0_1_2 (Host.reduceAdd (PL s s') (constant S_ .f32 0x00000000#32) reducesTo_S4x4x4096x4096_S4x4x4096_d3 h_S_))) (broadcastInDim S4x4x4096x1 ![0, 1, 2] bcast_S4x4x4096_S4x4x4096x1_0_1_2 (Host.reduceAdd (PX s s') (constant S_ .f32 0x00000000#32) reducesTo_S4x4x4096x256_S4x4x4096_d3 h_S_))

/-- The context rows' result. -/
def OC (s : FVec Ideal S4x4x256x256 .f32) (v : FVec Ideal S4x4352x256 .bf16) : FVec Ideal S4x256x4x64 .f32 :=
  transpose S4x256x4x64 [0, 3, 1, 2] (Host.dotGeneral dot_S4x256x4x64_S4x4x256x256_S4x4x64x256_1_3_3_2_02_01 none (extractStridedSlice S4x256x4x64 ![0, 0, 0, 0] (VH v) slices_S4x4352x4x64_S4x256x4x64_0_0_0_0) (Host.divf (PC s) (broadcastInDim S4x4x256x256 ![0, 1, 2, 3] bcast_S4x4x256x1_S4x4x256x256_0_1_2_3 (DC s)))) transposes_S4x4x64x256_S4x256x4x64_0_3_1_2

/-- The latent rows' result. -/
def OX (s : FVec Ideal S4x4x4096x4096 .f32) (s' : FVec Ideal S4x4x4096x256 .f32) (v : FVec Ideal S4x4352x256 .bf16) :
    FVec Ideal S4x4096x4x64 .f32 :=
  addf (transpose S4x4096x4x64 [0, 3, 1, 2] (Host.dotGeneral dot_S4x4096x4x64_S4x4x4096x4096_S4x4x64x4096_1_3_3_2_02_01 none (extractStridedSlice S4x4096x4x64 ![0, 256, 0, 0] (VH v) slices_S4x4352x4x64_S4x4096x4x64_0_256_0_0) (Host.divf (PL s s') (broadcastInDim S4x4x4096x4096 ![0, 1, 2, 3] bcast_S4x4x4096x1_S4x4x4096x4096_0_1_2_3 (DX s s')))) transposes_S4x4x64x4096_S4x4096x4x64_0_3_1_2) (transpose S4x4096x4x64 [0, 3, 1, 2] (Host.dotGeneral dot_S4x256x4x64_S4x4x4096x256_S4x4x64x4096_1_3_3_2_02_01 none (extractStridedSlice S4x256x4x64 ![0, 0, 0, 0] (VH v) slices_S4x4352x4x64_S4x256x4x64_0_0_0_0) (Host.divf (PX s s') (broadcastInDim S4x4x4096x256 ![0, 1, 2, 3] bcast_S4x4x4096x1_S4x4x4096x256_0_1_2_3 (DX s s')))) transposes_S4x4x64x4096_S4x4096x4x64_0_3_1_2)

/-- The reference's result. -/
def REF (q k : FVec Ideal S4x4352x512 .bf16) (v : FVec Ideal S4x4352x256 .bf16) : FVec Ideal S4x4352x256 .bf16 :=
  truncf .bf16 (shapeCast _ (concatenate S4x4352x4x64 1 [⟨S4x256x4x64, (OC (SC q k) v)⟩, ⟨S4x4096x4x64, (OX (SL q k) (SX q k) v)⟩] concatenates_S4x256x4x64_S4x4096x4x64_S4x4352x4x64_d1) shapeCasts_S4x4352x4x64_S4x4352x256) bitsLt_bf16_f32

set_option maxHeartbeats 2000000 in
/-- The run's result is that function of the arguments. -/
theorem res_eq (m : (ℓ : Loc nD τ sig) → Buf (Elt Ideal) ℓ) (c : Dev nD) : Value.res_out0 m c
    = REF (m ((c.tc : Thread nD τ).loc main_arg0)) (m ((c.tc : Thread nD τ).loc main_arg1))
        (m ((c.tc : Thread nD τ).loc main_arg2)) := rfl

end Cert.ReferenceIdeal.Term

end
-- ==== Proof.MlaRefScores.lean ====
/-
  The attention reference's scores, and its result by row and head, read at an index.
-/
module

public import proofs.«01_k».proof.Proof.MlaRef
public import Idealize.ShloMosaic.Lib.Pointwise

@[expose] public section

set_option maxRecDepth 16384

noncomputable section

open Idealize.ShloMosaic Idealize.ShloMosaic.TcCoe Idealize.SL.Sem

namespace Cert.ReferenceIdeal.Term

open Cert.ReferenceIdeal Cert.ReferenceIdeal.Gen

variable (q k : FVec Ideal S4x4352x512 .bf16)

/-- A context row's score. -/
theorem SC_at (b h : Fin 4) (r j : Fin 256) : SC q k (ix4 b h r j)
    = (∑ x : Fin 128, q (ix3 b ⟨↑r, by omega⟩ ⟨↑h * 128 + ↑x, by omega⟩) * k (ix3 b ⟨↑j, by omega⟩ ⟨↑h * 128 + ↑x, by omega⟩))
      * Ideal.log (Ideal.ofBits .f32 0x40000000#32) := by
  pointwise [SC, QH, LN2]

/-- A latent row's score on a latent key. -/
theorem SL_at (b h : Fin 4) (r j : Fin 4096) : SL q k (ix4 b h r j)
    = (∑ x : Fin 128, q (ix3 b ⟨256 + ↑r, by omega⟩ ⟨↑h * 128 + ↑x, by omega⟩) * k (ix3 b ⟨256 + ↑j, by omega⟩ ⟨↑h * 128 + ↑x, by omega⟩))
      * Ideal.log (Ideal.ofBits .f32 0x40000000#32) := by
  pointwise [SL, QH, LN2]

/-- A latent row's score on a context key. -/
theorem SX_at (b h : Fin 4) (r : Fin 4096) (j : Fin 256) : SX q k (ix4 b h r j)
    = (∑ x : Fin 128, q (ix3 b ⟨256 + ↑r, by omega⟩ ⟨↑h * 128 + ↑x, by omega⟩) * k (ix3 b ⟨↑j, by omega⟩ ⟨↑h * 128 + ↑x, by omega⟩))
      * Ideal.log (Ideal.ofBits .f32 0x40000000#32) := by
  pointwise [SX, QH, LN2]

/-- The result: the first 256 rows are the context's, a lane is a head's. -/
theorem REF_at (v : FVec Ideal S4x4352x256 .bf16) (b : Fin 4) (r : Fin 4352) (l : Fin 256) : REF q k v (ix3 b r l)
    = if h : (r : ℕ) < 256 then OC (SC q k) v (ix4 b ⟨↑r, by omega⟩ ⟨↑l / 64, by omega⟩ ⟨↑l % 64, by omega⟩)
      else OX (SL q k) (SX q k) v (ix4 b ⟨↑r - 256, by omega⟩ ⟨↑l / 64, by omega⟩ ⟨↑l % 64, by omega⟩) := by
  pointwise [REF]

end Cert.ReferenceIdeal.Term

end
-- ==== Proof.MlaRefContext.lean ====
/-
  The attention reference's context rows, read at an index.
-/
module

public import proofs.«01_k».proof.Proof.MlaRef
public import Idealize.ShloMosaic.Lib.Pointwise

@[expose] public section

set_option maxRecDepth 16384

noncomputable section

open Idealize.ShloMosaic Idealize.ShloMosaic.TcCoe Idealize.SL.Sem

namespace Cert.ReferenceIdeal.Term

open Cert.ReferenceIdeal Cert.ReferenceIdeal.Gen

variable (s : FVec Ideal S4x4x256x256 .f32)

/-- A numerator. -/
theorem PC_at (b h : Fin 4) (r x : Fin 256) : PC s (ix4 b h r x)
    = Ideal.exp (s (ix4 b h r x) - Finset.univ.fold max (Ideal.ofBits .f32 0xFF800000#32) fun y : Fin 256 => s (ix4 b h r y)) := by
  pointwise [PC, MC]

/-- A denominator. -/
theorem DC_at (b h : Fin 4) (r : Fin 256) : DC s (ix4 b h r 0) = ∑ x : Fin 256, PC s (ix4 b h r x) := by
  pointwise [DC]

/-- The weighted sum of the values. -/
theorem OC_at (v : FVec Ideal S4x4352x256 .bf16) (b : Fin 4) (r : Fin 256) (h : Fin 4) (e : Fin 64) : OC s v (ix4 b r h e)
    = ∑ x : Fin 256, v (ix3 b ⟨↑x, by omega⟩ ⟨↑h * 64 + ↑e, by omega⟩) * Ideal.div (PC s (ix4 b h r x)) (DC s (ix4 b h r 0)) := by
  pointwise [OC, VH]

end Cert.ReferenceIdeal.Term

end
-- ==== Proof.MlaRefLatent.lean ====
/-
  The attention reference's latent rows, read at an index.
-/
module

public import proofs.«01_k».proof.Proof.MlaRef
public import Idealize.ShloMosaic.Lib.Pointwise

@[expose] public section

set_option maxRecDepth 16384

noncomputable section

open Idealize.ShloMosaic Idealize.ShloMosaic.TcCoe Idealize.SL.Sem

namespace Cert.ReferenceIdeal.Term

open Cert.ReferenceIdeal Cert.ReferenceIdeal.Gen

variable (s : FVec Ideal S4x4x4096x4096 .f32) (s' : FVec Ideal S4x4x4096x256 .f32)

/-- The maximum over the last axis, at any sizes. -/
theorem max_last {a b c n : Nat} (x : FVec Ideal ⟨4, ![a, b, c, n]⟩ .f32) (init : FVec Ideal S_ .f32)
    (h : (⟨4, ![a, b, c, n]⟩ : Shape).ReducesTo [3] ⟨3, ![a, b, c]⟩) (hu : 0 < S_.numel)
    (i : Fin a) (j : Fin b) (k : Fin c) :
    Host.reduce FloatOps.maximumf x init h hu (ix3 i j k)
      = Finset.univ.fold max (init (Shape.Idx.first hu)) fun y : Fin n => x (ix4 i j k y) := by
  pointwise

/-- A row's maximum over the latent keys. -/
theorem ML_at (b h : Fin 4) (r : Fin 4096) : ML s (ix3 b h r)
    = Finset.univ.fold max (Ideal.ofBits .f32 0xFF800000#32) fun y : Fin 4096 => s (ix4 b h r y) :=
  max_last s _ _ _ b h r

/-- A row's maximum over the context keys. -/
theorem MR_at (b h : Fin 4) (r : Fin 4096) : MR s' (ix3 b h r)
    = Finset.univ.fold max (Ideal.ofBits .f32 0xFF800000#32) fun y : Fin 256 => s' (ix4 b h r y) :=
  max_last s' _ _ _ b h r

/-- The larger of two columns, broadcast along the last axis. -/
theorem max_two (x y : FVec Ideal S4x4x4096 .f32) (b h : Fin 4) (r : Fin 4096) :
    maximumf (broadcastInDim S4x4x4096x1 ![0, 1, 2] bcast_S4x4x4096_S4x4x4096x1_0_1_2 x)
      (broadcastInDim S4x4x4096x1 ![0, 1, 2] bcast_S4x4x4096_S4x4x4096x1_0_1_2 y) (ix4 b h r 0)
      = max (x (ix3 b h r)) (y (ix3 b h r)) := by
  pointwise

/-- A row's maximum over both kinds of keys. -/
theorem MX_at (b h : Fin 4) (r : Fin 4096) : MX s s' (ix4 b h r 0)
    = max (Finset.univ.fold max (Ideal.ofBits .f32 0xFF800000#32) fun y : Fin 4096 => s (ix4 b h r y))
        (Finset.univ.fold max (Ideal.ofBits .f32 0xFF800000#32) fun y : Fin 256 => s' (ix4 b h r y)) := by
  exact (max_two (ML s) (MR s') b h r).trans (congrArg₂ max (ML_at s b h r) (MR_at s' b h r))

/-- A latent key's numerator. -/
theorem PL_at (b h : Fin 4) (r x : Fin 4096) : PL s s' (ix4 b h r x)
    = Ideal.exp (s (ix4 b h r x) - MX s s' (ix4 b h r 0)) := by
  pointwise [PL]

/-- A context key's numerator. -/
theorem PX_at (b h : Fin 4) (r : Fin 4096) (x : Fin 256) : PX s s' (ix4 b h r x)
    = Ideal.exp (s' (ix4 b h r x) - MX s s' (ix4 b h r 0)) := by
  pointwise [PX]

/-- A denominator: both kinds of keys' numerators. -/
theorem DX_at (b h : Fin 4) (r : Fin 4096) : DX s s' (ix4 b h r 0)
    = (∑ x : Fin 4096, PL s s' (ix4 b h r x)) + ∑ x : Fin 256, PX s s' (ix4 b h r x) := by
  pointwise [DX]

/-- The two weighted sums of the values. -/
theorem OX_at (v : FVec Ideal S4x4352x256 .bf16) (b : Fin 4) (r : Fin 4096) (h : Fin 4) (e : Fin 64) : OX s s' v (ix4 b r h e)
    = (∑ x : Fin 4096, v (ix3 b ⟨256 + ↑x, by omega⟩ ⟨↑h * 64 + ↑e, by omega⟩)
          * Ideal.div (PL s s' (ix4 b h r x)) (DX s s' (ix4 b h r 0)))
      + ∑ x : Fin 256, v (ix3 b ⟨↑x, by omega⟩ ⟨↑h * 64 + ↑e, by omega⟩)
          * Ideal.div (PX s s' (ix4 b h r x)) (DX s s' (ix4 b h r 0)) := by
  pointwise [OX, VH]

end Cert.ReferenceIdeal.Term

end
-- ==== Proof.MlaRefRow.lean ====
/-
  The attention reference over real queries and keys: every result lane is the weighted row over its head's scores.
-/
module

public import proofs.«01_k».proof.Proof.MlaRefScores
public import proofs.«01_k».proof.Proof.MlaRefContext
public import proofs.«01_k».proof.Proof.MlaRefLatent
public import proofs.«01_k».proof.Proof.MlaMath

@[expose] public section

set_option maxRecDepth 16384

noncomputable section

open Idealize.ShloMosaic Idealize.ShloMosaic.TcCoe Idealize.SL.Sem

namespace Cert.ReferenceIdeal.Term

open Cert.ReferenceIdeal Cert.ReferenceIdeal.Gen Cert.MlaMath

variable (q k : FVec Ideal S4x4352x512 .bf16) (v : FVec Ideal S4x4352x256 .bf16)

/-- The score of row `r` over key `j` in head `h` of sequence `b`. -/
def sc (b : Fin 4) (h : Fin 4) (r j : Fin 4352) : EReal :=
  ∑ x : Fin 128, q (ix3 b r ⟨↑h * 128 + ↑x, by omega⟩) * k (ix3 b j ⟨↑h * 128 + ↑x, by omega⟩)

/-- Scores of real queries and keys are real. -/
theorem sc_real (hq : ∀ i, ∃ a : ℝ, q i = a) (hk : ∀ i, ∃ a : ℝ, k i = a) (b h : Fin 4) (r j : Fin 4352) :
    ∃ a : ℝ, sc q k b h r j = a := by
  choose f hf using hq
  choose g hg using hk
  refine ⟨∑ x : Fin 128, f (ix3 b r ⟨↑h * 128 + ↑x, by omega⟩) * g (ix3 b j ⟨↑h * 128 + ↑x, by omega⟩), ?_⟩
  simp only [sc, hf, hg, coe_sum, EReal.coe_mul]

/-- A lane's place in its head. -/
theorem lane (l : Fin 256) : (⟨↑l / 64 * 64 + ↑l % 64, by omega⟩ : Fin 256) = l := Fin.ext (by dsimp only; omega)

/-- A context row: the context keys alone. -/
theorem REF_context (hq : ∀ i, ∃ a : ℝ, q i = a) (hk : ∀ i, ∃ a : ℝ, k i = a) (b : Fin 4) (r : Fin 4352) (l : Fin 256)
    (hr : (r : ℕ) < 256) : REF q k v (ix3 b r l)
      = row (fun j : Fin 256 => sc q k b ⟨↑l / 64, by omega⟩ r ⟨↑j, by omega⟩) (fun j => v (ix3 b ⟨↑j, by omega⟩ l)) := by
  rw [REF_at, dif_pos hr, OC_at, row_one (by norm_num) _ fun j => sc_real q k hq hk _ _ _ _]
  simp only [DC_at, PC_at, SC_at, lane]
  rfl

/-- A latent row: all keys. -/
theorem REF_latent (hq : ∀ i, ∃ a : ℝ, q i = a) (hk : ∀ i, ∃ a : ℝ, k i = a) (b : Fin 4) (r : Fin 4352) (l : Fin 256)
    (hr : ¬(r : ℕ) < 256) : REF q k v (ix3 b r l)
      = row (fun j : Fin 4352 => sc q k b ⟨↑l / 64, by omega⟩ r j) (fun j => v (ix3 b j l)) := by
  have er : (⟨256 + (↑r - 256), by omega⟩ : Fin 4352) = r := Fin.ext (by dsimp only; omega)
  rw [REF_at, dif_neg hr, OX_at]
  rw [row_two _ (fun j => sc_real q k hq hk _ _ _ _) _
    (MX (SL q k) (SX q k) (ix4 b ⟨↑l / 64, by omega⟩ ⟨↑r - 256, by omega⟩ 0)) ?_
    (DX (SL q k) (SX q k) (ix4 b ⟨↑l / 64, by omega⟩ ⟨↑r - 256, by omega⟩ 0)) ?_]
  · simp only [PL_at, PX_at, SL_at, SX_at, lane, er]
    rfl
  · rw [MX_at]
    simp only [SL_at, SX_at, er]
    rfl
  · rw [DX_at]
    simp only [PL_at, PX_at, SL_at, SX_at, er]
    rfl

end Cert.ReferenceIdeal.Term

end
-- ==== Proof.MlaValue.lean ====
/-
  The attention kernel's result array is the reference's function of the three argument arrays, for real queries and keys.
-/
module

public import proofs.«01_k».proof.Proof.Gen.KernelIdeal.Value
public import proofs.«01_k».proof.Proof.MlaKernel
public import proofs.«01_k».proof.Proof.MlaRefRow
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Result

open Cert.KernelIdeal Cert.KernelIdeal.Gen Cert.KernelIdeal.Arith Cert.MlaMath

variable (m : (ℓ : Loc nD τ sig) → Buf (Elt Ideal) ℓ)

/-- Every window's block at grid point `t`: sequence `t / 34`, pair of heads `t / 17 % 2`, rows `t % 17`. -/
theorem idx : ∀ t : Fin cfg0.N, win0_0.index t = ![t.val / 34, t.val % 17, t.val / 17 % 2]
    ∧ win0_1.index t = ![t.val / 34, 0, t.val / 17 % 2] ∧ win0_2.index t = ![t.val / 34, 0, t.val / 17 % 2]
    ∧ win0_3.index t = ![t.val / 34, t.val % 17, t.val / 17 % 2] :=
  (by decide +kernel : ∀ t : Fin grid0.N, _)

/-- The result array, for real queries and keys. -/
theorem final (c : Dev nD) (hq : ∀ i : S4x4352x512.Idx, ∃ a : ℝ, (m ((c : Thread nD τ).loc main_arg0) : FVec Ideal S4x4352x512 .bf16) i = (a : EReal))
    (hk : ∀ i : S4x4352x512.Idx, ∃ a : ℝ, (m ((c : Thread nD τ).loc main_arg1) : FVec Ideal S4x4352x512 .bf16) i = (a : EReal)) : (dats m 0 c).arrAt 3 (cfgs 0).N
    = Cert.ReferenceIdeal.Term.REF (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]
  have ht : t.val < 136 := lt_of_lt_of_eq t.isLt N_0
  by_cases h0 : t.val % 17 = 0
  · rw [outsAt0_A m c t h0 (by omega)]
    frame_out
    idx_vars y
    obtain rfl : y0 = 0 := Subsingleton.elim _ _
    have e : ((View.whole main_v0).slice (win0_3.rect t)).emb (ix3 0 y1 y2)
        = ix3 ⟨t.val / 34, by omega⟩ ⟨↑y1, by omega⟩ ⟨t.val / 17 % 2 * 128 + ↑y2, by omega⟩ := by
      blk_ext [idx t]
    rw [e, Cert.ReferenceIdeal.Term.REF_context _ _ _ hq hk _ _ _ y1.isLt]
    refine (blockC _ _ _ _ _ y1 y2).trans ?_
    by_cases hl : (y2 : ℕ) < 64
    · rw [if_pos hl]
      refine congrArg₂ row (funext fun j => Finset.sum_congr rfl fun x _ => ?_) (funext fun j => ?_) <;>
        blk_point [iblk, V, idx t]
    · rw [if_neg hl]
      refine congrArg₂ row (funext fun j => Finset.sum_congr rfl fun x _ => ?_) (funext fun j => ?_) <;>
        blk_point [iblk, V, idx t]
  · rw [outsAt0_B m c t h0 (by omega)]
    frame_out
    idx_vars y
    obtain rfl : y0 = 0 := Subsingleton.elim _ _
    have e : ((View.whole main_v0).slice (win0_3.rect t)).emb (ix3 0 y1 y2)
        = ix3 ⟨t.val / 34, by omega⟩ ⟨t.val % 17 * 256 + ↑y1, by omega⟩ ⟨t.val / 17 % 2 * 128 + ↑y2, by omega⟩ := by
      blk_ext [idx t]
    rw [e, Cert.ReferenceIdeal.Term.REF_latent _ _ _ hq hk _ _ _ (by dsimp only; omega)]
    refine (blockA _ _ _ _ _ y1 y2).trans ?_
    by_cases hl : (y2 : ℕ) < 64
    · rw [if_pos hl]
      refine congrArg₂ row (funext fun j => Finset.sum_congr rfl fun x _ => ?_) (funext fun j => ?_) <;>
        blk_point [iblk, V, idx t]
    · rw [if_neg hl]
      refine congrArg₂ row (funext fun j => Finset.sum_congr rfl fun x _ => ?_) (funext fun j => ?_) <;>
        blk_point [iblk, V, idx t]

end Cert.KernelIdeal.Result

end
-- ==== Proof.Finite.lean ====
/-
  The precondition read back: where `finite_qk` holds, every query and every key is a real number.
-/
module

public import proofs.«01_k».proof.Proof.Gen.Pre_finite_qk
public import Idealize.ShloMosaic.Lib.ReduceAll
public import Idealize.ShloMosaic.Lib.Pointwise
public import Idealize.ShloMosaic.PureOps.Ideal

@[expose] public section

set_option maxRecDepth 16384

noncomputable section

open Idealize.ShloMosaic

namespace Cert.Pre_finite_qk.Read

open Cert.Pre_finite_qk Cert.Pre_finite_qk.Gen

instance : Subsingleton S_.Idx := ⟨fun a b => funext fun i => i.elim0⟩

/-- The binary32 word the predicate compares with is positive infinity. -/
theorem top_bits : Ideal.ofBits .f32 0x7F800000#32 = ⊤ := by
  simp [Ideal.ofBits, Ideal.ieee]

/-- A number of magnitude below infinity is real. -/
theorem real_of_abs_lt (x : EReal) (h : max x (-x) < ⊤) : ∃ a : ℝ, x = (a : EReal) := by
  induction x using EReal.rec with
  | bot => simp at h
  | coe a => exact ⟨a, rfl⟩
  | top => simp at h

/-- An array whose comparison with infinity is all ones holds real numbers. -/
theorem real_of_all (x : FVec Ideal S4x4352x512 .bf16)
    (e : Host.reduce IntOp.andi (cmpf .olt (Host.absf (extf .f32 x Facts.bitsLt_bf16_f32))
      (broadcastInDim S4x4352x512 ![] Facts.bcast_S_S4x4352x512 (constant (F := Ideal) S_ .f32 0x7F800000#32)))
      (constantI S_ 1 1#1) Facts.reducesTo_S4x4352x512_S_d0_1_2 Facts.h_S_ (Shape.Idx.first Facts.h_S_) = 1#1)
    (i : S4x4352x512.Idx) : ∃ a : ℝ, x i = (a : EReal) := by
  have h := Host.reduce_andi_all _ _ _ _ _ e i
  have h' : BitVec.ofBool (decide (max (x i) (-(x i)) < Ideal.ofBits .f32 0x7F800000#32)) = 1#1 := h
  rw [top_bits] at h'
  by_contra hn
  rw [decide_eq_false fun hlt => hn (real_of_abs_lt _ hlt)] at h'
  exact absurd h' (by decide)

/-- Where the precondition holds, queries and keys are real. -/
theorem real (q k : FVec Ideal S4x4352x512 .bf16) (v : FVec Ideal S4x4352x256 .bf16)
    (h : Cert.Pre_finite_qk.fn (F := Ideal) q k v = fun _ => 1#1) :
    (∀ i, ∃ a : ℝ, q i = (a : EReal)) ∧ ∀ i, ∃ a : ℝ, k i = (a : EReal) := by
  have h0 := congrFun h (Shape.Idx.first Facts.h_S_)
  obtain ⟨e0, e1⟩ := IntOp.andi_eq_one.1 h0
  exact ⟨real_of_all q e0, real_of_all k e1⟩

end Cert.Pre_finite_qk.Read

end
-- ==== Proof.MlaClaim.lean ====
/-
  The attention call: its claims.
-/
module

public import proofs.«01_k».proof.Defs
public import proofs.«01_k».proof.Proof.MlaValue
public import proofs.«01_k».proof.Proof.Finite
public import Idealize.ShloMosaic.Lib.Quiescent

@[expose] public section

noncomputable section

open Idealize.ShloMosaic Idealize.ShloMosaic.TcCoe Idealize.SL.Sem

namespace Cert.Claims

/-- The reference runs, leaves its arguments and ends with no signal outstanding. -/
theorem mla_reference_frame (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) ∧ r.2.sem = fun _ => 0) :=
  (θ_run Cert.ReferenceIdeal.defs _ _).mono (fun r h => ⟨fun c => (h c).2, sem_eq_zero_of_no_sems (by decide) r.2⟩) (Cert.ReferenceIdeal.Value.run (F := Ideal) m ρ)

/-- For real queries and keys, kernel and reference end with the same array. -/
theorem mla_algebraic : Cert.algebraic_KernelIdeal_ReferenceIdeal_pre_finite_qk := by
  intro m ρ m' ρ' pre hag
  refine ⟨fun c => Cert.ReferenceIdeal.Term.REF (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)), ?_, ?_⟩
  · exact (θ_run Cert.KernelIdeal.defs _ _).mono (fun _ h c => ⟨(h c).1.trans (Cert.KernelIdeal.Result.final m c (Cert.Pre_finite_qk.Read.real _ _ _ (pre c)).1 (Cert.Pre_finite_qk.Read.real _ _ _ (pre c)).2), (h c).2⟩) (Cert.KernelIdeal.Value.run_blocks m ρ)
  · refine (θ_run Cert.ReferenceIdeal.defs _ _).mono (fun _ h c => ⟨(h c).1.trans ?_, (h c).2⟩) (Cert.ReferenceIdeal.Value.run (F := Ideal) m' ρ')
    refine (Cert.ReferenceIdeal.Term.res_eq m' c).trans ?_
    rw [(hag c).1, (hag c).2.1, (hag c).2.2]

end Cert.Claims

end
-- ==== Proof.FfnRef.lean ====
/-
  The feed-forward reference: its result as one function of the argument arrays, and that function read at an index.
-/
module

public import proofs.«01_k».proof.Proof.Gen.FfnRefIdeal.Run
public import Idealize.ShloMosaic.Lib.Pointwise
public import Idealize.ShloMosaic.PureOps.Ideal

@[expose] public section

set_option maxRecDepth 16384

noncomputable section

open Idealize.ShloMosaic Idealize.ShloMosaic.TcCoe Idealize.SL.Sem

namespace Cert.FfnRefIdeal.Term

open Cert.FfnRefIdeal Cert.FfnRefIdeal.Gen

/-- A row's product with a column of an up-projection. -/
def UP (x : FVec Ideal S4x4352x1024 .bf16) (w : FVec Ideal S2x1024x3584 .bf16) : FVec Ideal S17408x3584 .f32 :=
  Host.dotGeneral dot_S17408x1024_S1024x3584_S17408x3584_1_0_0_1_n_n none (shapeCast _ (extf .f32 x bitsLt_bf16_f32) shapeCasts_S4x4352x1024_S17408x1024) (extf .f32 (shapeCast _ (extractStridedSlice S1x1024x3584 ![0, 0, 0] w slices_S2x1024x3584_S1x1024x3584_0_0_0) shapeCasts_S1x1024x3584_S1024x3584) bitsLt_bf16_f32)

/-- The gated hidden units. -/
def ACT (g u : FVec Ideal S17408x3584 .f32) : FVec Ideal S17408x3584 .f32 :=
  mulf (mulf g (Host.divf (broadcastInDim S17408x3584 ![] bcast_S_S17408x3584 (constant S_ .f32 0x3F800000#32)) (addf (broadcastInDim S17408x3584 ![] bcast_S_S17408x3584 (constant S_ .f32 0x3F800000#32)) (Host.exp (Host.negf g))))) u

/-- The down-projection. -/
def DOWN (a : FVec Ideal S17408x3584 .f32) (w : FVec Ideal S2x3584x1024 .bf16) : FVec Ideal S17408x1024 .f32 :=
  Host.dotGeneral dot_S17408x3584_S3584x1024_S17408x1024_1_0_0_1_n_n none a (extf .f32 (shapeCast _ (extractStridedSlice S1x3584x1024 ![0, 0, 0] w slices_S2x3584x1024_S1x3584x1024_0_0_0) shapeCasts_S1x3584x1024_S3584x1024) bitsLt_bf16_f32)

/-- The residual: context rows with the context's gate, latent rows with the latents'. -/
def RES (y : FVec Ideal S17408x1024 .f32) (r : FVec Ideal S4x4352x1024 .f32) (p : FVec Ideal S4x2x8x1024 .f32) : FVec Ideal S17408x1024 .f32 :=
  shapeCast _ (concatenate S4x4352x1024 1 [⟨S4x256x1024, (addf (extractStridedSlice S4x256x1024 ![0, 0, 0] r slices_S4x4352x1024_S4x256x1024_0_0_0) (mulf (broadcastInDim S4x256x1024 ![0, 1, 2] bcast_S4x1x1024_S4x256x1024_0_1_2 (broadcastInDim S4x1x1024 ![0, 2] bcast_S4x1024_S4x1x1024_0_2 (shapeCast _ (extractStridedSlice S4x1x1x1024 ![0, 0, 5, 0] p slices_S4x2x8x1024_S4x1x1x1024_0_0_5_0) shapeCasts_S4x1x1x1024_S4x1024))) (extractStridedSlice S4x256x1024 ![0, 0, 0] (shapeCast _ y shapeCasts_S17408x1024_S4x4352x1024) slices_S4x4352x1024_S4x256x1024_0_0_0)))⟩, ⟨S4x4096x1024, (addf (extractStridedSlice S4x4096x1024 ![0, 256, 0] r slices_S4x4352x1024_S4x4096x1024_0_256_0) (mulf (broadcastInDim S4x4096x1024 ![0, 1, 2] bcast_S4x1x1024_S4x4096x1024_0_1_2 (broadcastInDim S4x1x1024 ![0, 2] bcast_S4x1024_S4x1x1024_0_2 (shapeCast _ (extractStridedSlice S4x1x1x1024 ![0, 1, 5, 0] p slices_S4x2x8x1024_S4x1x1x1024_0_1_5_0) shapeCasts_S4x1x1x1024_S4x1024))) (extractStridedSlice S4x4096x1024 ![0, 256, 0] (shapeCast _ y shapeCasts_S17408x1024_S4x4352x1024) slices_S4x4352x1024_S4x4096x1024_0_256_0)))⟩] concatenates_S4x256x1024_S4x4096x1024_S4x4352x1024_d1) shapeCasts_S4x4352x1024_S17408x1024

/-- The reference's function of its six arguments: rows, residual, modulation, the two up-projections, the down-projection. -/
def REF (x : FVec Ideal S4x4352x1024 .bf16) (r : FVec Ideal S4x4352x1024 .f32) (p : FVec Ideal S4x2x8x1024 .f32)
    (w1 w3 : FVec Ideal S2x1024x3584 .bf16) (w2 : FVec Ideal S2x3584x1024 .bf16) : FVec Ideal S17408x1024 .f32 :=
  RES (DOWN (ACT (UP x w1) (UP x w3)) w2) r p

theorem res_eq (m : (ℓ : Loc nD τ sig) → Buf (Elt Ideal) ℓ) (c : Dev nD) : Value.res_out0 m c
    = REF (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := rfl

/-- A gated unit of its two products. -/
def unit (g u : EReal) : EReal := g * Ideal.div 1 (1 + Ideal.exp (-g)) * u

theorem UP_at (x : FVec Ideal S4x4352x1024 .bf16) (w : FVec Ideal S2x1024x3584 .bf16) (R : Fin 17408) (f : Fin 3584) :
    UP x w (ix2 R f) = ∑ d : Fin 1024, x (ix3 ⟨↑R / 4352, by omega⟩ ⟨↑R % 4352, by omega⟩ d) * w (ix3 0 d f) := by
  pointwise [UP]

theorem ACT_at (g u : FVec Ideal S17408x3584 .f32) (R : Fin 17408) (f : Fin 3584) :
    ACT g u (ix2 R f) = unit (g (ix2 R f)) (u (ix2 R f)) := by
  pointwise [ACT, unit]

theorem DOWN_at (a : FVec Ideal S17408x3584 .f32) (w : FVec Ideal S2x3584x1024 .bf16) (R : Fin 17408) (e : Fin 1024) :
    DOWN a w (ix2 R e) = ∑ f : Fin 3584, a (ix2 R f) * w (ix3 0 f e) := by
  pointwise [DOWN]

theorem RES_at (y : FVec Ideal S17408x1024 .f32) (r : FVec Ideal S4x4352x1024 .f32) (p : FVec Ideal S4x2x8x1024 .f32)
    (R : Fin 17408) (e : Fin 1024) : RES y r p (ix2 R e)
      = r (ix3 ⟨↑R / 4352, by omega⟩ ⟨↑R % 4352, by omega⟩ e)
        + p (ix4 ⟨↑R / 4352, by omega⟩ (if (R : ℕ) % 4352 < 256 then 0 else 1) 5 e) * y (ix2 R e) := by
  pointwise [RES]
  have e0 (h : ¬(R : ℕ) % 4352 < 256) : (⟨256 + (↑R % 4352 - 256), by omega⟩ : Fin 4352) = ⟨↑R % 4352, by omega⟩ :=
    Fin.ext (by dsimp only; omega)
  have e1 (h : ¬(R : ℕ) % 4352 < 256) : (⟨↑R / 4352 * 4352 + (256 + (↑R % 4352 - 256)), by omega⟩ : Fin 17408) = R :=
    Fin.ext (by dsimp only; omega)
  by_cases h : (R : ℕ) % 4352 < 256
  · rw [dif_pos h, if_pos h]
  · rw [dif_neg h, if_neg h]
    exact congrArg₂ (fun a b => r (ix3 ⟨↑R / 4352, by omega⟩ a e) + p (ix4 ⟨↑R / 4352, by omega⟩ 1 5 e) * y (ix2 b e)) (e0 h) (e1 h)

end Cert.FfnRefIdeal.Term

end
-- ==== Proof.FfnKernel.lean ====
/-
  The feed-forward kernel's arithmetic, read at an index: a block of 512 rows, the hidden units in seven chunks.
-/
module

public import proofs.«01_k».proof.Proof.Gen.FfnIdeal.Frame
public import proofs.«01_k».proof.Proof.FfnRef
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.FfnIdeal.Arith

open Cert.FfnIdeal Cert.FfnIdeal.Gen
open Cert.FfnRefIdeal.Term (unit)

/-- The rows' products with a chunk of an up-projection. -/
def up (x : FVec Ideal S512x1024 .bf16) (w : FVec Ideal S1x1024x512 .bf16) : FVec Ideal S512x512 .f32 :=
  matmul dot_S512x1024_S1024x512_S512x512_1_0_0_1_n_n none (k0_pay4 x) (shapeCast S1024x512 w shapeCasts_S1x1024x512_S1024x512)
    (constant S512x512 .f32 0x00000000#32)

/-- The chunk's gated hidden units. -/
def act (g u : FVec Ideal S512x512 .f32) : FVec Ideal S512x512 .f32 :=
  mulf (mulf g (divf (broadcast S512x512 (Scalar.ofBits .f32 0x3F800000#32)) (addf (broadcast S512x512 (Scalar.ofBits .f32 0x3F800000#32))
    (exp (subf (broadcast S512x512 (Scalar.ofBits .f32 0x00000000#32)) g))))) u

/-- The chunk's part of the down-projection. -/
def down (a : FVec Ideal S512x512 .f32) (w : FVec Ideal S1x512x1024 .bf16) : FVec Ideal S512x1024 .f32 :=
  matmul dot_S512x512_S512x1024_S512x1024_1_0_0_1_n_n none (truncf .bf16 a bitsLt_bf16_f32)
    (shapeCast S512x1024 w shapeCasts_S1x512x1024_S512x1024) (constant S512x1024 .f32 0x00000000#32)

/-- A chunk. -/
def chunk (x : Vec Ideal S512x1024 .bf16) (w1 w3 : Vec Ideal S1x1024x512 .bf16) (w2 : Vec Ideal S1x512x1024 .bf16) :
    FVec Ideal S512x1024 .f32 := down (act (up x w1) (up x w3)) w2

/-- The accumulated block: zero and the seven chunks. -/
def total (x0 : Vec Ideal S512x1024 .bf16) (x4 x5 : Vec Ideal S1x1024x3584 .bf16) (x6 : Vec Ideal S1x3584x1024 .bf16) :
    FVec Ideal S512x1024 .f32 :=
  (addf (addf (addf (addf (addf (addf (addf (broadcast S512x1024 (Scalar.ofBits .f32 0x00000000#32)) (chunk (View.ld x0 r0_0) (View.ld x4 r0_1) (View.ld x5 r0_1) (View.ld x6 r0_2))) (chunk (View.ld x0 r0_0) (View.ld x4 r0_3) (View.ld x5 r0_3) (View.ld x6 r0_4))) (chunk (View.ld x0 r0_0) (View.ld x4 r0_5) (View.ld x5 r0_5) (View.ld x6 r0_6))) (chunk (View.ld x0 r0_0) (View.ld x4 r0_7) (View.ld x5 r0_7) (View.ld x6 r0_8))) (chunk (View.ld x0 r0_0) (View.ld x4 r0_9) (View.ld x5 r0_9) (View.ld x6 r0_10))) (chunk (View.ld x0 r0_0) (View.ld x4 r0_11) (View.ld x5 r0_11) (View.ld x6 r0_12))) (chunk (View.ld x0 r0_0) (View.ld x4 r0_13) (View.ld x5 r0_13) (View.ld x6 r0_14)))

theorem total_eq (x0 : Vec Ideal S512x1024 .bf16) (x1 : Vec Ideal S512x1024 .f32) (x2 x3 : Vec Ideal S1x1x8x1024 .f32)
    (x4 x5 : Vec Ideal S1x1024x3584 .bf16) (x6 : Vec Ideal S1x3584x1024 .bf16) :
    k0_pay1 (F := Ideal) (k0_pay20 x0 x1 x2 x3 x4 x5 x6) (k0_pay21 x0 x1 x2 x3 x4 x5 x6) (k0_pay22 x0 x1 x2 x3 x4 x5 x6)
      (k0_pay23 x0 x1 x2 x3 x4 x5 x6) (k0_pay24 x0 x1 x2 x3 x4 x5 x6) (View.ld x6 r0_14) = total x0 x4 x5 x6 := rfl

theorem up_at (x : FVec Ideal S512x1024 .bf16) (w : FVec Ideal S1x1024x512 .bf16) (r f : Fin 512) :
    up x w (ix2 r f) = ∑ d : Fin 1024, x (ix2 r d) * w (ix3 0 d f) := by
  pointwise [up, k0_pay4]

theorem act_at (g u : FVec Ideal S512x512 .f32) (r f : Fin 512) : act g u (ix2 r f) = unit (g (ix2 r f)) (u (ix2 r f)) := by
  pointwise [act, unit]
  rw [zero_sub]

theorem down_at (a : FVec Ideal S512x512 .f32) (w : FVec Ideal S1x512x1024 .bf16) (r : Fin 512) (e : Fin 1024) :
    down a w (ix2 r e) = ∑ f : Fin 512, a (ix2 r f) * w (ix3 0 f e) := by
  pointwise [down]

/-- A hidden unit of row `r` times its down-projection. -/
def part (x0 : Vec Ideal S512x1024 .bf16) (x4 x5 : Vec Ideal S1x1024x3584 .bf16) (x6 : Vec Ideal S1x3584x1024 .bf16)
    (r : Fin 512) (e : Fin 1024) (f : Fin 3584) : EReal :=
  unit (∑ d : Fin 1024, x0 (ix2 r d) * x4 (ix3 0 d f)) (∑ d : Fin 1024, x0 (ix2 r d) * x5 (ix3 0 d f)) * x6 (ix3 0 f e)

theorem chunk_at (x : Vec Ideal S512x1024 .bf16) (w1 w3 : Vec Ideal S1x1024x512 .bf16) (w2 : Vec Ideal S1x512x1024 .bf16)
    (r : Fin 512) (e : Fin 1024) : chunk x w1 w3 w2 (ix2 r e)
      = ∑ f : Fin 512, unit (∑ d : Fin 1024, x (ix2 r d) * w1 (ix3 0 d f)) (∑ d : Fin 1024, x (ix2 r d) * w3 (ix3 0 d f)) * w2 (ix3 0 f e) := by
  unfold chunk
  simp only [down_at, act_at, up_at]

/-- The block's entry: the sum over all 3584 hidden units. -/
theorem total_at (x0 : Vec Ideal S512x1024 .bf16) (x4 x5 : Vec Ideal S1x1024x3584 .bf16) (x6 : Vec Ideal S1x3584x1024 .bf16)
    (r : Fin 512) (e : Fin 1024) : total x0 x4 x5 x6 (ix2 r e) = ∑ f : Fin 3584, part x0 x4 x5 x6 r e f := by
  rw [Fin.sum_univ_tiles 7 512 rfl (part x0 x4 x5 x6 r e)]
  simp only [Fin.sum_univ_seven]
  pointwise [total]
  simp only [chunk_at]
  refine congrArg₂ (· + ·) (congrArg₂ (· + ·) (congrArg₂ (· + ·) (congrArg₂ (· + ·) (congrArg₂ (· + ·) (congrArg₂ (· + ·)
    ?_ ?_) ?_) ?_) ?_) ?_) ?_ <;>
  · refine Finset.sum_congr rfl fun f _ => ?_
    unfold part
    blk_point [] <;>
    · refine View.ld_unit_apply_of _ _ _ _ _ _ fun a => ?_
      fin_cases a <;> simp

end Cert.FfnIdeal.Arith

end
-- ==== Proof.FfnValue.lean ====
/-
  The feed-forward kernel: its result array is the reference's function of the six argument arrays.
-/
module

public import proofs.«01_k».proof.Proof.Gen.FfnIdeal.Value
public import proofs.«01_k».proof.Proof.FfnKernel
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FfnIdeal.Result

open Cert.FfnIdeal Cert.FfnIdeal.Gen Cert.FfnIdeal.Arith

/-- The block's first 256 rows: the residual and the gated down-projection. -/
theorem upper_at (a : FVec Ideal S512x1024 .f32) (g u g' u' : FVec Ideal S512x512 .f32) (w : Vec Ideal S1x512x1024 .bf16)
    (x : Vec Ideal S256x1024 .f32) (p : Vec Ideal S1x1x1x1024 .f32) (r : Fin 256) (e : Fin 1024) :
    k0_pay2 (F := Ideal) a g u g' u' w x p (ix2 r e)
      = x (ix2 r e) + p (ix4 0 0 0 e) * k0_pay1 (F := Ideal) a g u g' u' w (ix2 ⟨r, by omega⟩ e) := by
  pointwise [k0_pay2]

/-- The other 256 rows. -/
theorem lower_at (a : FVec Ideal S512x1024 .f32) (g u g' u' : FVec Ideal S512x512 .f32) (w : Vec Ideal S1x512x1024 .bf16)
    (x : Vec Ideal S256x1024 .f32) (p : Vec Ideal S1x1x1x1024 .f32) (r : Fin 256) (e : Fin 1024) :
    k0_pay3 (F := Ideal) a g u g' u' w x p (ix2 r e)
      = x (ix2 r e) + p (ix4 0 0 0 e) * k0_pay1 (F := Ideal) a g u g' u' w (ix2 ⟨256 + r, by omega⟩ e) := by
  pointwise [k0_pay3]

/-- A row of the block: its residual plus its gate (of its half) times its down-projection. -/
theorem out_at (x0 : Vec Ideal S512x1024 .bf16) (x1 : Vec Ideal S512x1024 .f32) (x2 x3 : Vec Ideal S1x1x8x1024 .f32)
    (x4 x5 : Vec Ideal S1x1024x3584 .bf16) (x6 : Vec Ideal S1x3584x1024 .bf16) (r : Fin 512) (e : Fin 1024) :
    out0_7 (F := Ideal) x0 x1 x2 x3 x4 x5 x6 (ix2 r e)
      = x1 (ix2 r e) + (if (r : ℕ) < 256 then x2 (ix4 0 0 5 e) else x3 (ix4 0 0 5 e))
          * ∑ f : Fin 3584, part x0 x4 x5 x6 r e f := by
  rw [← total_at]
  canon_tiles x h
  · obtain ⟨a, b, rfl⟩ : ∃ (a : Fin 256) (b : Fin 1024), x = ix2 a b := ⟨x 0, x 1, by funext i; fin_cases i <;> rfl⟩
    have hr : (r : ℕ) = 256 + a := h0
    obtain rfl : e = b := Fin.ext h1
    rw [lower_at, total_eq, if_neg (by omega)]
    blk_point [] <;>
    · refine View.ld_unit_apply_of _ _ _ _ _ _ fun i => ?_
      fin_cases i <;> simp [hr]
  · obtain ⟨a, b, rfl⟩ : ∃ (a : Fin 256) (b : Fin 1024), x = ix2 a b := ⟨x 0, x 1, by funext i; fin_cases i <;> rfl⟩
    have hr : (r : ℕ) = a := h0
    obtain rfl : e = b := Fin.ext h1
    rw [upper_at, total_eq, if_pos (by omega)]
    blk_point [] <;>
    · refine View.ld_unit_apply_of _ _ _ _ _ _ fun i => ?_
      fin_cases i <;> simp [hr]

variable (m : (ℓ : Loc nD τ sig) → Buf (Elt Ideal) ℓ)

/-- Every window's block at grid point `t`. -/
theorem idx : ∀ t : Fin cfg0.N, win0_0.index t = ![t.val, 0] ∧ win0_1.index t = ![t.val, 0]
    ∧ win0_2.index t = ![2 * t.val / 17, (if 2 * t.val % 17 = 0 then 0 else 1), 0, 0]
    ∧ win0_3.index t = ![(2 * t.val + 1) / 17, (if (2 * t.val + 1) % 17 = 0 then 0 else 1), 0, 0]
    ∧ win0_4.index t = ![0, 0, 0] ∧ win0_5.index t = ![0, 0, 0] ∧ win0_6.index t = ![0, 0, 0]
    ∧ win0_7.index t = ![t.val, 0] :=
  (by decide +kernel : ∀ t : Fin grid0.N, _)

/-- A row of block `t` against row `512 t + r` of the reference. -/
theorem row (c : Dev nD) (t : Fin cfg0.N) (r : Fin 512) (e : Fin 1024) (R : Fin 17408) (hR : (R : ℕ) = 512 * t.val + r) :
    out0_7 (iblk m c 0 t) (iblk m c 1 t) (iblk m c 2 t) (iblk m c 3 t) (iblk m c 4 t) (iblk m c 5 t) (iblk m c 6 t) (ix2 r e)
      = Cert.FfnRefIdeal.Term.REF (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) (ix2 R e) := by
  rw [out_at]
  unfold Cert.FfnRefIdeal.Term.REF
  rw [Cert.FfnRefIdeal.Term.RES_at, Cert.FfnRefIdeal.Term.DOWN_at]
  simp only [Cert.FfnRefIdeal.Term.ACT_at, Cert.FfnRefIdeal.Term.UP_at]
  have ht : t.val < 34 := lt_of_lt_of_eq t.isLt N_0
  refine congrArg₂ (· + ·) ?_ (congrArg₂ (· * ·) ?_ (Finset.sum_congr rfl fun f _ => ?_))
  · blk_point [iblk, V, idx t]
  · have hi := idx t
    by_cases hr : (r : ℕ) < 256
    · rw [if_pos hr]
      by_cases h : 2 * t.val % 17 = 0
      · rw [if_pos h] at hi
        rw [if_pos (by omega)]
        blk_ext [iblk, V, hi]
      · rw [if_neg h] at hi
        rw [if_neg (by omega)]
        blk_ext [iblk, V, hi]
    · rw [if_neg hr]
      by_cases h : (2 * t.val + 1) % 17 = 0
      · rw [if_pos h] at hi
        rw [if_pos (by omega)]
        blk_ext [iblk, V, hi]
      · rw [if_neg h] at hi
        rw [if_neg (by omega)]
        blk_ext [iblk, V, hi]
  · unfold part
    blk_point [iblk, V, idx t]

/-- The kernel's result array. -/
theorem final (c : Dev nD) : (dats m 0 c).arrAt 7 (cfgs 0).N
    = Cert.FfnRefIdeal.Term.REF (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) := by
  refine (dats m 0 c).arrAt_eq_of_covers 7 _ (by decide +kernel) fun t _ y => ?_
  have ht : t.val < 34 := lt_of_lt_of_eq t.isLt N_0
  blk_simp
  rw [after0_7]
  idx_vars y
  refine (row m c t y0 y1 ⟨512 * t.val + y0, by omega⟩ rfl).trans (congrArg _ ?_)
  blk_ext [idx t]

end Cert.FfnIdeal.Result

end
-- ==== Proof.FfnClaim.lean ====
/-
  The dense feed-forward call: its claims.
-/
module

public import proofs.«01_k».proof.Defs
public import proofs.«01_k».proof.Proof.FfnValue
public import Idealize.ShloMosaic.Lib.Quiescent

@[expose] public section

noncomputable section

open Idealize.ShloMosaic Idealize.ShloMosaic.TcCoe Idealize.SL.Sem

namespace Cert.Claims

/-- The reference runs, leaves its arguments and ends with no signal outstanding. -/
theorem ffn_reference_frame (m : (ℓ : Loc Cert.FfnRefIdeal.nD Cert.FfnRefIdeal.τ Cert.FfnRefIdeal.sig) → Buf (Elt Ideal) ℓ) (ρ : Dev Cert.FfnRefIdeal.nD → PrngReg) :
    θ_run (Cert.FfnRefIdeal.defs (F := Ideal)) (onTc (τ := Cert.FfnRefIdeal.τ) (Cert.FfnRefIdeal.main (F := Ideal))) ⟨m, fun _ => 0, ρ⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)) ∧ r.2.sem = fun _ => 0) :=
  (θ_run Cert.FfnRefIdeal.defs _ _).mono (fun r h => ⟨fun c => (h c).2, sem_eq_zero_of_no_sems (by decide) r.2⟩) (Cert.FfnRefIdeal.Value.run (F := Ideal) m ρ)

/-- Kernel and reference end with the same array. -/
theorem ffn_algebraic : Cert.algebraic_FfnIdeal_FfnRefIdeal := by
  intro m ρ m' ρ' pre hag
  refine ⟨fun c => Cert.FfnRefIdeal.Term.REF (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)), ?_, ?_⟩
  · exact (θ_run Cert.FfnIdeal.defs _ _).mono (fun _ h c => ⟨(h c).1.trans (Cert.FfnIdeal.Result.final m c), (h c).2⟩) (Cert.FfnIdeal.Value.run_blocks m ρ)
  · refine (θ_run Cert.FfnRefIdeal.defs _ _).mono (fun _ h c => ⟨(h c).1.trans ?_, (h c).2⟩) (Cert.FfnRefIdeal.Value.run (F := Ideal) m' ρ')
    refine (Cert.FfnRefIdeal.Term.res_eq m' c).trans ?_
    rw [(hag c).1, (hag c).2.1, (hag c).2.2.1, (hag c).2.2.2.1, (hag c).2.2.2.2.1, (hag c).2.2.2.2.2]

end Cert.Claims

end
-- ==== Proof.LastRef.lean ====
/-
  The last residual's reference as one function of its six arrays: the residual stream after the gated experts
  (`HN`), then its root mean square norm times the gain (`REF`).
-/
module

public import proofs.«01_k».proof.Proof.Gen.LastRefIdeal.Run
public import Idealize.ShloMosaic.PureOps.Ideal

@[expose] public section

set_option maxRecDepth 16384

noncomputable section

open Idealize.ShloMosaic Idealize.ShloMosaic.TcCoe Idealize.SL.Sem

namespace Cert.LastRefIdeal.Term

open Cert.LastRefIdeal Cert.LastRefIdeal.Gen

/-- The residual stream's latent rows, with the two experts' outputs weighted by their gates added under the modulation. -/
def HN (h f0 f1 : FVec Ideal S4x4352x1024 .f32) (g : FVec Ideal S4x4352x128 .f32) (md : FVec Ideal S4x2x8x1024 .f32) :
    FVec Ideal S4x4096x1024 .f32 :=
  addf (extractStridedSlice S4x4096x1024 ![0, 256, 0] h slices_S4x4352x1024_S4x4096x1024_0_256_0) (mulf (broadcastInDim S4x4096x1024 ![0, 1, 2] bcast_S4x1x1024_S4x4096x1024_0_1_2 (broadcastInDim S4x1x1024 ![0, 2] bcast_S4x1024_S4x1x1024_0_2 (shapeCast _ (extractStridedSlice S4x1x1x1024 ![0, 1, 5, 0] md slices_S4x2x8x1024_S4x1x1x1024_0_1_5_0) shapeCasts_S4x1x1x1024_S4x1024))) (addf (mulf (broadcastInDim S4x4096x1024 ![0, 1, 2] bcast_S4x4096x1_S4x4096x1024_0_1_2 (extractStridedSlice S4x4096x1 ![0, 256, 0] g slices_S4x4352x128_S4x4096x1_0_256_0)) (extractStridedSlice S4x4096x1024 ![0, 256, 0] f0 slices_S4x4352x1024_S4x4096x1024_0_256_0)) (mulf (broadcastInDim S4x4096x1024 ![0, 1, 2] bcast_S4x4096x1_S4x4096x1024_0_1_2 (extractStridedSlice S4x4096x1 ![0, 256, 1] g slices_S4x4352x128_S4x4096x1_0_256_1)) (extractStridedSlice S4x4096x1024 ![0, 256, 0] f1 slices_S4x4352x1024_S4x4096x1024_0_256_0))))

/-- The reference's result. -/
def REF (h f0 f1 : FVec Ideal S4x4352x1024 .f32) (g : FVec Ideal S4x4352x128 .f32) (md : FVec Ideal S4x2x8x1024 .f32)
    (gn : FVec Ideal S1x1024 .f32) : FVec Ideal S4x4096x1024 .f32 :=
  mulf (mulf (HN h f0 f1 g md) (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf (HN h f0 f1 g md) (HN h f0 f1 g md)) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 (shapeCast _ gn shapeCasts_S1x1024_S1024)))

variable (m : (ℓ : Loc nD τ sig) → Buf (Elt Ideal) ℓ)

/-- The run's result is that function of the arguments. -/
theorem res_eq (c : Dev nD) : Value.res_out0 m c
    = REF (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)) := rfl

end Cert.LastRefIdeal.Term

end
-- ==== Proof.LastValue.lean ====
/-
  The last residual's kernel: its result array is the reference's function of the six argument arrays.
-/
module

public import proofs.«01_k».proof.Proof.Gen.LastIdeal.Value
public import proofs.«01_k».proof.Proof.LastRef
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.LastIdeal.Result

open Cert.LastIdeal Cert.LastIdeal.Gen

variable (m : (ℓ : Loc nD τ sig) → Buf (Elt Ideal) ℓ)

/-- Every window's block at grid point `t`: batch `t / 16`, latent tile `t % 16` (the inputs one tile later). -/
theorem idx : ∀ t : Fin cfg0.N, win0_0.index t = ![t.val / 16, t.val % 16 + 1, 0]
    ∧ win0_1.index t = ![t.val / 16, t.val % 16 + 1, 0] ∧ win0_2.index t = ![t.val / 16, t.val % 16 + 1, 0]
    ∧ win0_3.index t = ![t.val / 16, t.val % 16 + 1, 0] ∧ win0_4.index t = ![t.val / 16, 1, 0, 0]
    ∧ win0_5.index t = ![0, 0] ∧ win0_6.index t = ![t.val / 16, t.val % 16, 0] :=
  (by decide +kernel : ∀ t : Fin grid0.N, _)

/-- The kernel's result array. -/
theorem final (c : Dev nD) : (dats m 0 c).arrAt 6 (cfgs 0).N
    = Cert.LastRefIdeal.Term.REF (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) := by
  refine (dats m 0 c).arrAt_eq_of_covers 6 _ (by decide +kernel) fun t _ y => ?_
  blk_simp
  rw [after0_6]
  frame_out
  idx_vars y
  pointwise [k0_pay1, k0_pay2, Cert.LastRefIdeal.Term.REF, Cert.LastRefIdeal.Term.HN]
  blk_point [iblk, V, idx t]

end Cert.LastIdeal.Result

end
-- ==== Proof.LastClaim.lean ====
/-
  The last residual: its claims.
-/
module

public import proofs.«01_k».proof.Defs
public import proofs.«01_k».proof.Proof.LastValue
public import Idealize.ShloMosaic.Lib.Quiescent

@[expose] public section

noncomputable section

open Idealize.ShloMosaic Idealize.ShloMosaic.TcCoe Idealize.SL.Sem

namespace Cert.Claims

/-- The reference runs, leaves its arguments and ends with no signal outstanding. -/
theorem last_reference_frame (m : (ℓ : Loc Cert.LastRefIdeal.nD Cert.LastRefIdeal.τ Cert.LastRefIdeal.sig) → Buf (Elt Ideal) ℓ) (ρ : Dev Cert.LastRefIdeal.nD → PrngReg) :
    θ_run (Cert.LastRefIdeal.defs (F := Ideal)) (onTc (τ := Cert.LastRefIdeal.τ) (Cert.LastRefIdeal.main (F := Ideal))) ⟨m, fun _ => 0, ρ⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4)
      ∧ r.2.mem ((c.tc : Thread Cert.LastRefIdeal.nD Cert.LastRefIdeal.τ).loc Cert.LastRefIdeal.main_arg5) = m ((c.tc : Thread Cert.LastRefIdeal.nD Cert.LastRefIdeal.τ).loc Cert.LastRefIdeal.main_arg5)) ∧ r.2.sem = fun _ => 0) :=
  (θ_run Cert.LastRefIdeal.defs _ _).mono (fun r h => ⟨fun c => (h c).2, sem_eq_zero_of_no_sems (by decide) r.2⟩) (Cert.LastRefIdeal.Value.run (F := Ideal) m ρ)

/-- Kernel and reference end with the same array. -/
theorem last_algebraic : Cert.algebraic_LastIdeal_LastRefIdeal := by
  intro m ρ m' ρ' pre hag
  refine ⟨fun c => Cert.LastRefIdeal.Term.REF (m ((c.tc : Thread Cert.LastIdeal.nD Cert.LastIdeal.τ).loc Cert.LastIdeal.main_arg0)) (m ((c.tc : Thread Cert.LastIdeal.nD Cert.LastIdeal.τ).loc Cert.LastIdeal.main_arg1)) (m ((c.tc : Thread Cert.LastIdeal.nD Cert.LastIdeal.τ).loc Cert.LastIdeal.main_arg2)) (m ((c.tc : Thread Cert.LastIdeal.nD Cert.LastIdeal.τ).loc Cert.LastIdeal.main_arg3)) (m ((c.tc : Thread Cert.LastIdeal.nD Cert.LastIdeal.τ).loc Cert.LastIdeal.main_arg4)) (m ((c.tc : Thread Cert.LastIdeal.nD Cert.LastIdeal.τ).loc Cert.LastIdeal.main_arg5)), ?_, ?_⟩
  · exact (θ_run Cert.LastIdeal.defs _ _).mono (fun _ h c => ⟨(h c).1.trans (Cert.LastIdeal.Result.final m c), (h c).2⟩) (Cert.LastIdeal.Value.run_blocks m ρ)
  · refine (θ_run Cert.LastRefIdeal.defs _ _).mono (fun _ h c => ⟨(h c).1.trans ?_, (h c).2⟩) (Cert.LastRefIdeal.Value.run (F := Ideal) m' ρ')
    refine (Cert.LastRefIdeal.Term.res_eq m' c).trans ?_
    rw [(hag c).1, (hag c).2.1, (hag c).2.2.1, (hag c).2.2.2.1, (hag c).2.2.2.2.1, (hag c).2.2.2.2.2]

end Cert.Claims

end
-- ==== Proof.MoeBody.lean ====
/- The body of the experts' call, one conditional at a time. Each lemma `step_*` is the rule of one `if` of the kernel followed by
   any program: the buffers it changes are named by functions of what they held. -/
module

public import proofs.«01_k».proof.Proof.Gen.MoeIdeal.Launch
public import proofs.«01_k».proof.Proof.Gen.MoeIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead
public import Idealize.ShloMosaic.Lib.WritesUnit

@[expose] public section

set_option maxRecDepth 16384

noncomputable section

namespace Cert.MoeIdeal.Experts

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! The five prefetched tables and the two scratch buffers. -/

abbrev tab0 : Memref sig .tc .smem S75 .i32 := Memref.whole main_arg0
abbrev tab1 : Memref sig .tc .smem S75 .i32 := Memref.whole main_arg1
abbrev tab2 : Memref sig .tc .smem S75 .i32 := Memref.whole main_arg2
abbrev tab3 : Memref sig .tc .smem S75 .i32 := Memref.whole main_arg3
abbrev tab4 : Memref sig .tc .smem S75 .i32 := Memref.whole main_arg4
abbrev TabBuf (c : Dev nD) (M : Memref sig .tc .smem S75 .i32) : Type := Buf (Elt F) (M.view.loc (c : Thread nD τ))
abbrev tabPt (c : Dev nD) (M : Memref sig .tc .smem S75 .i32) (f : TabBuf (F := F) c M) : sProp 𝕄 :=
  M.view.loc (c : Thread nD τ) ↦{fullShare.right} f
abbrev xmM : Memref sig .tc .vmem S512x1024 .bf16 := Memref.whole cc0_scratch0
abbrev accM : Memref sig .tc .vmem S512x1024 .f32 := Memref.whole cc0_scratch1

/-- The staged blocks (rows, gate and up weights, down weights, output) and the two scratch buffers, by what they hold. -/
def St (c : Dev nD) (arg7 : Memref sig .tc .vmem S512x1024 .f32) (arg8 arg9 : Memref sig .tc .vmem S1x1x1024x1792 .bf16)
    (arg10 : Memref sig .tc .vmem S1x1x1792x1024 .bf16) (arg11 : Memref sig .tc .vmem S512x1024 .f32)
    (x0 : Vec F S512x1024 .f32) (x1 x2 : Vec F S1x1x1024x1792 .bf16) (x3 : Vec F S1x1x1792x1024 .bf16) (o : Vec F S512x1024 .f32)
    (xm : Vec F S512x1024 .bf16) (a : Vec F S512x1024 .f32) : sProp 𝕄 :=
  iprop(owns (c : Thread nD τ) arg7 fullShare x0 ∗ owns (c : Thread nD τ) arg8 fullShare x1 ∗ owns (c : Thread nD τ) arg9 fullShare x2
    ∗ owns (c : Thread nD τ) arg10 fullShare x3 ∗ owns (c : Thread nD τ) arg11 fullShare o
    ∗ owns (c : Thread nD τ) xmM fullShare xm ∗ owns (c : Thread nD τ) accM fullShare a)

theorem xmM_whole : xmM.IsWhole := Memref.isWhole_whole _
theorem accM_whole : accM.IsWhole := Memref.isWhole_whole _

/-- `a` with the 256 rows from `o` on replaced by `p`. -/
def patch (o : ℕ) (a : Vec F S512x1024 .f32) (p : Vec F S256x1024 .f32) : Vec F S512x1024 .f32 := fun y =>
  if h : ∀ k, (![o, 0] : Fin 2 → ℕ) k ≤ (y k).val ∧ (y k).val < (![o, 0] : Fin 2 → ℕ) k + S256x1024.size k then
    p (Rect.unitLocal (s := S512x1024) (off := ![o, 0]) (size := S256x1024.size) y h) else a y

/-- The 256 rows of `x` from `o` on. -/
def rows (o : ℕ) (inb : ∀ k, (![o, 0] : Fin 2 → ℕ) k + S256x1024.size k ≤ S512x1024.size k) {e : EltTy} (x : Vec F S512x1024 e) :
    Vec F S256x1024 e :=
  fun y => x ((Rect.unit (s := S512x1024) ![o, 0] S256x1024.size inb).toLoadRect.idx y)

theorem rows_read {o : ℕ} {inb : ∀ k, (![o, 0] : Fin 2 → ℕ) k + S256x1024.size k ≤ S512x1024.size k} {e : EltTy}
    {M : Memref sig .tc .vmem S512x1024 e} (hM : M.IsWhole) (x : Vec F S512x1024 e) :
    M.view.readAt (Elt F) (Rect.unit (s := S512x1024) ![o, 0] S256x1024.size inb).toLoadRect (hM.unread x) = rows o inb x :=
  funext fun y => hM.readAt_unread x _ y

/-- A load of a whole block reads what the block holds. -/
theorem whole_read {s : Shape} {e : EltTy} {M : Memref sig .tc .vmem s e} (hM : M.IsWhole) (x : Vec F s e) {off : Fin s.rank → ℕ}
    {inb : ∀ k, off k + s.size k ≤ s.size k} :
    M.view.readAt (Elt F) (Rect.unit (s := s) off s.size inb).toLoadRect (hM.unread x) = x :=
  funext fun y => (hM.readAt_unread x _ y).trans (congrArg x (funext fun k => Fin.ext (by
    have := inb k
    show off k + 1 * (y k).val = (y k).val
    omega)))

/-- A store of a whole block leaves what it stored. -/
theorem whole_write {s : Shape} {e : EltTy} {M : Memref sig .tc .vmem s e} (f : M.view.ty.Contents (Elt F)) (x : Vec F s e)
    {off : Fin s.rank → ℕ} {inb : ∀ k, off k + s.size k ≤ s.size k} :
    M.view.read (Elt F) (M.view.writes (Elt F) f [⟨Rect.unit (s := s) off s.size inb, x⟩]) = x :=
  funext fun y => View.read_writes_cons_unit_of_mem M.view f inb x [] y y rfl fun k => by
    have := inb k
    omega

theorem rows_write {o : ℕ} {inb : ∀ k, (![o, 0] : Fin 2 → ℕ) k + S256x1024.size k ≤ S512x1024.size k}
    {M : Memref sig .tc .vmem S512x1024 .f32} (hM : M.IsWhole) (a : Vec F S512x1024 .f32) (p : Vec F S256x1024 .f32) :
    M.view.read (Elt F) (M.view.writes (Elt F) (hM.unread a) [⟨Rect.unit (s := S512x1024) ![o, 0] S256x1024.size inb, p⟩]) = patch o a p := by
  funext y
  refine (View.read_writes_cons_unit M.view _ inb p [] y rfl).trans ?_
  unfold patch
  split
  · rfl
  · exact congrFun (hM.read_unread a) y

/-- The word of a table at grid point `i`. -/
def word {c : Dev nD} (M : Memref sig .tc .smem S75 .i32) (t : TabBuf (F := F) c M) (i : grid0.Coords) : BitVec 32 :=
  M.view.readAt (Elt F) (Rect.unit (s := S75) (k0_off1 i) S1.size (k0_off1_inb i)).toLoadRect t
    (Shape.Idx.first (numel1_S1.symm ▸ Nat.one_pos))

section steps

variable {β : Type} (c : Dev nD) {arg7 : Memref sig .tc .vmem S512x1024 .f32} (harg7 : arg7.IsWhole)
  {arg8 : Memref sig .tc .vmem S1x1x1024x1792 .bf16} (harg8 : arg8.IsWhole)
  {arg9 : Memref sig .tc .vmem S1x1x1024x1792 .bf16} (harg9 : arg9.IsWhole)
  {arg10 : Memref sig .tc .vmem S1x1x1792x1024 .bf16} (harg10 : arg10.IsWhole)
  {arg11 : Memref sig .tc .vmem S512x1024 .f32} (harg11 : arg11.IsWhole)
  (x0 : Vec F S512x1024 .f32) (x1 x2 : Vec F S1x1x1024x1792 .bf16) (x3 : Vec F S1x1x1792x1024 .bf16) (o : Vec F S512x1024 .f32)
  (xm : Vec F S512x1024 .bf16) (a : Vec F S512x1024 .f32)
  (R : Prog (TpuEff nD τ sig (Elt F) Λ₀ .tc) β)

include harg7 in
/-- The rows are masked into the scratch at a work item's first half. -/
theorem step_mask (K : β → sProp 𝕄) (i : grid0.Coords) (t0 : TabBuf (F := F) c tab0) (t2 : TabBuf (F := F) c tab2) (t3 : TabBuf (F := F) c tab3) :
    iprop(St c arg7 arg8 arg9 arg10 arg11 x0 x1 x2 x3 o xm a ∗ tabPt c tab0 t0 ∗ tabPt c tab2 t2 ∗ tabPt c tab3 t3
      ∗ (St c arg7 arg8 arg9 arg10 arg11 x0 x1 x2 x3 o
          (if k0_cond1 i = 1#1 then k0_pay2 (word tab0 t0 i) (word tab2 t2 i) (word tab3 t3 i) x0 else xm) a
          -∗ tabPt c tab0 t0 -∗ tabPt c tab2 t2 -∗ tabPt c tab3 t3
          -∗ wp frame (wpE (defs₀ (F := F)) Variants.none c none) Set.univ R K))
    ⊢ wp frame (wpE (defs₀ (F := F)) Variants.none c none) Set.univ (do
        if k0_h1 : k0_cond1 i = 1#1 then do
          let v59 : Elt F .i32 ← smemLoad tab0 (Rect.unit (s := S75) (k0_off2 i) S1.size (k0_off2_inb i k0_h1)) numel1_S1 rfl
          let v65 : Elt F .i32 ← smemLoad tab2 (Rect.unit (s := S75) (k0_off2 i) S1.size (k0_off2_inb i k0_h1)) numel1_S1 rfl
          let v69 : Elt F .i32 ← smemLoad tab3 (Rect.unit (s := S75) (k0_off2 i) S1.size (k0_off2_inb i k0_h1)) numel1_S1 rfl
          let v73 : Vec F S512x1024 .f32 ← Prog.lift (.load arg7 (Rect.unit (s := S512x1024) ![0, 0] S512x1024.size inb_S512x1024_S512x1024_0_0).toLoadRect (View.loadsAt_vmem h_S512x1024))
          let v79 : Vec F S512x1024 .bf16 ← Prog.lift (.load xmM (Rect.unit (s := S512x1024) ![0, 0] S512x1024.size inb_S512x1024_S512x1024_0_0).toLoadRect (View.loadsAt_vmem h_S512x1024))
          Prog.lift (.store xmM (Rect.unit (s := S512x1024) ![0, 0] S512x1024.size inb_S512x1024_S512x1024_0_0) (k0_pay2 v59 v65 v69 v73) Finset.univ (View.stores_vmem h_S512x1024 (xmM_whole.storeExact_slice rfl _ packedbf16_S512x1024_S512x1024_0_0) (fun _ => rfl)) (.inl rfl))
          pure ⟨⟩
        else do
          pure ⟨⟩
        R) K := by
  by_cases h : k0_cond1 i = 1#1
  · simp only [dif_pos h, if_pos h]
    unfold St owns
    iintro ⟨⟨⟨%f7, %hf7, H7⟩, H8, H9, H10, H11, ⟨%fx, %hfx, HX⟩, HA⟩, T0, T2, T3, Hk⟩
    obtain rfl := harg7.eq_unread hf7
    obtain rfl := xmM_whole.eq_unread hfx
    sl_exec
    iapply Hk $$ [H7 H8 H9 H10 H11 HX HA] T0 T2 T3
    isplitl [H7]
    · iexists _
      isplitr
      · ipureintro
        exact harg7.read_unread _
      · iexact H7
    iframe H8 H9 H10 H11 HA
    iexists _
    isplitr
    rotate_left
    · iexact HX
    · ipureintro
      refine (whole_write (M := xmM) _ _).trans ?_
      exact congrArg (k0_pay2 (word tab0 t0 i) (word tab2 t2 i) (word tab3 t3 i)) (whole_read harg7 x0)
  · simp only [dif_neg h, if_neg h]
    iintro ⟨HS, T0, T2, T3, Hk⟩
    iapply Hk $$ HS T0 T2 T3

/-- The accumulator is set to zero at the first half of a tile's first item. -/
theorem step_zero (K : β → sProp 𝕄) (C : Prop) [Decidable C] :
    iprop(St c arg7 arg8 arg9 arg10 arg11 x0 x1 x2 x3 o xm a
      ∗ (St c arg7 arg8 arg9 arg10 arg11 x0 x1 x2 x3 o xm (if C then k0_pay3 else a)
          -∗ wp frame (wpE (defs₀ (F := F)) Variants.none c none) Set.univ R K))
    ⊢ wp frame (wpE (defs₀ (F := F)) Variants.none c none) Set.univ (do
        if C then do
          let v59 : Vec F S512x1024 .f32 ← Prog.lift (.load accM (Rect.unit (s := S512x1024) ![0, 0] S512x1024.size inb_S512x1024_S512x1024_0_0).toLoadRect (View.loadsAt_vmem h_S512x1024))
          Prog.lift (.store accM (Rect.unit (s := S512x1024) ![0, 0] S512x1024.size inb_S512x1024_S512x1024_0_0) (k0_pay3 (F := F)) Finset.univ (View.stores_vmem_bits_univ h_S512x1024 rfl) (.inl rfl))
          pure ⟨⟩
        else do
          pure ⟨⟩
        R) K := by
  by_cases h : C
  · simp only [if_pos h]
    unfold St owns
    iintro ⟨⟨H7, H8, H9, H10, H11, HX, ⟨%f, %hf, HA⟩⟩, Hk⟩
    obtain rfl := accM_whole.eq_unread hf
    sl_exec
    iapply Hk
    iframe H7 H8 H9 H10 H11 HX
    iexists _
    isplitr
    rotate_left
    · iexact HA
    · ipureintro
      exact whole_write (M := accM) _ _
  · simp only [if_neg h]
    iintro ⟨HS, Hk⟩
    iapply Hk $$ HS

include harg8 harg9 harg10 in
/-- All 512 rows go through the network when the item holds them all. -/
theorem step_whole (K : β → sProp 𝕄) (C : Prop) [Decidable C] :
    iprop(St c arg7 arg8 arg9 arg10 arg11 x0 x1 x2 x3 o xm a
      ∗ (St c arg7 arg8 arg9 arg10 arg11 x0 x1 x2 x3 o xm (if C then k0_pay4 xm x1 x2 a x3 else a)
          -∗ wp frame (wpE (defs₀ (F := F)) Variants.none c none) Set.univ R K))
    ⊢ wp frame (wpE (defs₀ (F := F)) Variants.none c none) Set.univ (do
        if C then do
          let v58 : Vec F S512x1024 .bf16 ← Prog.lift (.load xmM (Rect.unit (s := S512x1024) ![0, 0] S512x1024.size inb_S512x1024_S512x1024_0_0).toLoadRect (View.loadsAt_vmem h_S512x1024))
          let v59 : Vec F S1x1x1024x1792 .bf16 ← Prog.lift (.load arg8 (Rect.unit (s := S1x1x1024x1792) ![0, 0, 0, 0] S1x1x1024x1792.size inb_S1x1x1024x1792_S1x1x1024x1792_0_0_0_0).toLoadRect (View.loadsAt_vmem h_S1x1x1024x1792))
          let v70 : Vec F S1x1x1024x1792 .bf16 ← Prog.lift (.load arg9 (Rect.unit (s := S1x1x1024x1792) ![0, 0, 0, 0] S1x1x1024x1792.size inb_S1x1x1024x1792_S1x1x1024x1792_0_0_0_0).toLoadRect (View.loadsAt_vmem h_S1x1x1024x1792))
          let v75 : Vec F S512x1024 .f32 ← Prog.lift (.load accM (Rect.unit (s := S512x1024) ![0, 0] S512x1024.size inb_S512x1024_S512x1024_0_0).toLoadRect (View.loadsAt_vmem h_S512x1024))
          let v76 : Vec F S1x1x1792x1024 .bf16 ← Prog.lift (.load arg10 (Rect.unit (s := S1x1x1792x1024) ![0, 0, 0, 0] S1x1x1792x1024.size inb_S1x1x1792x1024_S1x1x1792x1024_0_0_0_0).toLoadRect (View.loadsAt_vmem h_S1x1x1792x1024))
          let v80 : Vec F S512x1024 .f32 ← Prog.lift (.load accM (Rect.unit (s := S512x1024) ![0, 0] S512x1024.size inb_S512x1024_S512x1024_0_0).toLoadRect (View.loadsAt_vmem h_S512x1024))
          Prog.lift (.store accM (Rect.unit (s := S512x1024) ![0, 0] S512x1024.size inb_S512x1024_S512x1024_0_0) (k0_pay4 v58 v59 v70 v75 v76) Finset.univ (View.stores_vmem_bits_univ h_S512x1024 rfl) (.inl rfl))
          pure ⟨⟩
        else do
          pure ⟨⟩
        R) K := by
  by_cases h : C
  · simp only [if_pos h]
    unfold St owns
    iintro ⟨⟨H7, ⟨%f8, %hf8, H8⟩, ⟨%f9, %hf9, H9⟩, ⟨%f10, %hf10, H10⟩, H11, ⟨%fx, %hfx, HX⟩, ⟨%f, %hf, HA⟩⟩, Hk⟩
    obtain rfl := harg8.eq_unread hf8
    obtain rfl := harg9.eq_unread hf9
    obtain rfl := harg10.eq_unread hf10
    obtain rfl := xmM_whole.eq_unread hfx
    obtain rfl := accM_whole.eq_unread hf
    sl_exec
    iapply Hk
    iframe H7 H11
    isplitl [H8]
    · iexists _
      isplitr
      · ipureintro
        exact harg8.read_unread _
      · iexact H8
    isplitl [H9]
    · iexists _
      isplitr
      · ipureintro
        exact harg9.read_unread _
      · iexact H9
    isplitl [H10]
    · iexists _
      isplitr
      · ipureintro
        exact harg10.read_unread _
      · iexact H10
    isplitl [HX]
    · iexists _
      isplitr
      · ipureintro
        exact xmM_whole.read_unread _
      · iexact HX
    iexists _
    isplitr
    rotate_left
    · iexact HA
    · ipureintro
      refine (whole_write (M := accM) _ _).trans ?_
      congr 1
      exacts [whole_read xmM_whole xm, whole_read harg8 x1, whole_read harg9 x2, whole_read accM_whole a, whole_read harg10 x3]
  · simp only [if_neg h]
    iintro ⟨HS, Hk⟩
    iapply Hk $$ HS

include harg8 harg9 harg10 in
/-- 256 of the rows go through the network when the item holds some of them. -/
theorem step_rows (K : β → sProp 𝕄) (C : Prop) [Decidable C] {off : ℕ} (inb : ∀ k, (![off, 0] : Fin 2 → ℕ) k + S256x1024.size k ≤ S512x1024.size k)
    (P : Vec F S256x1024 .bf16 → Vec F S1x1x1024x1792 .bf16 → Vec F S1x1x1024x1792 .bf16 → Vec F S256x1024 .f32 → Vec F S1x1x1792x1024 .bf16 → Vec F S256x1024 .f32) :
    iprop(St c arg7 arg8 arg9 arg10 arg11 x0 x1 x2 x3 o xm a
      ∗ (St c arg7 arg8 arg9 arg10 arg11 x0 x1 x2 x3 o xm (if C then patch off a (P (rows off inb xm) x1 x2 (rows off inb a) x3) else a)
          -∗ wp frame (wpE (defs₀ (F := F)) Variants.none c none) Set.univ R K))
    ⊢ wp frame (wpE (defs₀ (F := F)) Variants.none c none) Set.univ (do
        if C then do
          let v58 : Vec F S256x1024 .bf16 ← Prog.lift (.load xmM (Rect.unit (s := S512x1024) ![off, 0] S256x1024.size inb).toLoadRect (View.loadsAt_vmem h_S256x1024))
          let v59 : Vec F S1x1x1024x1792 .bf16 ← Prog.lift (.load arg8 (Rect.unit (s := S1x1x1024x1792) ![0, 0, 0, 0] S1x1x1024x1792.size inb_S1x1x1024x1792_S1x1x1024x1792_0_0_0_0).toLoadRect (View.loadsAt_vmem h_S1x1x1024x1792))
          let v70 : Vec F S1x1x1024x1792 .bf16 ← Prog.lift (.load arg9 (Rect.unit (s := S1x1x1024x1792) ![0, 0, 0, 0] S1x1x1024x1792.size inb_S1x1x1024x1792_S1x1x1024x1792_0_0_0_0).toLoadRect (View.loadsAt_vmem h_S1x1x1024x1792))
          let v75 : Vec F S256x1024 .f32 ← Prog.lift (.load accM (Rect.unit (s := S512x1024) ![off, 0] S256x1024.size inb).toLoadRect (View.loadsAt_vmem h_S256x1024))
          let v76 : Vec F S1x1x1792x1024 .bf16 ← Prog.lift (.load arg10 (Rect.unit (s := S1x1x1792x1024) ![0, 0, 0, 0] S1x1x1792x1024.size inb_S1x1x1792x1024_S1x1x1792x1024_0_0_0_0).toLoadRect (View.loadsAt_vmem h_S1x1x1792x1024))
          let v80 : Vec F S256x1024 .f32 ← Prog.lift (.load accM (Rect.unit (s := S512x1024) ![off, 0] S256x1024.size inb).toLoadRect (View.loadsAt_vmem h_S256x1024))
          Prog.lift (.store accM (Rect.unit (s := S512x1024) ![off, 0] S256x1024.size inb) (P v58 v59 v70 v75 v76) Finset.univ (View.stores_vmem_bits_univ h_S256x1024 rfl) (.inl rfl))
          pure ⟨⟩
        else do
          pure ⟨⟩
        R) K := by
  by_cases h : C
  · simp only [if_pos h]
    unfold St owns
    iintro ⟨⟨H7, ⟨%f8, %hf8, H8⟩, ⟨%f9, %hf9, H9⟩, ⟨%f10, %hf10, H10⟩, H11, ⟨%fx, %hfx, HX⟩, ⟨%f, %hf, HA⟩⟩, Hk⟩
    obtain rfl := harg8.eq_unread hf8
    obtain rfl := harg9.eq_unread hf9
    obtain rfl := harg10.eq_unread hf10
    obtain rfl := xmM_whole.eq_unread hfx
    obtain rfl := accM_whole.eq_unread hf
    sl_exec
    iapply Hk
    iframe H7 H11
    isplitl [H8]
    · iexists _
      isplitr
      · ipureintro
        exact harg8.read_unread _
      · iexact H8
    isplitl [H9]
    · iexists _
      isplitr
      · ipureintro
        exact harg9.read_unread _
      · iexact H9
    isplitl [H10]
    · iexists _
      isplitr
      · ipureintro
        exact harg10.read_unread _
      · iexact H10
    isplitl [HX]
    · iexists _
      isplitr
      · ipureintro
        exact xmM_whole.read_unread _
      · iexact HX
    iexists _
    isplitr
    rotate_left
    · iexact HA
    · ipureintro
      refine (rows_write accM_whole a _).trans ?_
      congr 2
      exacts [rows_read xmM_whole xm, whole_read harg8 x1, whole_read harg9 x2, rows_read accM_whole a, whole_read harg10 x3]
  · simp only [if_neg h]
    iintro ⟨HS, Hk⟩
    iapply Hk $$ HS

include harg11 in
/-- The accumulator is stored at a work item's second half. -/
theorem step_out (K : β → sProp 𝕄) (C : Prop) [Decidable C] :
    iprop(St c arg7 arg8 arg9 arg10 arg11 x0 x1 x2 x3 o xm a
      ∗ (St c arg7 arg8 arg9 arg10 arg11 x0 x1 x2 x3 (if C then a else o) xm a
          -∗ wp frame (wpE (defs₀ (F := F)) Variants.none c none) Set.univ R K))
    ⊢ wp frame (wpE (defs₀ (F := F)) Variants.none c none) Set.univ (do
        if k0_h6 : C then do
          let v58 : Vec F S512x1024 .f32 ← Prog.lift (.load accM (Rect.unit (s := S512x1024) ![0, 0] S512x1024.size inb_S512x1024_S512x1024_0_0).toLoadRect (View.loadsAt_vmem h_S512x1024))
          let v59 : Vec F S512x1024 .f32 ← Prog.lift (.load arg11 (Rect.unit (s := S512x1024) ![0, 0] S512x1024.size inb_S512x1024_S512x1024_0_0).toLoadRect (View.loadsAt_vmem h_S512x1024))
          Prog.lift (.store arg11 (Rect.unit (s := S512x1024) ![0, 0] S512x1024.size inb_S512x1024_S512x1024_0_0) v58 Finset.univ (View.stores_vmem_bits_univ h_S512x1024 rfl) (.inl rfl))
          pure ⟨⟩
        else do
          pure ⟨⟩
        R) K := by
  by_cases h : C
  · simp only [dif_pos h, if_pos h]
    unfold St owns
    iintro ⟨⟨H7, H8, H9, H10, ⟨%fo, %hfo, H11⟩, HX, ⟨%f, %hf, HA⟩⟩, Hk⟩
    obtain rfl := harg11.eq_unread hfo
    obtain rfl := accM_whole.eq_unread hf
    sl_exec
    iapply Hk
    iframe H7 H8 H9 H10 HX
    isplitl [H11]
    · iexists _
      isplitr
      rotate_left
      · iexact H11
      · ipureintro
        refine (whole_write (M := arg11) _ _).trans ?_
        exact whole_read accM_whole a
    · iexists _
      isplitr
      · ipureintro
        exact accM_whole.read_unread _
      · iexact HA
  · simp only [dif_neg h, if_neg h]
    iintro ⟨HS, Hk⟩
    iapply Hk $$ HS

end steps

/-! ### The conditions, from the words of the tables -/

/-- The accumulator is reset. -/
def resets (i : grid0.Coords) (first : BitVec 32) : Prop :=
  Scalar.cmpi .ne (Scalar.extui (Scalar.andi (Scalar.cmpi .eq (BitVec.ofNat 32 (i 1).val) 0#32) (Scalar.cmpi .sgt first 0#32))) 0#32 = 1#1

/-- The item holds all rows of its tile, as a bit. -/
def full (wt lo hi : BitVec 32) : BitVec 1 :=
  Scalar.andi (Scalar.cmpi .sle lo (Scalar.muli wt 512#32)) (Scalar.cmpi .sge hi (Scalar.addi (Scalar.muli wt 512#32) 512#32))

/-- All rows are computed. -/
def fulls (wt lo hi : BitVec 32) : Prop := Scalar.cmpi .ne (Scalar.extui (full wt lo hi)) 0#32 = 1#1

/-- The 256 rows of the tile from `off` on are computed. -/
def parts (off wt lo hi : BitVec 32) : Prop :=
  Scalar.cmpi .ne (Scalar.extui (Scalar.andi
    (Scalar.andi (Scalar.xori (full wt lo hi) 1#1)
      (Scalar.cmpi .sgt hi (Scalar.maxsi (Scalar.addi (Scalar.muli wt 512#32) off) lo)))
    (Scalar.cmpi .slt lo (Scalar.addi (Scalar.addi (Scalar.muli wt 512#32) off) 256#32)))) 0#32 = 1#1

instance (i first) : Decidable (resets i first) := inferInstanceAs (Decidable (_ = _))
instance (wt lo hi) : Decidable (fulls wt lo hi) := inferInstanceAs (Decidable (_ = _))
instance (off wt lo hi) : Decidable (parts off wt lo hi) := inferInstanceAs (Decidable (_ = _))

/-- The scratch rows after a grid point. -/
def rowsAfter (i : grid0.Coords) (wt lo hi : BitVec 32) (x0 : Vec F S512x1024 .f32) (xm : Vec F S512x1024 .bf16) : Vec F S512x1024 .bf16 :=
  if k0_cond1 i = 1#1 then k0_pay2 wt lo hi x0 else xm

/-- The accumulator after a grid point, from the rows the point works on. -/
def accAfter (i : grid0.Coords) (wt lo hi first : BitVec 32) (xm : Vec F S512x1024 .bf16) (x1 x2 : Vec F S1x1x1024x1792 .bf16)
    (x3 : Vec F S1x1x1792x1024 .bf16) (a : Vec F S512x1024 .f32) : Vec F S512x1024 .f32 :=
  let a0 := if resets i first then k0_pay3 else a
  let a1 := if fulls wt lo hi then k0_pay4 xm x1 x2 a0 x3 else a0
  let a2 := if parts 0#32 wt lo hi then
      patch 0 a1 (k0_pay5 (rows 0 inb_S512x1024_S256x1024_0_0 xm) x1 x2 (rows 0 inb_S512x1024_S256x1024_0_0 a1) x3) else a1
  if parts 256#32 wt lo hi then
      patch 256 a2 (k0_pay1 (rows 256 inb_S512x1024_S256x1024_256_0 xm) x1 x2 (rows 256 inb_S512x1024_S256x1024_256_0 a2) x3) else a2

set_option maxHeartbeats 2000000 in
/-- The body at a grid point. -/
theorem body (c : Dev nD) (i : grid0.Coords) {arg7 : Memref sig .tc .vmem S512x1024 .f32} (harg7 : arg7.IsWhole)
    {arg8 : Memref sig .tc .vmem S1x1x1024x1792 .bf16} (harg8 : arg8.IsWhole)
    {arg9 : Memref sig .tc .vmem S1x1x1024x1792 .bf16} (harg9 : arg9.IsWhole)
    {arg10 : Memref sig .tc .vmem S1x1x1792x1024 .bf16} (harg10 : arg10.IsWhole)
    {arg11 : Memref sig .tc .vmem S512x1024 .f32} (harg11 : arg11.IsWhole)
    (x0 : Vec F S512x1024 .f32) (x1 x2 : Vec F S1x1x1024x1792 .bf16) (x3 : Vec F S1x1x1792x1024 .bf16) (o : Vec F S512x1024 .f32)
    (xm : Vec F S512x1024 .bf16) (a : Vec F S512x1024 .f32)
    (t0 : TabBuf (F := F) c tab0) (t1 : TabBuf (F := F) c tab1) (t2 : TabBuf (F := F) c tab2) (t3 : TabBuf (F := F) c tab3)
    (t4 : TabBuf (F := F) c tab4) (Q : PUnit → sProp 𝕄)
    (hQ : iprop(St c arg7 arg8 arg9 arg10 arg11 x0 x1 x2 x3
          (if k0_cond6 i = 1#1 then accAfter i (word tab0 t0 i) (word tab2 t2 i) (word tab3 t3 i) (word tab4 t4 i)
            (rowsAfter i (word tab0 t0 i) (word tab2 t2 i) (word tab3 t3 i) x0 xm) x1 x2 x3 a else o)
          (rowsAfter i (word tab0 t0 i) (word tab2 t2 i) (word tab3 t3 i) x0 xm)
          (accAfter i (word tab0 t0 i) (word tab2 t2 i) (word tab3 t3 i) (word tab4 t4 i)
            (rowsAfter i (word tab0 t0 i) (word tab2 t2 i) (word tab3 t3 i) x0 xm) x1 x2 x3 a)
        ∗ tabPt c tab0 t0 ∗ tabPt c tab1 t1 ∗ tabPt c tab2 t2 ∗ tabPt c tab3 t3 ∗ tabPt c tab4 t4) ⊢ Q ⟨⟩) :
    iprop(St c arg7 arg8 arg9 arg10 arg11 x0 x1 x2 x3 o xm a
        ∗ tabPt c tab0 t0 ∗ tabPt c tab1 t1 ∗ tabPt c tab2 t2 ∗ tabPt c tab3 t3 ∗ tabPt c tab4 t4)
      ⊢ wp frame (wpE (defs₀ (F := F)) Variants.none c none) Set.univ
          (cc0_moe_ffn i tab0 (Memref.isWhole_whole _) tab1 (Memref.isWhole_whole _) tab2 (Memref.isWhole_whole _) tab3 (Memref.isWhole_whole _)
            tab4 (Memref.isWhole_whole _) arg7 harg7 arg8 harg8 arg9 harg9 arg10 harg10 arg11 harg11 xmM (Memref.isWhole_whole _)
            accM (Memref.isWhole_whole _)) Q := by
  rw [cc0_moe_ffn_eq_skeleton]
  unfold cc0_moe_ffn_skel
  rw [k0_part1_eq_skeleton]
  unfold k0_part1_skel
  rw [wp_bind]
  iintro ⟨HS, T0, T1, T2, T3, T4⟩
  iapply (step_mask c harg7 x0 x1 x2 x3 o xm a _ _ i t0 t2 t3)
  iframe HS T0 T2 T3
  iintro HS T0 T2 T3
  sl_exec
  iapply (step_zero c x0 x1 x2 x3 o _ a)
  iframe HS
  iintro HS
  sl_exec
  iapply (step_whole c harg8 harg9 harg10 x0 x1 x2 x3 o)
  iframe HS
  iintro HS
  sl_exec
  iapply (step_rows c harg8 harg9 harg10 x0 x1 x2 x3 o _ _ _ _ _ inb_S512x1024_S256x1024_0_0 k0_pay5)
  iframe HS
  iintro HS
  sl_exec
  iapply (step_rows c harg8 harg9 harg10 x0 x1 x2 x3 o _ _ _ _ _ inb_S512x1024_S256x1024_256_0 k0_pay1)
  iframe HS
  iintro HS
  iapply (step_out c harg11 x0 x1 x2 x3 o)
  iframe HS
  iintro HS
  sl_step
  iapply hQ
  iframe HS T0 T1 T2 T3 T4

end Cert.MoeIdeal.Experts

end
-- ==== Proof.MoeFrame.lean ====
/- The run of the experts' call: what its scratch holds point by point, the pipeline's obligations, and the frame. -/
module

public import proofs.«01_k».proof.Proof.Gen.MoeIdeal.Launch
public import proofs.«01_k».proof.Proof.MoeBody
public import Idealize.ShloMosaic.Lib.Pipeline.TableIdle
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead
public import Idealize.ShloMosaic.Lib.WritesUnit

@[expose] public section

set_option maxRecDepth 16384

noncomputable section

namespace Cert.MoeIdeal.Experts

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ### The program up to the call, and the tables -/

/-- The buffers where the call begins: those of the launch. -/
abbrev V (c : Dev nD) (b : Ref sig .tc) : Buf (Elt F) ((c : Thread nD τ).loc b) := m ((c : Thread nD τ).loc b)

set_option maxHeartbeats 800000 in
theorem hmain (𝒱₀ : Variants) :
    Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- What the tables hold. -/
def tbl : pre0.Contents (Elt F) := fun j => V m (0 : Dev nD) (pre0.ref j)

theorem V_pre (c : Dev nD) (j : Fin 5) : V m c (pre0.ref j) = tbl m j := by
  obtain rfl : c = 0 := Subsingleton.elim _ _
  rfl

/-- The blocks the tables name lie inside the arrays. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

theorem PhiT_eq (c : Dev nD) : (Pipeline.ΦT pre0 (tbl m) c : sProp 𝕄)
    = iprop(tabPt c tab0 (tbl m 0) ∗ tabPt c tab1 (tbl m 1) ∗ tabPt c tab2 (tbl m 2) ∗ tabPt c tab3 (tbl m 3) ∗ tabPt c tab4 (tbl m 4)) := by
  unfold Pipeline.ΦT Pipeline.prefHeld
  rw [show (Finset.univ : Finset (Fin 5)) = insert (0 : Fin 5) (insert (1 : Fin 5) (insert (2 : Fin 5) (insert (3 : Fin 5) {(4 : Fin 5)}))) from by decide,
    bigSep_insert (by decide), bigSep_insert (by decide), bigSep_insert (by decide), bigSep_insert (by decide), bigSep_singleton]
  rfl

theorem PhiA_eq (c : Dev nD) : (Pipeline.ΦA spec0 c : sProp 𝕄)
    = iprop(iprop((∃ d, owns (c : Thread nD τ) xmM fullShare d) ∗ (∃ d, owns (c : Thread nD τ) accM fullShare d)) ∗ (∃ r, prngReg c r)) := by
  unfold Pipeline.ΦA
  rw [scopedRest0_eq]
  simp only [xmM, accM, owns_whole]
  try rfl

/-- Table `j`'s word at point `t`. -/
abbrev w0 (hO : Ok m) (t : Fin (cfgM m hO).N) : BitVec 32 := word (c := (0 : Dev nD)) tab0 (tbl m 0) (grid0.coords t)
abbrev w2 (hO : Ok m) (t : Fin (cfgM m hO).N) : BitVec 32 := word (c := (0 : Dev nD)) tab2 (tbl m 2) (grid0.coords t)
abbrev w3 (hO : Ok m) (t : Fin (cfgM m hO).N) : BitVec 32 := word (c := (0 : Dev nD)) tab3 (tbl m 3) (grid0.coords t)
abbrev w4 (hO : Ok m) (t : Fin (cfgM m hO).N) : BitVec 32 := word (c := (0 : Dev nD)) tab4 (tbl m 4) (grid0.coords t)

/-- The block of window `w` at point `t`. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-! ### What the scratch holds, point by point -/

/-- The scratch rows and the accumulator after point `t`, from what they held before it. -/
def step (hO : Ok m) (c : Dev nD) (t : Fin (cfgM m hO).N) (p : Vec F S512x1024 .bf16 × Vec F S512x1024 .f32) :
    Vec F S512x1024 .bf16 × Vec F S512x1024 .f32 :=
  (rowsAfter (grid0.coords t) (w0 m hO t) (w2 m hO t) (w3 m hO t) (iblk m hO c 0 t) p.1,
    accAfter (grid0.coords t) (w0 m hO t) (w2 m hO t) (w3 m hO t) (w4 m hO t)
      (rowsAfter (grid0.coords t) (w0 m hO t) (w2 m hO t) (w3 m hO t) (iblk m hO c 0 t) p.1)
      (iblk m hO c 1 t) (iblk m hO c 2 t) (iblk m hO c 3 t) p.2)

/-- The same, from the start; what the first point finds does not matter (`step_first`). -/
def traj (hO : Ok m) (c : Dev nD) : (n : ℕ) → n < (cfgM m hO).N → Vec F S512x1024 .bf16 × Vec F S512x1024 .f32
  | 0, h => step m hO c ⟨0, h⟩ (k0_pay2 0#32 0#32 0#32 k0_pay3, k0_pay3)
  | n + 1, h => step m hO c ⟨n + 1, h⟩ (traj hO c n (by omega))

/-- The first point resets the accumulator. -/
def Starts (hO : Ok m) : Prop := ∀ t : Fin (cfgM m hO).N, t.val = 0 → resets (grid0.coords t) (w4 m hO t)

theorem coords0 (t : Fin grid0.N) : (grid0.coords t 0).val = t.val / 2 % 75 := Pipeline.Grid.coords_val t 0 (by decide) rfl
theorem coords1 (t : Fin grid0.N) : (grid0.coords t 1).val = t.val / 1 % 2 := Pipeline.Grid.coords_val t 1 (by decide) rfl

theorem first_half (t : Fin grid0.N) : k0_cond1 (grid0.coords t) = 1#1 ↔ t.val % 2 = 0 := by
  have ht : t.val < 150 := Nat.lt_of_lt_of_eq t.isLt N_0
  simp only [k0_cond1, coords1]
  word_cmp

theorem second_half (t : Fin grid0.N) : k0_cond6 (grid0.coords t) = 1#1 ↔ t.val % 2 = 1 := by
  have ht : t.val < 150 := Nat.lt_of_lt_of_eq t.isLt N_0
  simp only [k0_cond6, coords1]
  word_cmp

theorem step_first (hO : Ok m) (hS : Starts m hO) (c : Dev nD) (t : Fin (cfgM m hO).N) (ht : t.val = 0)
    (p q : Vec F S512x1024 .bf16 × Vec F S512x1024 .f32) : step m hO c t p = step m hO c t q := by
  have h1 : k0_cond1 (grid0.coords t) = 1#1 := (first_half t).mpr (by omega)
  have h4 := hS t ht
  simp only [step, rowsAfter, accAfter, if_pos h1, if_pos h4]

/-- The invariant before point `n`. -/
def Inv (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) xmM fullShare (traj m hO c n hn).1
      ∗ owns (c : Thread nD τ) accM fullShare (traj m hO c n hn).2) ∗ (∃ r, prngReg c r)) ∗ Pipeline.ΦT pre0 (tbl m) c)

theorem Inv_zero (hO : Ok m) (c : Dev nD) (n : ℕ) (h : n ≤ (cfgM m hO).N) (hz : n = 0) :
    Inv m hO c n h = iprop(Pipeline.ΦA spec0 c ∗ Pipeline.ΦT pre0 (tbl m) c) := by
  subst hz
  rfl

theorem Inv_pos (hO : Ok m) (c : Dev nD) (n : ℕ) (h : n ≤ (cfgM m hO).N) (hz : n ≠ 0) :
    Inv m hO c n h = iprop(iprop(iprop(owns (c : Thread nD τ) xmM fullShare (traj m hO c (n - 1) (by omega)).1
      ∗ owns (c : Thread nD τ) accM fullShare (traj m hO c (n - 1) (by omega)).2) ∗ (∃ r, prngReg c r)) ∗ Pipeline.ΦT pre0 (tbl m) c) := by
  cases n with
  | zero => exact absurd rfl hz
  | succ n => rfl

/-- Before any point the scratch holds some contents from which the point's step is the trajectory's. -/
theorem Inv_open (hO : Ok m) (hS : Starts m hO) (c : Dev nD) (t : Fin (cfgM m hO).N) :
    Inv m hO c t.val (Nat.le_of_lt t.isLt) ⊢ iprop(∃ p, ⌜step m hO c t p = traj m hO c t.val t.isLt⌝
      ∗ owns (c : Thread nD τ) xmM fullShare p.1 ∗ owns (c : Thread nD τ) accM fullShare p.2 ∗ (∃ r, prngReg c r) ∗ Pipeline.ΦT pre0 (tbl m) c) := by
  obtain ⟨n, hn⟩ := t
  cases n with
  | zero =>
    rw [Inv_zero m hO c _ _ rfl, PhiA_eq]
    iintro ⟨⟨⟨⟨%a, HX⟩, ⟨%b, HA⟩⟩, Hg⟩, HT⟩
    iexists (a, b)
    iframe HX HA Hg HT
    ipureintro
    exact step_first m hO hS c _ rfl _ _
  | succ n =>
    rw [Inv_pos m hO c _ _ (Nat.succ_ne_zero n)]
    iintro ⟨⟨⟨HX, HA⟩, Hg⟩, HT⟩
    iexists (traj m hO c n (by omega))
    iframe HX HA Hg HT
    ipureintro
    rfl

/-! ### The proof data -/

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (traj m hO c t.val t.isLt).2
  Φ t := Inv m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]

theorem Inv_castSucc (hO : Ok m) (c : Dev nD) (t : Fin (cfgM m hO).N) :
    (dats m hO 0 c).Φ t.castSucc = Inv m hO c t.val (Nat.le_of_lt t.isLt) := by
  dsimp only [dats]
  exact Pipeline.Dat.Φ_castSucc (Inv m hO c) t

theorem after0 (hO : Ok m) (c : Dev nD) (t : Fin (cfgM m hO).N) : (dats m hO 0 c).after 0 t = iblk m hO c 0 t := by dsimp only [dats]; try rfl
theorem after1 (hO : Ok m) (c : Dev nD) (t : Fin (cfgM m hO).N) : (dats m hO 0 c).after 1 t = iblk m hO c 1 t := by dsimp only [dats]; try rfl
theorem after2 (hO : Ok m) (c : Dev nD) (t : Fin (cfgM m hO).N) : (dats m hO 0 c).after 2 t = iblk m hO c 2 t := by dsimp only [dats]; try rfl
theorem after3 (hO : Ok m) (c : Dev nD) (t : Fin (cfgM m hO).N) : (dats m hO 0 c).after 3 t = iblk m hO c 3 t := by dsimp only [dats]; try rfl
theorem after4 (hO : Ok m) (c : Dev nD) (t : Fin (cfgM m hO).N) : (dats m hO 0 c).after 4 t = (traj m hO c t.val t.isLt).2 := by dsimp only [dats]; try rfl

/-- An input's buffer holds its block when the body runs. -/
theorem before0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl)
    (fun t => by rw [after0]; unfold Dat.blockOf iblk; rw [A_eq]; try rfl) t d).trans (by unfold Dat.fetched Dat.blockOf iblk; rw [A_eq]; try rfl)
theorem before1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl)
    (fun t => by rw [after1]; unfold Dat.blockOf iblk; rw [A_eq]; try rfl) t d).trans (by unfold Dat.fetched Dat.blockOf iblk; rw [A_eq]; try rfl)
theorem before2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl)
    (fun t => by rw [after2]; unfold Dat.blockOf iblk; rw [A_eq]; try rfl) t d).trans (by unfold Dat.fetched Dat.blockOf iblk; rw [A_eq]; try rfl)
theorem before3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl)
    (fun t => by rw [after3]; unfold Dat.blockOf iblk; rw [A_eq]; try rfl) t d).trans (by unfold Dat.fetched Dat.blockOf iblk; rw [A_eq]; try rfl)

/-! ### The output's schedule -/

theorem idle4_even (hO : Ok m) (t : Fin (cfgM m hO).N) (h : t.val % 2 = 0) : (cfgM m hO).idle (4 : Fin 5) ((cfgM m hO).grid.coords t) = true := by
  have h6 : ¬ k0_cond6 (grid0.coords t) = 1#1 := fun h6 => by have := (second_half t).mp h6; omega
  show (!(k0_cond6 (grid0.coords t) == 1#1)) = true
  simp [h6]

theorem idle4_odd (hO : Ok m) (t : Fin (cfgM m hO).N) (h : t.val % 2 = 1) : (cfgM m hO).idle (4 : Fin 5) ((cfgM m hO).grid.coords t) = false := by
  have h6 : k0_cond6 (grid0.coords t) = 1#1 := (second_half t).mpr h
  show (!(k0_cond6 (grid0.coords t) == 1#1)) = false
  simp [h6]

/-- The output block is that of the next point at a work item's first half. -/
theorem flush4_even (hO : Ok m) (t : Fin (cfgM m hO).N) (h : t.val % 2 = 0) : ((cfgM m hO).win (4 : Fin 5)).flush t = false := by
  have hN : (cfgM m hO).N = 150 := N_0
  have ht : t.val < 150 := hN ▸ t.isLt
  rw [Pipeline.Window.flush_eq_flushOf]
  unfold Pipeline.Window.flushOf
  have h1 : ¬ t.val + 1 = (cfgM m hO).grid.N := by
    have : (cfgM m hO).grid.N = 150 := N_0
    omega
  have h2 : ¬ ∃ h : t.val + 1 < (cfgM m hO).grid.N,
      ((cfgM m hO).win (4 : Fin 5)).indexMap ((cfgM m hO).grid.coords ⟨t.val + 1, h⟩) ≠ ((cfgM m hO).win (4 : Fin 5)).indexMap ((cfgM m hO).grid.coords t) := by
    rintro ⟨h', hne⟩
    refine hne (hreads0_4 (tbl m) _ _ fun a ha => ?_)
    fin_cases a
    · refine Fin.ext ?_
      refine (coords0 ⟨t.val + 1, h'⟩).trans (Eq.trans ?_ (coords0 t).symm)
      show (t.val + 1) / 2 % 75 = t.val / 2 % 75
      omega
    · exact absurd ha (by decide)
  simp [h1, h2]

/-! ### The body obligation -/

abbrev st0 (hO : Ok m) (t : Fin (cfgM m hO).N) : Memref sig .tc .vmem S512x1024 .f32 := spec0_0.stage ((cfgM m hO).slots t 0)
abbrev st1 (hO : Ok m) (t : Fin (cfgM m hO).N) : Memref sig .tc .vmem S1x1x1024x1792 .bf16 := spec0_1.stage ((cfgM m hO).slots t 1)
abbrev st2 (hO : Ok m) (t : Fin (cfgM m hO).N) : Memref sig .tc .vmem S1x1x1024x1792 .bf16 := spec0_2.stage ((cfgM m hO).slots t 2)
abbrev st3 (hO : Ok m) (t : Fin (cfgM m hO).N) : Memref sig .tc .vmem S1x1x1792x1024 .bf16 := spec0_3.stage ((cfgM m hO).slots t 3)
abbrev st4 (hO : Ok m) (t : Fin (cfgM m hO).N) : Memref sig .tc .vmem S512x1024 .f32 := spec0_4.stage ((cfgM m hO).slots t 4)
abbrev hst0 (hO : Ok m) (t : Fin (cfgM m hO).N) : (st0 m hO t).IsWhole := hstage0_0 (((cfgM m hO).slots t 0).cast nbuf0_0)
abbrev hst1 (hO : Ok m) (t : Fin (cfgM m hO).N) : (st1 m hO t).IsWhole := hstage0_1 (((cfgM m hO).slots t 1).cast nbuf0_1)
abbrev hst2 (hO : Ok m) (t : Fin (cfgM m hO).N) : (st2 m hO t).IsWhole := hstage0_2 (((cfgM m hO).slots t 2).cast nbuf0_2)
abbrev hst3 (hO : Ok m) (t : Fin (cfgM m hO).N) : (st3 m hO t).IsWhole := hstage0_3 (((cfgM m hO).slots t 3).cast nbuf0_3)
abbrev hst4 (hO : Ok m) (t : Fin (cfgM m hO).N) : (st4 m hO t).IsWhole := hstage0_4 (((cfgM m hO).slots t 4).cast nbuf0_4)

/-- The body at point `t`. -/
abbrev bodyAt (hO : Ok m) (t : Fin (cfgM m hO).N) : Prog (TpuEff nD τ sig (Elt F) Λ₀ .tc) PUnit :=
  cc0_moe_ffn (grid0.coords t) tab0 (Memref.isWhole_whole _) tab1 (Memref.isWhole_whole _) tab2 (Memref.isWhole_whole _) tab3 (Memref.isWhole_whole _)
    tab4 (Memref.isWhole_whole _) (st0 m hO t) (hst0 m hO t) (st1 m hO t) (hst1 m hO t) (st2 m hO t) (hst2 m hO t) (st3 m hO t) (hst3 m hO t)
    (st4 m hO t) (hst4 m hO t) xmM (Memref.isWhole_whole _) accM (Memref.isWhole_whole _)

/-- The output's buffer after the body: written at a second half, untouched at a first. -/
def outPost (hO : Ok m) (c : Dev nD) (t : Fin (cfgM m hO).N) : sProp 𝕄 :=
  match (cfgM m hO).idle (4 : Fin 5) ((cfgM m hO).grid.coords t) with
  | true =>
    match ((cfgM m hO).win (4 : Fin 5)).flush t with
    | false => iprop(∃ d, owns (c : Thread nD τ) (st4 m hO t) fullShare ((dats m hO 0 c).before (4 : Fin 5) t d))
    | true => owns (c : Thread nD τ) (st4 m hO t) fullShare ((dats m hO 0 c).after (4 : Fin 5) t)
  | false => owns (c : Thread nD τ) (st4 m hO t) fullShare ((dats m hO 0 c).after (4 : Fin 5) t)

theorem outPost_intro (hO : Ok m) (c : Dev nD) (t : Fin (cfgM m hO).N) (d) :
    owns (c : Thread nD τ) (st4 m hO t) fullShare
        (if k0_cond6 (grid0.coords t) = 1#1 then (traj m hO c t.val t.isLt).2 else (dats m hO 0 c).before (4 : Fin 5) t d : Vec F S512x1024 .f32)
      ⊢ (outPost m hO c t : sProp 𝕄) := by
  unfold outPost
  rcases Nat.mod_two_eq_zero_or_one t.val with h | h
  · have h6 : ¬ k0_cond6 (grid0.coords t) = 1#1 := fun h6 => by have := (second_half t).mp h6; omega
    rw [idle4_even m hO t h, flush4_even m hO t h, if_neg h6]
    iintro H
    iexists d
    iexact H
  · rw [idle4_odd m hO t h, if_pos ((second_half t).mpr h)]
    show _ ⊢ owns (c : Thread nD τ) (st4 m hO t) fullShare ((dats m hO 0 c).after (4 : Fin 5) t)
    rw [after4]

theorem sound_body (hO : Ok m) (hS : Starts m hO) (c : Dev nD) (t : Fin (cfgM m hO).N) :
    iprop((dats m hO 0 c).Φ t.castSucc ∗ (dats m hO 0 c).owesAt () t.castSucc
        ∗ (∃ d, owns (c : Thread nD τ) (st0 m hO t) fullShare ((dats m hO 0 c).before (0 : Fin 5) t d))
        ∗ (∃ d, owns (c : Thread nD τ) (st1 m hO t) fullShare ((dats m hO 0 c).before (1 : Fin 5) t d))
        ∗ (∃ d, owns (c : Thread nD τ) (st2 m hO t) fullShare ((dats m hO 0 c).before (2 : Fin 5) t d))
        ∗ (∃ d, owns (c : Thread nD τ) (st3 m hO t) fullShare ((dats m hO 0 c).before (3 : Fin 5) t d))
        ∗ (∃ d, owns (c : Thread nD τ) (st4 m hO t) fullShare ((dats m hO 0 c).before (4 : Fin 5) t d)))
      ⊢ wp frame (wpE (defs₀ (F := F)) Variants.none c none) Set.univ (bodyAt m hO t) fun _ =>
          iprop((dats m hO 0 c).Φ t.succ ∗ (dats m hO 0 c).owesAt () t.succ
            ∗ owns (c : Thread nD τ) (st0 m hO t) fullShare ((dats m hO 0 c).after (0 : Fin 5) t)
            ∗ owns (c : Thread nD τ) (st1 m hO t) fullShare ((dats m hO 0 c).after (1 : Fin 5) t)
            ∗ owns (c : Thread nD τ) (st2 m hO t) fullShare ((dats m hO 0 c).after (2 : Fin 5) t)
            ∗ owns (c : Thread nD τ) (st3 m hO t) fullShare ((dats m hO 0 c).after (3 : Fin 5) t)
            ∗ outPost m hO c t) := by
  obtain rfl : c = 0 := Subsingleton.elim _ _
  rw [show (dats m hO 0 0).owesAt () t.succ = (dats m hO 0 0).owesAt () t.castSucc from rfl, after0, after1, after2, after3,
    Inv_castSucc, show (dats m hO 0 0).Φ t.succ = Inv m hO 0 (t.val + 1) t.isLt from rfl, Inv_pos m hO 0 _ _ (Nat.succ_ne_zero _), PhiT_eq]
  iintro ⟨HI, Ho, ⟨%d0, H0⟩, ⟨%d1, H1⟩, ⟨%d2, H2⟩, ⟨%d3, H3⟩, ⟨%d4, H4⟩⟩
  ihave HI := (Inv_open m hO hS 0 t) $$ HI
  rw [PhiT_eq, before0 m hO 0 t d0, before1 m hO 0 t d1, before2 m hO 0 t d2, before3 m hO 0 t d3]
  icases HI with ⟨%p, %hp, HX, HA, Hg, T0, T1, T2, T3, T4⟩
  have e1 : rowsAfter (grid0.coords t) (w0 m hO t) (w2 m hO t) (w3 m hO t) (iblk m hO 0 0 t) p.1 = (traj m hO 0 t.val t.isLt).1 := congrArg Prod.fst hp
  have e2 : accAfter (grid0.coords t) (w0 m hO t) (w2 m hO t) (w3 m hO t) (w4 m hO t)
      (rowsAfter (grid0.coords t) (w0 m hO t) (w2 m hO t) (w3 m hO t) (iblk m hO 0 0 t) p.1)
      (iblk m hO 0 1 t) (iblk m hO 0 2 t) (iblk m hO 0 3 t) p.2 = (traj m hO 0 t.val t.isLt).2 := congrArg Prod.snd hp
  refine (show _ ⊢ iprop(iprop((∃ r, prngReg 0 r) ∗ (dats m hO 0 0).owesAt () t.castSucc) ∗ iprop(St 0 (st0 m hO t) (st1 m hO t) (st2 m hO t) (st3 m hO t) (st4 m hO t) (iblk m hO 0 0 t) (iblk m hO 0 1 t) (iblk m hO 0 2 t)
      (iblk m hO 0 3 t) ((dats m hO 0 0).before 4 t d4) p.1 p.2
        ∗ tabPt 0 tab0 (tbl m 0) ∗ tabPt 0 tab1 (tbl m 1) ∗ tabPt 0 tab2 (tbl m 2) ∗ tabPt 0 tab3 (tbl m 3) ∗ tabPt 0 tab4 (tbl m 4))) from ?_).trans
    ((sep_mono_r (body 0 (grid0.coords t) (hst0 m hO t) (hst1 m hO t) (hst2 m hO t) (hst3 m hO t) (hst4 m hO t) _ _ _ _ _ _ _ _ _ _ _ _
        (fun _ => iprop(St 0 (st0 m hO t) (st1 m hO t) (st2 m hO t) (st3 m hO t) (st4 m hO t) (iblk m hO 0 0 t) (iblk m hO 0 1 t) (iblk m hO 0 2 t)
          (iblk m hO 0 3 t) (if k0_cond6 (grid0.coords t) = 1#1 then (traj m hO 0 t.val t.isLt).2 else (dats m hO 0 0).before 4 t d4)
          (traj m hO 0 t.val t.isLt).1 (traj m hO 0 t.val t.isLt).2
          ∗ tabPt 0 tab0 (tbl m 0) ∗ tabPt 0 tab1 (tbl m 1) ∗ tabPt 0 tab2 (tbl m 2) ∗ tabPt 0 tab3 (tbl m 3) ∗ tabPt 0 tab4 (tbl m 4)))
        (by rw [e2, e1]))).trans
      ((wp_frame_l _ _ _).trans (wp_mono _ _ _ fun _ => ?_)))
  · unfold St
    iintro ⟨⟨⟨⟨⟨⟨⟨⟨⟨⟨⟨⟨⟨Ho, H0⟩, H1⟩, H2⟩, H3⟩, H4⟩, HX⟩, HA⟩, Hg⟩, T0⟩, T1⟩, T2⟩, T3⟩, T4⟩
    iframe Hg Ho H0 H1 H2 H3 H4 HX HA T0 T1 T2 T3 T4
  · unfold St
    iintro ⟨⟨Hg, Ho⟩, ⟨H0, H1, H2, H3, H4, HX, HA⟩, T0, T1, T2, T3, T4⟩
    iframe Hg Ho H0 H1 H2 H3 HX HA T0 T1 T2 T3 T4
    iapply (outPost_intro m hO 0 t d4) $$ H4

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

theorem body_obligation (hO : Ok m) (hS : Starts m hO) (c : Dev nD) :
    BodyObligation (dats m hO 0 c) (defs₀ (F := F)) Variants.none () Set.univ := fun t => by
  rw [bigSep_W0, bigSep_W0, defs₀_row m hO]
  exact triple_restated (sound_body m hO hS c t) rfl .rfl fun _ => .rfl

/-! ### The launch -/

theorem hin (hO : Ok m) (c : Dev nD) : iprop(Pipeline.ΦA spec0 c ∗ Pipeline.ΦT pre0 (tbl m) c) ⊢ (dats m hO 0 c).Φ 0 := by
  rw [show (dats m hO 0 c).Φ 0 = Inv m hO c 0 (Nat.zero_le _) from rfl, Inv_zero m hO c 0 _ rfl]

theorem hout (hO : Ok m) (c : Dev nD) : (dats m hO 0 c).Φ (Fin.last (cfgM m hO).N) ⊢ Pipeline.ΦA spec0 c := by
  have hN : (cfgM m hO).N = 150 := N_0
  rw [show (dats m hO 0 c).Φ (Fin.last (cfgM m hO).N) = Inv m hO c (cfgM m hO).N le_rfl from rfl, Inv_pos m hO c _ _ (by omega), PhiA_eq]
  iintro ⟨⟨⟨HX, HA⟩, Hg⟩, -⟩
  isplitl [HX HA]
  · isplitl [HX]
    · iexists _; iexact HX
    · iexists _; iexact HA
  · iexact Hg

set_option backward.isDefEq.respectTransparency.types false in
/-- Every run ends with the arrays as the pipeline's data say and no signal outstanding. -/
theorem run (hO : Ok m) (hS : Starts m hO) : θ_run defs (onTc (τ := τ) (main (F := F))) (s₀ m ρ)
    (fun r => Pipeline.FramePost (Pipeline.pin pcfgs fun _ => adm m hO) (dats m hO) 0 (V m) r ∧ r.2.sem = fun _ => 0) :=
  Pipeline.θ_run_frameP_track (Q' := _) pcfgs (fun _ => adm m hO) (dats m hO) (0 : Fin 1) launch0 defs₀ Variants.none m ρ main
    (hbody := fun c => (body_obligation m hO hS c).loose) (hshare := fun c => (dats m hO 0 c).share_full fun _ => rfl)
    (howed := fun _ _ => rfl) (V := V m) (hmain := hmain m Variants.none) (hA := A_eq m hO) (hpf := V_pre m) (hin := hin m hO) (hout := hout m hO)

/-- A run that ends with the arrays as the data say leaves the arguments. -/
theorem args_kept (hO : Ok m) {r : PUnit × MemSt nD τ sig (Elt F)} (h : Pipeline.FramePost (Pipeline.pin pcfgs fun _ => adm m hO) (dats m hO) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8) :=
  ⟨(h c).2 main_arg0 (by decide : main_arg0 ∈ Pipeline.restRefs sig spec0),
    (h c).2 main_arg1 (by decide : main_arg1 ∈ Pipeline.restRefs sig spec0),
    (h c).2 main_arg2 (by decide : main_arg2 ∈ Pipeline.restRefs sig spec0),
    (h c).2 main_arg3 (by decide : main_arg3 ∈ Pipeline.restRefs sig spec0),
    (h c).2 main_arg4 (by decide : main_arg4 ∈ Pipeline.restRefs sig spec0),
    ((h c).1 (0 : Fin 5)).trans ((Pipeline.Dat.arrAt_in _ _ rfl _).trans (A_eq m hO c 0)),
    ((h c).1 (1 : Fin 5)).trans ((Pipeline.Dat.arrAt_in _ _ rfl _).trans (A_eq m hO c 1)),
    ((h c).1 (2 : Fin 5)).trans ((Pipeline.Dat.arrAt_in _ _ rfl _).trans (A_eq m hO c 2)),
    ((h c).1 (3 : Fin 5)).trans ((Pipeline.Dat.arrAt_in _ _ rfl _).trans (A_eq m hO c 3))⟩

/-- The call runs, leaves its arguments and ends with no signal outstanding. -/
theorem frame_args (hO : Ok m) (hS : Starts m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  (θ_run defs _ _).mono (fun _ h => ⟨args_kept m hO h.1, h.2⟩) (run m ρ hO hS)

end Cert.MoeIdeal.Experts

end
-- ==== Proof.MoeTables.lean ====
/-
  What the precondition says of the work list, word by word.
-/
module

public import proofs.«01_k».proof.Proof.Gen.Pre_work_list
public import Idealize.ShloMosaic.Lib.ReduceAll
public import Idealize.ShloMosaic.Lib.Pointwise
public import Idealize.ShloMosaic.Lib.WordCmp

@[expose] public section

set_option maxRecDepth 16384

noncomputable section

open Idealize.ShloMosaic

namespace Cert.Pre_work_list.Read

open Cert.Pre_work_list Cert.Pre_work_list.Gen

variable {F : FTy → Type} [FloatOps F]

instance : Subsingleton S_.Idx := ⟨fun a b => funext fun i => i.elim0⟩

/-- The conditions on the list: tile and expert in range; each item is on its predecessor's tile or the next, from the first
    tile to the last; an item's flag is set where its tile is a new one. -/
structure Listed (wt we first : IVec S75 32) : Prop where
  tile : ∀ i : Fin 75, (wt (ix1 i)).toNat < 68
  expert : ∀ i : Fin 75, (we (ix1 i)).toNat < 8
  step : ∀ i : Fin 74, wt (ix1 ⟨i + 1, by omega⟩) = wt (ix1 ⟨i, by omega⟩) ∨ wt (ix1 ⟨i + 1, by omega⟩) = wt (ix1 ⟨i, by omega⟩) + 1#32
  mark : ∀ i : Fin 74, 0 < (first (ix1 ⟨i + 1, by omega⟩)).toInt ↔ wt (ix1 ⟨i + 1, by omega⟩) ≠ wt (ix1 ⟨i, by omega⟩)
  start : wt (ix1 0) = 0#32
  stop : wt (ix1 74) = 67#32
  opens : 0 < (first (ix1 0)).toInt

/-- A word at least 0 and below a small bound, as signed numbers. -/
theorem in_range (w : BitVec 32) (b : ℕ) (hb : b < 100) (h1 : IntOp.cmpi .sge w 0#32 = 1#1)
    (h2 : IntOp.cmpi .slt w (BitVec.ofNat 32 b) = 1#1) : w.toNat < b := by
  rw [WordCmp.cmpi_sge_eq, WordCmp.ofBool_decide_eq_one_iff, show (0#32 : BitVec 32).toInt = 0 by decide] at h1
  rw [WordCmp.cmpi_slt_eq, WordCmp.ofBool_decide_eq_one_iff, WordCmp.toInt_ofNat_of_lt (by omega)] at h2
  have := BitVec.toInt_eq_toNat_cond w
  split at this <;> omega

theorem after_first (w : IVec S75 32) (i : Fin 74) :
    extractStridedSlice S74 ![1] w Facts.slices_S75_S74_1 (ix1 i) = w (ix1 ⟨i + 1, by omega⟩) := by
  pointwise
  exact congrArg (fun j => w (ix1 j)) (Fin.ext (Nat.add_comm 1 _))
theorem before_last (w : IVec S75 32) (i : Fin 74) :
    extractStridedSlice S74 ![0] w Facts.slices_S75_S74_0 (ix1 i) = w (ix1 ⟨i, by omega⟩) := by
  pointwise
theorem at_first (w : IVec S75 32) (z : S_.Idx) :
    shapeCast S_ (extractStridedSlice S1 ![0] w Facts.slices_S75_S1_0) Facts.shapeCasts_S1_S_ z = w (ix1 0) := by
  pointwise
theorem at_last (w : IVec S75 32) (z : S_.Idx) :
    shapeCast S_ (extractStridedSlice S1 ![74] w Facts.slices_S75_S1_74) Facts.shapeCasts_S1_S_ z = w (ix1 74) := by
  pointwise

theorem listed (wt we lo hi first : IVec S75 32) (x : FVec F S34816x1024 .f32) (wg wu : FVec F S2x8x1024x3584 .bf16) (wd : FVec F S2x8x3584x1024 .bf16)
    (h : Cert.Pre_work_list.fn (F := F) wt we lo hi first x wg wu wd = fun _ => 1#1) : Listed wt we first := by
  have h0 := congrFun h (Shape.Idx.first Facts.h_S_)
  obtain ⟨k6, g7⟩ := IntOp.andi_eq_one.1 h0
  obtain ⟨k5, g6⟩ := IntOp.andi_eq_one.1 k6
  obtain ⟨k4, g5⟩ := IntOp.andi_eq_one.1 k5
  obtain ⟨k3, g4⟩ := IntOp.andi_eq_one.1 k4
  obtain ⟨k2, g3⟩ := IntOp.andi_eq_one.1 k3
  obtain ⟨g1, g2⟩ := IntOp.andi_eq_one.1 k2
  beta_reduce at g1 g2 g3 g4
  clear h0 h k2 k3 k4 k5 k6
  have g1 := fun i => IntOp.andi_eq_one.1 (Host.reduce_andi_all _ _ _ _ _ g1 i)
  have g2 := fun i => IntOp.andi_eq_one.1 (Host.reduce_andi_all _ _ _ _ _ g2 i)
  have g3 := Host.reduce_andi_all _ _ _ _ _ g3
  have g4 := Host.reduce_andi_all _ _ _ _ _ g4
  refine ⟨fun i => in_range _ 68 (by omega) (g1 (ix1 i)).1 (g1 (ix1 i)).2, fun i => in_range _ 8 (by omega) (g2 (ix1 i)).1 (g2 (ix1 i)).2,
    fun i => ?_, fun i => ?_, ?_, ?_, ?_⟩
  · have h : IntOp.ori (IntOp.cmpi .eq (extractStridedSlice S74 ![1] wt Facts.slices_S75_S74_1 (ix1 i)) (extractStridedSlice S74 ![0] wt Facts.slices_S75_S74_0 (ix1 i)))
        (IntOp.cmpi .eq (extractStridedSlice S74 ![1] wt Facts.slices_S75_S74_1 (ix1 i)) (extractStridedSlice S74 ![0] wt Facts.slices_S75_S74_0 (ix1 i) + 1#32)) = 1#1 := g3 (ix1 i)
    rw [after_first, before_last, WordCmp.cmpi_eq_eq, WordCmp.cmpi_eq_eq, WordCmp.ori_ofBool, WordCmp.ofBool_eq_one_iff, Bool.or_eq_true,
      decide_eq_true_eq, decide_eq_true_eq] at h
    exact h
  · have h : IntOp.cmpi .eq (IntOp.cmpi .sgt (extractStridedSlice S74 ![1] first Facts.slices_S75_S74_1 (ix1 i)) 0#32)
        (IntOp.cmpi .ne (extractStridedSlice S74 ![1] wt Facts.slices_S75_S74_1 (ix1 i)) (extractStridedSlice S74 ![0] wt Facts.slices_S75_S74_0 (ix1 i))) = 1#1 := g4 (ix1 i)
    rw [WordCmp.cmpi_eq_eq, WordCmp.ofBool_decide_eq_one_iff, after_first, after_first, before_last] at h
    rw [← WordCmp.ofBool_decide_eq_one_iff (wt _ ≠ wt _), ← WordCmp.cmpi_ne_eq, ← h, WordCmp.cmpi_sgt_eq, WordCmp.ofBool_decide_eq_one_iff]
    exact Iff.rfl
  · have h : IntOp.cmpi .eq (shapeCast S_ (extractStridedSlice S1 ![0] wt Facts.slices_S75_S1_0) Facts.shapeCasts_S1_S_ (Shape.Idx.first Facts.h_S_)) 0#32 = 1#1 := g5
    rwa [at_first, WordCmp.cmpi_eq_eq, WordCmp.ofBool_decide_eq_one_iff] at h
  · have h : IntOp.cmpi .eq (shapeCast S_ (extractStridedSlice S1 ![74] wt Facts.slices_S75_S1_74) Facts.shapeCasts_S1_S_ (Shape.Idx.first Facts.h_S_)) 67#32 = 1#1 := g6
    rwa [at_last, WordCmp.cmpi_eq_eq, WordCmp.ofBool_decide_eq_one_iff] at h
  · have h : IntOp.cmpi .sgt (shapeCast S_ (extractStridedSlice S1 ![0] first Facts.slices_S75_S1_0) Facts.shapeCasts_S1_S_ (Shape.Idx.first Facts.h_S_)) 0#32 = 1#1 := g7
    rw [at_first, WordCmp.cmpi_sgt_eq, WordCmp.ofBool_decide_eq_one_iff] at h
    exact h

/-- A later item's tile is no earlier. -/
theorem Listed.mono {wt we first : IVec S75 32} (L : Listed wt we first) (i j : ℕ) (hij : i ≤ j) (hj : j < 75) :
    (wt (ix1 ⟨i, by omega⟩)).toNat ≤ (wt (ix1 ⟨j, hj⟩)).toNat := by
  induction j, hij using Nat.le_induction with
  | base => exact le_rfl
  | succ j hij ih =>
    refine (ih (by omega)).trans ?_
    have h1 := L.tile ⟨j, by omega⟩
    rcases L.step ⟨j, by omega⟩ with h | h
    · exact (congrArg BitVec.toNat h).ge
    · rw [h, BitVec.toNat_add]
      have : (1#32 : BitVec 32).toNat = 1 := by decide
      rw [this]
      dsimp only
      omega

/-- Every tile has a last item: the list ends there, or the next item's tile is another. -/
theorem Listed.last {wt we first : IVec S75 32} (L : Listed wt we first) (n : ℕ) (hn : n < 68) :
    ∃ i : Fin 75, (wt (ix1 i)).toNat = n ∧ (i.val = 74 ∨ ∃ h : i.val + 1 < 75, wt (ix1 ⟨i.val + 1, h⟩) ≠ wt (ix1 i)) := by
  by_contra hno
  have stay : ∀ j : ℕ, ∀ hj : j < 75, (wt (ix1 ⟨j, hj⟩)).toNat ≤ n := by
    intro j
    induction j with
    | zero =>
      intro hj
      have : (wt (ix1 ⟨0, hj⟩)).toNat = 0 := congrArg BitVec.toNat L.start
      omega
    | succ j ih =>
      intro hj
      have h0 := ih (by omega)
      rcases L.step ⟨j, by omega⟩ with h | h
      · exact (congrArg BitVec.toNat h).le.trans h0
      · rcases Nat.lt_or_eq_of_le h0 with h1 | h1
        · rw [show wt (ix1 ⟨j + 1, hj⟩) = _ from h, BitVec.toNat_add]
          have : (1#32 : BitVec 32).toNat = 1 := by decide
          rw [this]
          dsimp only
          omega
        · refine absurd ⟨⟨j, by omega⟩, h1, .inr ⟨hj, fun he => ?_⟩⟩ hno
          rw [show wt (ix1 ⟨j + 1, hj⟩) = _ from h] at he
          have := congrArg BitVec.toNat he
          rw [BitVec.toNat_add, show (1#32 : BitVec 32).toNat = 1 by decide] at this
          dsimp only at this
          omega
  have h1 : (wt (ix1 ⟨74, by omega⟩)).toNat = 67 := congrArg BitVec.toNat L.stop
  have h2 := stay 74 (by omega)
  exact hno ⟨74, by show (wt (ix1 ⟨74, by omega⟩)).toNat = n; omega, .inl rfl⟩

end Cert.Pre_work_list.Read

end
-- ==== Proof.MoeReady.lean ====
/- The experts' call: what the precondition gives the run — the blocks lie inside the arrays and the first point resets
   the accumulator. -/
module

public import proofs.«01_k».proof.Proof.MoeFrame
public import proofs.«01_k».proof.Proof.MoeTables

@[expose] public section

set_option maxRecDepth 16384

noncomputable section

namespace Cert.MoeIdeal.Experts

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable (m : (ℓ : Loc nD τ sig) → Buf (Elt F) ℓ)

/-- The work list's five arrays: an item's tile, expert, first and last row, and whether it opens its tile. -/
abbrev WT : IVec S75 32 := m (((0 : Dev nD) : Thread nD τ).loc main_arg0)
abbrev WE : IVec S75 32 := m (((0 : Dev nD) : Thread nD τ).loc main_arg1)
abbrev LO : IVec S75 32 := m (((0 : Dev nD) : Thread nD τ).loc main_arg2)
abbrev HI : IVec S75 32 := m (((0 : Dev nD) : Thread nD τ).loc main_arg3)
abbrev FI : IVec S75 32 := m (((0 : Dev nD) : Thread nD τ).loc main_arg4)

theorem step_word {n : ℕ} (h : n < 150) : (BitVec.ofNat 32 n).toNat = n := by
  rw [BitVec.toNat_ofNat]; exact Nat.mod_eq_of_lt (by omega)

/-- A word's place in its table is the item's number. -/
theorem place (i : grid0.Coords) : (k0_off1 i) 0 = (i 0).val :=
  have h : (i 0).val < 75 := (i 0).isLt
  step_word (by omega)

theorem place_idx (i : grid0.Coords) (inb : ∀ a, (k0_off1 i) a + S1.size a ≤ S75.size a) (y : S1.Idx) :
    (Rect.unit (s := S75) (k0_off1 i) S1.size inb).toLoadRect.idx y = ix1 (i 0) := by
  funext a
  fin_cases a
  refine Fin.ext ?_
  have hy : (y 0).val < 1 := (y 0).isLt
  show (k0_off1 i) 0 + 1 * (y 0).val = (i 0).val
  rw [place]; omega

theorem word_tile (i : grid0.Coords) : word (c := (0 : Dev nD)) tab0 (tbl m 0) i = WT m (ix1 (i 0)) := congrArg (WT m) (place_idx i _ _)
theorem word_lo (i : grid0.Coords) : word (c := (0 : Dev nD)) tab2 (tbl m 2) i = LO m (ix1 (i 0)) := congrArg (LO m) (place_idx i _ _)
theorem word_hi (i : grid0.Coords) : word (c := (0 : Dev nD)) tab3 (tbl m 3) i = HI m (ix1 (i 0)) := congrArg (HI m) (place_idx i _ _)
theorem word_first (i : grid0.Coords) : word (c := (0 : Dev nD)) tab4 (tbl m 4) i = FI m (ix1 (i 0)) := congrArg (FI m) (place_idx i _ _)

theorem at_tile (i : grid0.Coords) : Pipeline.Prefetch.Contents.at (tbl m) 0 (Rect.unit (s := S75) (k0_off1 i) S1.size (k0_off1_inb i)) numel1_S1 = WT m (ix1 (i 0)) :=
  congrArg (WT m) (place_idx i _ _)
theorem at_expert (i : grid0.Coords) : Pipeline.Prefetch.Contents.at (tbl m) 1 (Rect.unit (s := S75) (k0_off1 i) S1.size (k0_off1_inb i)) numel1_S1 = WE m (ix1 (i 0)) :=
  congrArg (WE m) (place_idx i _ _)

/-- The blocks a point names: its item's tile of the rows, its item's expert and the point's half of the hidden width. -/
theorem block0 (i : grid0.Coords) : cc0_transform_0 k0_off1_inb numel1_S1 (tbl m) i = ![(WT m (ix1 (i 0))).toNat, 0] :=
  congrArg (fun w : BitVec 32 => (![w.toNat, 0] : Fin 2 → ℕ)) (at_tile m i)
theorem block4 (i : grid0.Coords) : cc0_transform_4 k0_off1_inb numel1_S1 (tbl m) i = ![(WT m (ix1 (i 0))).toNat, 0] :=
  congrArg (fun w : BitVec 32 => (![w.toNat, 0] : Fin 2 → ℕ)) (at_tile m i)
theorem block1 (i : grid0.Coords) : cc0_transform_1 k0_off1_inb numel1_S1 (tbl m) i = ![0, (WE m (ix1 (i 0))).toNat, 0, (i 1).val] :=
  have h : (i 1).val < 2 := (i 1).isLt
  (congrArg (fun w : BitVec 32 => (![0, w.toNat, 0, (BitVec.ofNat 32 (i 1).val).toNat] : Fin 4 → ℕ)) (at_expert m i)).trans
    (congrArg (fun n : ℕ => (![0, (WE m (ix1 (i 0))).toNat, 0, n] : Fin 4 → ℕ)) (step_word (by omega)))
theorem block2 (i : grid0.Coords) : cc0_transform_2 k0_off1_inb numel1_S1 (tbl m) i = ![0, (WE m (ix1 (i 0))).toNat, 0, (i 1).val] := block1 m i
theorem block3 (i : grid0.Coords) : cc0_transform_3 k0_off1_inb numel1_S1 (tbl m) i = ![0, (WE m (ix1 (i 0))).toNat, (i 1).val, 0] :=
  have h : (i 1).val < 2 := (i 1).isLt
  (congrArg (fun w : BitVec 32 => (![0, w.toNat, (BitVec.ofNat 32 (i 1).val).toNat, 0] : Fin 4 → ℕ)) (at_expert m i)).trans
    (congrArg (fun n : ℕ => (![0, (WE m (ix1 (i 0))).toNat, n, 0] : Fin 4 → ℕ)) (step_word (by omega)))

open Cert.Pre_work_list.Read (Listed)

variable {m}

/-- Under the list's conditions every block lies inside its array. -/
theorem ok_of_listed (L : Listed (WT m) (WE m) (FI m)) : Ok m := by
  have ht (i : grid0.Coords) := L.tile (i 0)
  have he (i : grid0.Coords) := L.expert (i 0)
  have hj (i : grid0.Coords) : (i 1).val < 2 := (i 1).isLt
  refine ⟨fun i => ⟨?_, .inl rfl⟩, fun i => ⟨?_, .inr (Affine.block_words_dvd (s := S2x8x1024x3584) (p := EltTy.packing .bf16) (by decide) (by decide))⟩,
    fun i => ⟨?_, .inr (Affine.block_words_dvd (s := S2x8x1024x3584) (p := EltTy.packing .bf16) (by decide) (by decide))⟩,
    fun i => ⟨?_, .inr (Affine.block_words_dvd (s := S2x8x3584x1024) (p := EltTy.packing .bf16) (by decide) (by decide))⟩, fun i => ⟨?_, .inl rfl⟩⟩ <;>
  (specialize ht i; specialize he i; specialize hj i
   first | rw [block0] | rw [block1] | rw [block2] | rw [block3] | rw [block4]
   intro a
   fin_cases a) <;> simp <;> omega

/-- A point resets the accumulator exactly when it is the first half of an item that opens its tile. -/
theorem resets_iff (i : grid0.Coords) (first : BitVec 32) : resets i first ↔ (i 1).val = 0 ∧ 0 < first.toInt := by
  have hj : (i 1).val < 2 := (i 1).isLt
  have he : BitVec.ofNat 32 (i 1).val = 0#32 ↔ (i 1).val = 0 := by
    rw [← BitVec.toNat_inj, step_word (by omega)]; rfl
  unfold resets
  simp only [Scalar.cmpi, Scalar.extui, Scalar.andi, WordCmp.cmpi_eq_eq, WordCmp.cmpi_ne_eq, WordCmp.cmpi_sgt_eq, WordCmp.andi_ofBool]
  rw [WordCmp.ofBool_decide_eq_one_iff]
  by_cases h0 : (i 1).val = 0 <;> by_cases h1 : 0 < first.toInt <;> simp [he, h0, h1]

theorem starts_of_listed (L : Listed (WT m) (WE m) (FI m)) (hO : Ok m) : Starts m hO := by
  intro t ht
  rw [resets_iff]
  have h1 := coords1 t
  have h0 := coords0 t
  refine ⟨by omega, ?_⟩
  show 0 < (word (c := (0 : Dev nD)) tab4 (tbl m 4) (grid0.coords t)).toInt
  rw [word_first, show (grid0.coords t) 0 = (0 : Fin 75) from Fin.ext (by rw [h0, ht]; rfl)]
  exact L.opens

end Cert.MoeIdeal.Experts

end
-- ==== Proof.MoeMath.lean ====
/-
  The experts' kernel at the extended reals: what one grid point adds to the accumulator.
-/
module

public import proofs.«01_k».proof.Proof.MoeBody
public import proofs.«01_k».proof.Proof.FfnRef
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.MoeIdeal.Experts

open Cert.MoeIdeal Cert.MoeIdeal.Gen
open Cert.FfnRefIdeal.Term (unit)

/-- The rows' products with a half of an up-projection. -/
def up512 (x : FVec Ideal S512x1024 .bf16) (w : FVec Ideal S1x1x1024x1792 .bf16) : FVec Ideal S512x1792 .f32 :=
  matmul dot_S512x1024_S1024x1792_S512x1792_1_0_0_1_n_n none x (shapeCast S1024x1792 w shapeCasts_S1x1x1024x1792_S1024x1792) (constant S512x1792 .f32 0x00000000#32)
def up256 (x : FVec Ideal S256x1024 .bf16) (w : FVec Ideal S1x1x1024x1792 .bf16) : FVec Ideal S256x1792 .f32 :=
  matmul dot_S256x1024_S1024x1792_S256x1792_1_0_0_1_n_n none x (shapeCast S1024x1792 w shapeCasts_S1x1x1024x1792_S1024x1792) (constant S256x1792 .f32 0x00000000#32)

/-- Gated hidden units. -/
def gated (s : Shape) (g u : FVec Ideal s .f32) : FVec Ideal s .f32 :=
  mulf (mulf g (divf (broadcast s (Scalar.ofBits .f32 0x3F800000#32)) (addf (broadcast s (Scalar.ofBits .f32 0x3F800000#32))
    (exp (subf (broadcast s (Scalar.ofBits .f32 0x00000000#32)) g))))) u

/-- The units' part of the down-projection. -/
def down512 (a : FVec Ideal S512x1792 .f32) (w : FVec Ideal S1x1x1792x1024 .bf16) : FVec Ideal S512x1024 .f32 :=
  matmul dot_S512x1792_S1792x1024_S512x1024_1_0_0_1_n_n none (truncf .bf16 a bitsLt_bf16_f32) (shapeCast S1792x1024 w shapeCasts_S1x1x1792x1024_S1792x1024) (constant S512x1024 .f32 0x00000000#32)
def down256 (a : FVec Ideal S256x1792 .f32) (w : FVec Ideal S1x1x1792x1024 .bf16) : FVec Ideal S256x1024 .f32 :=
  matmul dot_S256x1792_S1792x1024_S256x1024_1_0_0_1_n_n none (truncf .bf16 a bitsLt_bf16_f32) (shapeCast S1792x1024 w shapeCasts_S1x1x1792x1024_S1792x1024) (constant S256x1024 .f32 0x00000000#32)

theorem up512_at (x : FVec Ideal S512x1024 .bf16) (w : FVec Ideal S1x1x1024x1792 .bf16) (r : Fin 512) (f : Fin 1792) :
    up512 x w (ix2 r f) = ∑ d : Fin 1024, x (ix2 r d) * w (ix4 0 0 d f) := by pointwise [up512]
theorem up256_at (x : FVec Ideal S256x1024 .bf16) (w : FVec Ideal S1x1x1024x1792 .bf16) (r : Fin 256) (f : Fin 1792) :
    up256 x w (ix2 r f) = ∑ d : Fin 1024, x (ix2 r d) * w (ix4 0 0 d f) := by pointwise [up256]
theorem gated_at (s : Shape) (g u : FVec Ideal s .f32) (y : s.Idx) : gated s g u y = unit (g y) (u y) := by
  pointwise [gated, unit]
  rw [zero_sub]
theorem down512_at (a : FVec Ideal S512x1792 .f32) (w : FVec Ideal S1x1x1792x1024 .bf16) (r : Fin 512) (k : Fin 1024) :
    down512 a w (ix2 r k) = ∑ f : Fin 1792, a (ix2 r f) * w (ix4 0 0 f k) := by pointwise [down512]
theorem down256_at (a : FVec Ideal S256x1792 .f32) (w : FVec Ideal S1x1x1792x1024 .bf16) (r : Fin 256) (k : Fin 1024) :
    down256 a w (ix2 r k) = ∑ f : Fin 1792, a (ix2 r f) * w (ix4 0 0 f k) := by pointwise [down256]

/-- Half an expert applied to a row: its 1792 hidden units' part of the output. -/
def part (x : Fin 1024 → EReal) (w1 w2 : Vec Ideal S1x1x1024x1792 .bf16) (w3 : Vec Ideal S1x1x1792x1024 .bf16) (k : Fin 1024) : EReal :=
  ∑ f : Fin 1792, unit (∑ d : Fin 1024, x d * w1 (ix4 0 0 d f)) (∑ d : Fin 1024, x d * w2 (ix4 0 0 d f)) * w3 (ix4 0 0 f k)

theorem part_zero (x : Fin 1024 → EReal) (hx : ∀ d, x d = 0) (w1 w2 : Vec Ideal S1x1x1024x1792 .bf16) (w3 : Vec Ideal S1x1x1792x1024 .bf16) (k : Fin 1024) :
    part x w1 w2 w3 k = 0 :=
  Finset.sum_eq_zero fun f _ => by
    have h (w : Vec Ideal S1x1x1024x1792 .bf16) : ∑ d : Fin 1024, x d * w (ix4 0 0 d f) = 0 :=
      Finset.sum_eq_zero fun d _ => by rw [hx d, zero_mul]
    rw [h, h, unit, zero_mul, zero_mul, zero_mul]

theorem pay4_at (x : Vec Ideal S512x1024 .bf16) (w1 w2 : Vec Ideal S1x1x1024x1792 .bf16) (a : Vec Ideal S512x1024 .f32) (w3 : Vec Ideal S1x1x1792x1024 .bf16)
    (r : Fin 512) (k : Fin 1024) : k0_pay4 (F := Ideal) x w1 w2 a w3 (ix2 r k) = a (ix2 r k) + part (fun d => x (ix2 r d)) w1 w2 w3 k := by
  have h : k0_pay4 (F := Ideal) x w1 w2 a w3 = shapeCast S512x1024 (addf a (down512 (gated _ (up512 x w1) (up512 x w2)) w3)) shapeCasts_S512x1024_S512x1024 := rfl
  rw [h]
  pointwise []
  rw [down512_at]
  simp only [gated_at, up512_at, part]

theorem pay5_at (x : Vec Ideal S256x1024 .bf16) (w1 w2 : Vec Ideal S1x1x1024x1792 .bf16) (a : Vec Ideal S256x1024 .f32) (w3 : Vec Ideal S1x1x1792x1024 .bf16)
    (r : Fin 256) (k : Fin 1024) : k0_pay5 (F := Ideal) x w1 w2 a w3 (ix2 r k) = a (ix2 r k) + part (fun d => x (ix2 r d)) w1 w2 w3 k := by
  have h : k0_pay5 (F := Ideal) x w1 w2 a w3 = shapeCast S256x1024 (addf a (down256 (gated _ (up256 x w1) (up256 x w2)) w3)) shapeCasts_S256x1024_S256x1024 := rfl
  rw [h]
  pointwise []
  rw [down256_at]
  simp only [gated_at, up256_at, part]

theorem pay1_eq (x : Vec Ideal S256x1024 .bf16) (w1 w2 : Vec Ideal S1x1x1024x1792 .bf16) (a : Vec Ideal S256x1024 .f32) (w3 : Vec Ideal S1x1x1792x1024 .bf16) :
    k0_pay1 (F := Ideal) x w1 w2 a w3 = k0_pay5 (F := Ideal) x w1 w2 a w3 := rfl

theorem pay3_at (r : Fin 512) (k : Fin 1024) : k0_pay3 (F := Ideal) (ix2 r k) = 0 := by
  pointwise [k0_pay3]

/-- Row `n` is among an item's rows. -/
def Within (lo hi : BitVec 32) (n : ℕ) : Prop := lo.toInt ≤ n ∧ (n : ℤ) < hi.toInt

instance (lo hi : BitVec 32) (n : ℕ) : Decidable (Within lo hi n) := by unfold Within; infer_instance

theorem start_word {wt : BitVec 32} (h : wt.toNat < 68) (o : ℕ) (ho : o ≤ 1024) : (wt * 512#32 + BitVec.ofNat 32 o).toInt = 512 * wt.toNat + o := by
  have e : (wt * 512#32 + BitVec.ofNat 32 o).toNat = 512 * wt.toNat + o := by
    simp only [BitVec.toNat_add, BitVec.toNat_mul, BitVec.toNat_ofNat]; omega
  rw [WordCmp.toInt_eq_toNat_of_lt_half (by omega), e]; push_cast; rfl

theorem start_word0 {wt : BitVec 32} (h : wt.toNat < 68) : (wt * 512#32).toInt = 512 * wt.toNat := by
  have := start_word h 0 (by omega)
  rwa [show BitVec.ofNat 32 0 = 0#32 from rfl, BitVec.add_zero, Nat.cast_zero, add_zero] at this

theorem flag_iff (b : Bool) : BitVec.setWidth 32 (BitVec.ofBool b) ≠ 0#32 ↔ b = true := by cases b <;> decide

theorem flip_eq (b : Bool) : IntOp.xori (BitVec.ofBool b) 1#1 = BitVec.ofBool (!b) := by cases b <;> rfl

theorem max_lt {x y z : BitVec 32} : (IntOp.maxsi x y).toInt < z.toInt ↔ x.toInt < z.toInt ∧ y.toInt < z.toInt := by
  unfold IntOp.maxsi
  split
  · rename_i h
    have := BitVec.slt_iff_toInt_lt.1 h
    omega
  · rename_i h
    have : ¬ y.toInt < x.toInt := fun k => h (BitVec.slt_iff_toInt_lt.2 k)
    omega

theorem pay2_at {wt : BitVec 32} (h : wt.toNat < 68) (lo hi : BitVec 32) (x : Vec Ideal S512x1024 .f32) (r : Fin 512) (d : Fin 1024) :
    k0_pay2 (F := Ideal) wt lo hi x (ix2 r d) = if Within lo hi (512 * wt.toNat + r) then x (ix2 r d) else 0 := by
  have h0 := start_word h r (by omega)
  pointwise [k0_pay2]
  simp only [Scalar.muli, IntOp.muli, IntOp.addi, WordCmp.cmpi_slt_eq, WordCmp.cmpi_sge_eq, WordCmp.andi_ofBool, Scalar.select, h0, WordCmp.ofBool_eq_one_iff, Within]
  push_cast
  by_cases h1 : lo.toInt ≤ 512 * wt.toNat + r <;> by_cases h2 : (512 * wt.toNat + r : ℤ) < hi.toInt <;> simp [h1, h2]

theorem fulls_iff {wt : BitVec 32} (h : wt.toNat < 68) (lo hi : BitVec 32) :
    fulls wt lo hi ↔ lo.toInt ≤ 512 * wt.toNat ∧ 512 * (wt.toNat : ℤ) + 512 ≤ hi.toInt := by
  have h0 := start_word0 h
  have h1 := start_word h 512 (by omega)
  unfold fulls full
  simp only [Scalar.cmpi, Scalar.extui, Scalar.andi, Scalar.muli, Scalar.addi, IntOp.muli, IntOp.addi, WordCmp.cmpi_ne_eq, WordCmp.cmpi_sge_eq, WordCmp.cmpi_sle_eq, WordCmp.andi_ofBool]
  rw [WordCmp.ofBool_decide_eq_one_iff, flag_iff, Bool.and_eq_true, decide_eq_true_iff, decide_eq_true_iff, h0, h1]
  push_cast
  rfl

theorem parts_iff {wt : BitVec 32} (h : wt.toNat < 68) (lo hi : BitVec 32) (o : ℕ) (ho : o ≤ 256) : parts (BitVec.ofNat 32 o) wt lo hi ↔
    ¬ fulls wt lo hi ∧ 512 * (wt.toNat : ℤ) + o < hi.toInt ∧ lo.toInt < hi.toInt ∧ lo.toInt < 512 * wt.toNat + o + 256 := by
  rw [fulls_iff h]
  have h0 := start_word0 h
  have h1 := start_word h 512 (by omega)
  have h2 := start_word h o (by omega)
  have h3 := start_word h (o + 256) (by omega)
  rw [show BitVec.ofNat 32 (o + 256) = BitVec.ofNat 32 o + 256#32 from BitVec.ofNat_add _ _, ← BitVec.add_assoc] at h3
  unfold parts full
  simp only [Scalar.cmpi, Scalar.extui, Scalar.andi, Scalar.xori, Scalar.maxsi, Scalar.muli, Scalar.addi, IntOp.muli, IntOp.addi, WordCmp.cmpi_ne_eq, WordCmp.cmpi_sgt_eq, WordCmp.cmpi_slt_eq, WordCmp.cmpi_sge_eq, WordCmp.cmpi_sle_eq, WordCmp.andi_ofBool, flip_eq]
  rw [WordCmp.ofBool_decide_eq_one_iff, flag_iff]
  simp only [Bool.and_eq_true, Bool.not_eq_true', Bool.and_eq_false_iff, decide_eq_true_iff, decide_eq_false_iff_not, max_lt, h0, h1, h2, h3]
  push_cast
  omega

theorem patch_at (o : ℕ) (a : Vec Ideal S512x1024 .f32) (p : Vec Ideal S256x1024 .f32) (r : Fin 512) (k : Fin 1024) :
    patch o a p (ix2 r k) = if h : o ≤ r.val ∧ r.val < o + 256 then p (ix2 ⟨r.val - o, by omega⟩ k) else a (ix2 r k) := by
  have e : (∀ j, (![o, 0] : Fin 2 → ℕ) j ≤ ((ix2 r k : S512x1024.Idx) j).val ∧ ((ix2 r k : S512x1024.Idx) j).val < (![o, 0] : Fin 2 → ℕ) j + S256x1024.size j)
      ↔ o ≤ r.val ∧ r.val < o + 256 := by
    refine ⟨fun h => h 0, fun h j => ?_⟩
    fin_cases j
    · exact h
    · exact ⟨Nat.zero_le _, by show k.val < 0 + 1024; omega⟩
  unfold patch
  by_cases h : o ≤ r.val ∧ r.val < o + 256
  · rw [dif_pos h, dif_pos (e.2 h)]
    refine congrArg p ?_
    funext j
    fin_cases j
    · rfl
    · rfl
  · rw [dif_neg h, dif_neg fun h' => h (e.1 h')]

theorem rows_at {e : EltTy} (o : ℕ) (inb : ∀ a, (![o, 0] : Fin 2 → ℕ) a + S256x1024.size a ≤ S512x1024.size a) (x : Vec Ideal S512x1024 e) (r : Fin 256) (d : Fin 1024)
    (R : Fin 512) (hR : R.val = o + r) : rows o inb x (ix2 r d) = x (ix2 R d) := by
  refine congrArg x ?_
  funext j
  fin_cases j
  · refine Fin.ext ?_
    show o + 1 * r.val = R.val
    omega
  · refine Fin.ext ?_
    show 0 + 1 * d.val = d.val
    omega

/-- The accumulator after a point: each row's part is added, whether the point takes the tile at once, in halves, or skips a half without rows. -/
theorem accAfter_at (i : grid0.Coords) {wt : BitVec 32} (h : wt.toNat < 68) (lo hi first : BitVec 32) (xm : Vec Ideal S512x1024 .bf16)
    (hxm : ∀ (r : Fin 512) (d : Fin 1024), ¬ Within lo hi (512 * wt.toNat + r) → xm (ix2 r d) = 0)
    (x1 x2 : Vec Ideal S1x1x1024x1792 .bf16) (x3 : Vec Ideal S1x1x1792x1024 .bf16) (a : Vec Ideal S512x1024 .f32) (r : Fin 512) (k : Fin 1024) :
    accAfter (F := Ideal) i wt lo hi first xm x1 x2 x3 a (ix2 r k)
      = (if resets i first then 0 else a (ix2 r k)) + part (fun d => xm (ix2 r d)) x1 x2 x3 k := by
  have h0 := parts_iff h lo hi 0 (by omega)
  have h1 := parts_iff h lo hi 256 (by omega)
  have hf := fulls_iff h lo hi
  unfold accAfter
  have ha : (if resets i first then k0_pay3 (F := Ideal) else a) (ix2 r k) = if resets i first then 0 else a (ix2 r k) := by
    split
    · exact pay3_at r k
    · rfl
  rw [← ha]
  clear ha
  obtain ⟨a0, e0⟩ : ∃ a0 : Vec Ideal S512x1024 .f32, (if resets i first then k0_pay3 (F := Ideal) else a) = a0 := ⟨_, rfl⟩
  rw [e0]
  clear e0
  by_cases hF : fulls wt lo hi
  · rw [if_pos hF, if_neg fun q => (h0.1 q).1 hF, if_neg fun q => (h1.1 q).1 hF, pay4_at]
  · rw [if_neg hF]
    have skip (hw : ¬ Within lo hi (512 * wt.toNat + r)) : part (fun d => xm (ix2 r d)) x1 x2 x3 k = 0 := part_zero _ (fun d => hxm r d hw) _ _ _ _
    have low : (if parts 0#32 wt lo hi then patch 0 a0 (k0_pay5 (F := Ideal) (rows 0 inb_S512x1024_S256x1024_0_0 xm) x1 x2 (rows 0 inb_S512x1024_S256x1024_0_0 a0) x3) else a0 : Vec Ideal S512x1024 .f32) (ix2 r k)
        = if r.val < 256 then a0 (ix2 r k) + part (fun d => xm (ix2 r d)) x1 x2 x3 k else a0 (ix2 r k) := by
      by_cases hp : parts 0#32 wt lo hi
      · rw [if_pos hp, patch_at]
        by_cases hr : r.val < 256
        · rw [dif_pos ⟨by omega, by omega⟩, if_pos hr, pay5_at, rows_at 0 _ a0 _ k r (by simp)]
          simp only [rows_at 0 inb_S512x1024_S256x1024_0_0 xm ⟨r.val - 0, by omega⟩ _ r (by simp)]
        · rw [dif_neg (by omega), if_neg hr]
      · rw [if_neg hp]
        split
        · rename_i hr
          rw [skip, add_zero]
          intro hw
          refine hp (h0.2 ⟨hF, ?_⟩)
          unfold Within at hw
          push_cast at hw ⊢
          omega
        · rfl
    obtain ⟨a2, e2⟩ : ∃ a2 : Vec Ideal S512x1024 .f32, (if parts 0#32 wt lo hi then patch 0 a0 (k0_pay5 (F := Ideal) (rows 0 inb_S512x1024_S256x1024_0_0 xm) x1 x2 (rows 0 inb_S512x1024_S256x1024_0_0 a0) x3) else a0) = a2 := ⟨_, rfl⟩
    rw [e2] at low ⊢
    by_cases hp : parts 256#32 wt lo hi
    · rw [if_pos hp, patch_at]
      by_cases hr : r.val < 256
      · rw [dif_neg (by omega), low, if_pos hr]
      · rw [dif_pos ⟨by omega, by omega⟩, pay1_eq, pay5_at, rows_at 256 _ a2 _ k r (by simp; omega), low, if_neg hr]
        simp only [rows_at 256 inb_S512x1024_S256x1024_256_0 xm ⟨r.val - 256, by omega⟩ _ r (by simp; omega)]
    · rw [if_neg hp, low]
      by_cases hr : r.val < 256
      · rw [if_pos hr]
      · rw [if_neg hr, skip, add_zero]
        intro hw
        refine hp (h1.2 ⟨hF, ?_⟩)
        unfold Within at hw
        push_cast at hw ⊢
        omega

end Cert.MoeIdeal.Experts

end
-- ==== Proof.MoeValue.lean ====
/-
  The experts' kernel: what the accumulator holds after each grid point, and the result array.
-/
module

public import proofs.«01_k».proof.Proof.MoeReady
public import proofs.«01_k».proof.Proof.MoeMath
public import Idealize.ShloMosaic.Lib.Pipeline.Value
public import Idealize.ShloMosaic.Lib.Pipeline.Covers
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MoeIdeal.Experts

open Cert.MoeIdeal Cert.MoeIdeal.Gen
open Cert.FfnRefIdeal.Term (unit)
open Cert.Pre_work_list.Read (Listed)

/-- Half `j` of expert `e` applied to a row: 1792 of its 3584 hidden units. -/
def half (x : Fin 1024 → EReal) (wg wu : Vec Ideal S2x8x1024x3584 .bf16) (wd : Vec Ideal S2x8x3584x1024 .bf16) (e : Fin 8) (j : Fin 2) (k : Fin 1024) : EReal :=
  ∑ f : Fin 1792, unit (∑ d : Fin 1024, x d * wg (ix4 0 e d ⟨j * 1792 + f, by omega⟩)) (∑ d : Fin 1024, x d * wu (ix4 0 e d ⟨j * 1792 + f, by omega⟩))
    * wd (ix4 0 e ⟨j * 1792 + f, by omega⟩ k)

/-- The item of point `s`. -/
def item (s : ℕ) : Fin 75 := ⟨s / 2 % 75, Nat.mod_lt _ (by decide)⟩

variable {m : (ℓ : Loc nD τ sig) → Buf (Elt Ideal) ℓ}

theorem item_eq (t : Fin grid0.N) : grid0.coords t 0 = item t.val := Fin.ext (coords0 t)

variable (m) in
/-- The rows and the three weights. -/
abbrev XS : Vec Ideal S34816x1024 .f32 := m (((0 : Dev nD) : Thread nD τ).loc main_arg5)
variable (m) in
abbrev WG : Vec Ideal S2x8x1024x3584 .bf16 := m (((0 : Dev nD) : Thread nD τ).loc main_arg6)
variable (m) in
abbrev WU : Vec Ideal S2x8x1024x3584 .bf16 := m (((0 : Dev nD) : Thread nD τ).loc main_arg7)
variable (m) in
abbrev WD : Vec Ideal S2x8x3584x1024 .bf16 := m (((0 : Dev nD) : Thread nD τ).loc main_arg8)

section
variable (L : Listed (WT m) (WE m) (FI m))
include L

/-- Row `r` of item `i`'s tile. -/
def at_ (i : Fin 75) (r : Fin 512) : Fin 34816 := ⟨512 * (WT m (ix1 i)).toNat + r, by have := L.tile i; omega⟩

/-- Item `i`'s expert. -/
def who (i : Fin 75) : Fin 8 := ⟨(WE m (ix1 i)).toNat, L.expert i⟩

variable (hO : Ok m)

theorem iblk0_at (t : Fin (cfgM m hO).N) (r : Fin 512) (d : Fin 1024) :
    (iblk m hO 0 0 t : Vec Ideal S512x1024 .f32) (ix2 r d) = XS m (ix2 (at_ L (item t.val) r) d) := by
  have hb := block0 m (grid0.coords t)
  rw [item_eq] at hb
  refine congrArg (XS m) ?_
  funext a
  fin_cases a
  · refine Fin.ext ?_
    show cc0_transform_0 k0_off1_inb numel1_S1 (tbl m) (grid0.coords t) 0 * 512 + 1 * r.val = 512 * (WT m (ix1 (item t.val))).toNat + r
    rw [hb]
    show (WT m (ix1 (item t.val))).toNat * 512 + 1 * r.val = 512 * (WT m (ix1 (item t.val))).toNat + r
    omega
  · refine Fin.ext ?_
    show cc0_transform_0 k0_off1_inb numel1_S1 (tbl m) (grid0.coords t) 1 * 1024 + 1 * d.val = d.val
    rw [hb]
    show 0 * 1024 + 1 * d.val = d.val
    omega

theorem iblk1_at (t : Fin (cfgM m hO).N) (d : Fin 1024) (f : Fin 1792) :
    (iblk m hO 0 1 t : Vec Ideal S1x1x1024x1792 .bf16) (ix4 0 0 d f)
      = WG m (ix4 0 (who L (item t.val)) d ⟨(⟨t.val % 2, by omega⟩ : Fin 2) * 1792 + f, by simp only []; omega⟩) := by
  have hb := block1 m (grid0.coords t)
  rw [item_eq, coords1] at hb
  refine congrArg (WG m) ?_
  funext a
  fin_cases a <;> refine Fin.ext ?_
  · show cc0_transform_1 k0_off1_inb numel1_S1 (tbl m) (grid0.coords t) 0 * 1 + 1 * 0 = 0
    rw [hb]; rfl
  · show cc0_transform_1 k0_off1_inb numel1_S1 (tbl m) (grid0.coords t) 1 * 1 + 1 * 0 = (WE m (ix1 (item t.val))).toNat
    rw [hb]
    show (WE m (ix1 (item t.val))).toNat * 1 + 1 * 0 = _
    omega
  · show cc0_transform_1 k0_off1_inb numel1_S1 (tbl m) (grid0.coords t) 2 * 1024 + 1 * d.val = d.val
    rw [hb]
    show 0 * 1024 + 1 * d.val = d.val
    omega
  · show cc0_transform_1 k0_off1_inb numel1_S1 (tbl m) (grid0.coords t) 3 * 1792 + 1 * f.val = t.val % 2 * 1792 + f.val
    rw [hb]
    show t.val / 1 % 2 * 1792 + 1 * f.val = t.val % 2 * 1792 + f.val
    omega

theorem iblk2_at (t : Fin (cfgM m hO).N) (d : Fin 1024) (f : Fin 1792) :
    (iblk m hO 0 2 t : Vec Ideal S1x1x1024x1792 .bf16) (ix4 0 0 d f)
      = WU m (ix4 0 (who L (item t.val)) d ⟨(⟨t.val % 2, by omega⟩ : Fin 2) * 1792 + f, by simp only []; omega⟩) := by
  have hb := block2 m (grid0.coords t)
  rw [item_eq, coords1] at hb
  refine congrArg (WU m) ?_
  funext a
  fin_cases a <;> refine Fin.ext ?_
  · show cc0_transform_2 k0_off1_inb numel1_S1 (tbl m) (grid0.coords t) 0 * 1 + 1 * 0 = 0
    rw [hb]; rfl
  · show cc0_transform_2 k0_off1_inb numel1_S1 (tbl m) (grid0.coords t) 1 * 1 + 1 * 0 = (WE m (ix1 (item t.val))).toNat
    rw [hb]
    show (WE m (ix1 (item t.val))).toNat * 1 + 1 * 0 = _
    omega
  · show cc0_transform_2 k0_off1_inb numel1_S1 (tbl m) (grid0.coords t) 2 * 1024 + 1 * d.val = d.val
    rw [hb]
    show 0 * 1024 + 1 * d.val = d.val
    omega
  · show cc0_transform_2 k0_off1_inb numel1_S1 (tbl m) (grid0.coords t) 3 * 1792 + 1 * f.val = t.val % 2 * 1792 + f.val
    rw [hb]
    show t.val / 1 % 2 * 1792 + 1 * f.val = t.val % 2 * 1792 + f.val
    omega

theorem iblk3_at (t : Fin (cfgM m hO).N) (f : Fin 1792) (k : Fin 1024) :
    (iblk m hO 0 3 t : Vec Ideal S1x1x1792x1024 .bf16) (ix4 0 0 f k)
      = WD m (ix4 0 (who L (item t.val)) ⟨(⟨t.val % 2, by omega⟩ : Fin 2) * 1792 + f, by simp only []; omega⟩ k) := by
  have hb := block3 m (grid0.coords t)
  rw [item_eq, coords1] at hb
  refine congrArg (WD m) ?_
  funext a
  fin_cases a <;> refine Fin.ext ?_
  · show cc0_transform_3 k0_off1_inb numel1_S1 (tbl m) (grid0.coords t) 0 * 1 + 1 * 0 = 0
    rw [hb]; rfl
  · show cc0_transform_3 k0_off1_inb numel1_S1 (tbl m) (grid0.coords t) 1 * 1 + 1 * 0 = (WE m (ix1 (item t.val))).toNat
    rw [hb]
    show (WE m (ix1 (item t.val))).toNat * 1 + 1 * 0 = _
    omega
  · show cc0_transform_3 k0_off1_inb numel1_S1 (tbl m) (grid0.coords t) 2 * 1792 + 1 * f.val = t.val % 2 * 1792 + f.val
    rw [hb]
    show t.val / 1 % 2 * 1792 + 1 * f.val = t.val % 2 * 1792 + f.val
    omega
  · show cc0_transform_3 k0_off1_inb numel1_S1 (tbl m) (grid0.coords t) 3 * 1024 + 1 * k.val = k.val
    rw [hb]
    show 0 * 1024 + 1 * k.val = k.val
    omega

/-- What point `s` adds to row `n`: nothing unless the row is of the point's tile and among its item's rows. -/
def adds (s : ℕ) (n : Fin 34816) (k : Fin 1024) : EReal :=
  if (WT m (ix1 (item s))).toNat = n / 512 then
    if Within (LO m (ix1 (item s))) (HI m (ix1 (item s))) n then
      half (fun d => XS m (ix2 n d)) (WG m) (WU m) (WD m) (who L (item s)) ⟨s % 2, by omega⟩ k
    else 0
  else 0

theorem at_div (i : Fin 75) (r : Fin 512) : ((at_ L i r : Fin 34816) : ℕ) / 512 = (WT m (ix1 i)).toNat := by
  show (512 * (WT m (ix1 i)).toNat + r.val) / 512 = _
  omega

/-- The rows a point works on are its item's rows of the tile, the others zero. -/
def masked (i : Fin 75) (r : Fin 512) (d : Fin 1024) : EReal :=
  if Within (LO m (ix1 i)) (HI m (ix1 i)) (512 * (WT m (ix1 i)).toNat + r) then XS m (ix2 (at_ L i r) d) else 0

/-- The half expert a point applies. -/
theorem part_block (t : Fin (cfgM m hO).N) (x : Fin 1024 → EReal) (k : Fin 1024) :
    part x (iblk m hO 0 1 t) (iblk m hO 0 2 t) (iblk m hO 0 3 t) k
      = half x (WG m) (WU m) (WD m) (who L (item t.val)) ⟨t.val % 2, by omega⟩ k :=
  Finset.sum_congr rfl fun f _ => congrArg₂ (· * ·)
    (congrArg₂ unit (Finset.sum_congr rfl fun d _ => congrArg (x d * ·) (iblk1_at L hO t d f))
      (Finset.sum_congr rfl fun d _ => congrArg (x d * ·) (iblk2_at L hO t d f))) (iblk3_at L hO t f k)

/-- One point's step of the accumulator, its rows being masked. -/
theorem step_at (t : Fin (cfgM m hO).N) (p : Vec Ideal S512x1024 .bf16 × Vec Ideal S512x1024 .f32)
    (hx : ∀ r d, (step m hO 0 t p).1 (ix2 r d) = masked L (item t.val) r d) (r : Fin 512) (k : Fin 1024) :
    (step m hO 0 t p).2 (ix2 r k)
      = (if resets (grid0.coords t) (FI m (ix1 (item t.val))) then 0 else p.2 (ix2 r k)) + adds L t.val (at_ L (item t.val) r) k := by
  have e0 := word_tile m (grid0.coords t)
  have e2 := word_lo m (grid0.coords t)
  have e3 := word_hi m (grid0.coords t)
  have e4 := word_first m (grid0.coords t)
  rw [item_eq] at e0 e2 e3 e4
  have hw := L.tile (item t.val)
  have hs : (step m hO 0 t p).2 = accAfter (grid0.coords t) (WT m (ix1 (item t.val))) (LO m (ix1 (item t.val))) (HI m (ix1 (item t.val))) (FI m (ix1 (item t.val)))
      (step m hO 0 t p).1 (iblk m hO 0 1 t) (iblk m hO 0 2 t) (iblk m hO 0 3 t) p.2 := by
    rw [← e0, ← e2, ← e3, ← e4]
    rfl
  refine (congrFun hs _).trans ((accAfter_at _ hw _ _ _ _ (fun r d h => (hx r d).trans (if_neg h)) _ _ _ _ r k).trans (congrArg₂ (· + ·) rfl ?_))
  unfold adds
  rw [if_pos (at_div L _ _).symm, show (fun d => (step m hO 0 t p).1 (ix2 r d)) = masked L (item t.val) r from funext fun d => hx r d]
  by_cases h : Within (LO m (ix1 (item t.val))) (HI m (ix1 (item t.val))) (512 * (WT m (ix1 (item t.val))).toNat + r)
  · rw [if_pos (show Within (LO m (ix1 (item t.val))) (HI m (ix1 (item t.val))) (at_ L (item t.val) r : Fin 34816) from h),
      show masked L (item t.val) r = fun d => XS m (ix2 (at_ L (item t.val) r) d) from funext fun d => if_pos h]
    exact part_block L hO t _ k
  · rw [if_neg (show ¬ Within (LO m (ix1 (item t.val))) (HI m (ix1 (item t.val))) (at_ L (item t.val) r : Fin 34816) from h)]
    exact part_zero _ (fun _ => if_neg h) _ _ _ _

/-- The rows after a point that is an item's first half. -/
theorem rows_even (t : Fin (cfgM m hO).N) (ht : t.val % 2 = 0) (p : Vec Ideal S512x1024 .bf16 × Vec Ideal S512x1024 .f32) (r : Fin 512) (d : Fin 1024) :
    (step m hO 0 t p).1 (ix2 r d) = masked L (item t.val) r d := by
  have e0 := word_tile m (grid0.coords t)
  have e2 := word_lo m (grid0.coords t)
  have e3 := word_hi m (grid0.coords t)
  rw [item_eq] at e0 e2 e3
  have hs : (step m hO 0 t p).1 = rowsAfter (grid0.coords t) (WT m (ix1 (item t.val))) (LO m (ix1 (item t.val))) (HI m (ix1 (item t.val))) (iblk m hO 0 0 t) p.1 := by
    rw [← e0, ← e2, ← e3]
    rfl
  refine (congrFun (hs.trans (if_pos ((first_half t).mpr ht))) _).trans ((pay2_at (L.tile _) _ _ _ r d).trans ?_)
  exact congrArg (fun z : EReal => if Within (LO m (ix1 (item t.val))) (HI m (ix1 (item t.val))) (512 * (WT m (ix1 (item t.val))).toNat + r) then z else 0)
    (iblk0_at L hO t r d)

theorem rows_odd (t : Fin (cfgM m hO).N) (ht : t.val % 2 = 1) (p : Vec Ideal S512x1024 .bf16 × Vec Ideal S512x1024 .f32) :
    (step m hO 0 t p).1 = p.1 :=
  if_neg fun h => by have := (first_half t).mp h; omega

/-- After every point the scratch rows are its item's masked rows. -/
theorem traj_rows (n : ℕ) (hn : n < (cfgM m hO).N) (r : Fin 512) (d : Fin 1024) : (traj m hO 0 n hn).1 (ix2 r d) = masked L (item n) r d := by
  induction n with
  | zero => exact rows_even L hO ⟨0, hn⟩ rfl _ r d
  | succ n ih =>
    by_cases h : (n + 1) % 2 = 0
    · exact rows_even L hO ⟨n + 1, hn⟩ h _ r d
    · refine (congrFun (rows_odd L hO ⟨n + 1, hn⟩ (by show (n + 1) % 2 = 1; omega) _) _).trans ((ih (by omega)).trans ?_)
      rw [show item n = item (n + 1) from Fin.ext (by show n / 2 % 75 = (n + 1) / 2 % 75; omega)]

/-- No point before one that opens its tile adds to the tile. -/
theorem adds_before (n : ℕ) (hn : n + 1 < 150) (h : WT m (ix1 (item (n + 1))) ≠ WT m (ix1 (item n))) (s : ℕ) (hs : s ≤ n) (r : Fin 512) (k : Fin 1024) :
    adds L s (at_ L (item (n + 1)) r) k = 0 := by
  refine if_neg ?_
  rw [at_div]
  intro e
  have h1 := L.mono (s / 2) (n / 2) (by omega) (by omega)
  have h2 := L.mono (n / 2) ((n + 1) / 2) (by omega) (by omega)
  have i0 : item s = ⟨s / 2, by omega⟩ := Fin.ext (Nat.mod_eq_of_lt (by omega))
  have i1 : item n = ⟨n / 2, by omega⟩ := Fin.ext (Nat.mod_eq_of_lt (by omega))
  have i2 : item (n + 1) = ⟨(n + 1) / 2, by omega⟩ := Fin.ext (Nat.mod_eq_of_lt (by omega))
  rw [i0, i2] at e
  rw [i1, i2] at h
  exact h (BitVec.eq_of_toNat_eq (by omega))

/-- After every point the accumulator holds what the points so far have added to the rows of the point's tile. -/
theorem traj_acc (n : ℕ) (hn : n < (cfgM m hO).N) (r : Fin 512) (k : Fin 1024) :
    (traj m hO 0 n hn).2 (ix2 r k) = ∑ s ∈ Finset.range (n + 1), adds L s (at_ L (item n) r) k := by
  have hN : (cfgM m hO).N = 150 := N_0
  induction n with
  | zero =>
    refine (step_at L hO ⟨0, hn⟩ _ (fun r d => rows_even L hO ⟨0, hn⟩ rfl _ r d) r k).trans ?_
    have h0 : resets (grid0.coords (⟨0, hn⟩ : Fin (cfgM m hO).N)) (FI m (ix1 (item 0))) :=
      (resets_iff _ _).2 ⟨(coords1 (⟨0, hn⟩ : Fin (cfgM m hO).N)).trans (show 0 / 1 % 2 = 0 from rfl), L.opens⟩
    rw [if_pos h0, zero_add, Finset.sum_range_one]
  | succ n ih =>
    refine (step_at L hO ⟨n + 1, hn⟩ _ (fun r d => traj_rows L hO (n + 1) hn r d) r k).trans ?_
    rw [Finset.sum_range_succ _ (n + 1)]
    refine congrArg₂ (· + ·) ?_ rfl
    have i1 : item n = ⟨n / 2, by omega⟩ := Fin.ext (Nat.mod_eq_of_lt (by omega))
    have i2 : item (n + 1) = ⟨(n + 1) / 2, by omega⟩ := Fin.ext (Nat.mod_eq_of_lt (by omega))
    have hres : resets (grid0.coords (⟨n + 1, hn⟩ : Fin (cfgM m hO).N)) (FI m (ix1 (item (n + 1)))) ↔ WT m (ix1 (item (n + 1))) ≠ WT m (ix1 (item n)) := by
      rw [resets_iff, coords1]
      by_cases h : (n + 1) % 2 = 0
      · have := L.mark ⟨n / 2, by omega⟩
        rw [i1, i2]
        have e : (⟨(n + 1) / 2, by omega⟩ : Fin 75) = ⟨n / 2 + 1, by omega⟩ := Fin.ext (by show (n + 1) / 2 = n / 2 + 1; omega)
        rw [e]
        exact ⟨fun q => this.1 q.2, fun q => ⟨by show (n + 1) / 1 % 2 = 0; omega, this.2 q⟩⟩
      · have e : item (n + 1) = item n := Fin.ext (by show (n + 1) / 2 % 75 = n / 2 % 75; omega)
        refine ⟨fun q => ?_, fun q => absurd (by rw [e]) q⟩
        have : (n + 1) / 1 % 2 = 0 := q.1
        omega
    by_cases h : WT m (ix1 (item (n + 1))) = WT m (ix1 (item n))
    · rw [if_neg fun q => hres.1 q h, ih (by omega)]
      rw [show at_ L (item n) r = at_ L (item (n + 1)) r from Fin.ext (by show 512 * (WT m (ix1 (item n))).toNat + r.val = 512 * (WT m (ix1 (item (n + 1)))).toNat + r.val; rw [h])]
    · rw [if_pos (hres.2 h)]
      exact (Finset.sum_eq_zero fun s hs => adds_before L n (by omega) h s (by have := Finset.mem_range.1 hs; omega) r k).symm

omit L in
/-- The output block of a point is its item's tile. -/
theorem index4 (t : Fin (cfgM m hO).N) : ((cfgM m hO).win (4 : Fin 5)).index t = ![(WT m (ix1 (item t.val))).toNat, 0] := by
  have hb := block4 m (grid0.coords t)
  rw [item_eq] at hb
  exact hb

/-- Where an output block is written back no later point works on its tile. -/
theorem adds_after (t : Fin (cfgM m hO).N) (hf : ((cfgM m hO).win (4 : Fin 5)).flush t = true) (s : ℕ) (hs : t.val < s) (hs' : s < 150) (r : Fin 512) (k : Fin 1024) :
    adds L s (at_ L (item t.val) r) k = 0 := by
  have hN : (cfgM m hO).N = 150 := N_0
  have ht : t.val < 150 := hN ▸ t.isLt
  have hodd : t.val % 2 = 1 := by
    by_contra h
    have := flush4_even m hO t (by omega)
    rw [this] at hf
    exact Bool.false_ne_true hf
  have hne : ∃ h : t.val + 1 < (cfgM m hO).N, ((cfgM m hO).win (4 : Fin 5)).index ⟨t.val + 1, h⟩ ≠ ((cfgM m hO).win (4 : Fin 5)).index t := by
    unfold Pipeline.Window.flush at hf
    have h2 := (Bool.and_eq_true_iff.mp hf).2
    rcases Bool.or_eq_true_iff.mp h2 with h3 | h3
    · have := of_decide_eq_true h3
      have e : (cfgM m hO).grid.N = 150 := N_0
      omega
    · exact of_decide_eq_true h3
  obtain ⟨h1, hne⟩ := hne
  rw [index4, index4] at hne
  refine if_neg ?_
  rw [at_div]
  intro e
  have k1 := L.mono (t.val / 2) ((t.val + 1) / 2) (by omega) (by omega)
  have k2 := L.mono ((t.val + 1) / 2) (s / 2) (by omega) (by omega)
  have i0 : item s = ⟨s / 2, by omega⟩ := Fin.ext (Nat.mod_eq_of_lt (by omega))
  have i1 : item t.val = ⟨t.val / 2, by omega⟩ := Fin.ext (Nat.mod_eq_of_lt (by omega))
  have i2 : item (t.val + 1) = ⟨(t.val + 1) / 2, by omega⟩ := Fin.ext (Nat.mod_eq_of_lt (by omega))
  rw [i0, i1] at e
  refine hne ?_
  show (![(WT m (ix1 (item (t.val + 1)))).toNat, 0] : Fin 2 → ℕ) = ![(WT m (ix1 (item t.val))).toNat, 0]
  rw [i1, i2, show (WT m (ix1 (⟨(t.val + 1) / 2, by omega⟩ : Fin 75))).toNat = (WT m (ix1 (⟨t.val / 2, by omega⟩ : Fin 75))).toNat by omega]

/-- The kernel's result array: every row is the sum of what the points add to it. -/
theorem final : (dats m hO 0 (0 : Dev nD)).arrAt (4 : Fin 5) (cfgM m hO).N
    = (fun y => ∑ s ∈ Finset.range 150, adds L s (y 0) (y 1) : Vec Ideal S34816x1024 .f32) := by
  have hN : (cfgM m hO).N = 150 := N_0
  refine (dats m hO 0 (0 : Dev nD)).arrAt_eq_of_emb (4 : Fin 5) _ (fun t hf y => ?_) fun i => ?_
  · have ht : t.val < 150 := hN ▸ t.isLt
    have hy : (y : S512x1024.Idx) = ix2 (y 0) (y 1) := by funext a; fin_cases a <;> rfl
    have h0 : ((((cfgM m hO).win (4 : Fin 5)).blk t).view.emb y : S34816x1024.Idx) 0 = at_ L (item t.val) (y 0) := by
      refine Fin.ext ?_
      show ((cfgM m hO).win (4 : Fin 5)).index t 0 * 512 + 1 * (y 0).val = 512 * (WT m (ix1 (item t.val))).toNat + (y 0).val
      rw [index4 hO]
      show (WT m (ix1 (item t.val))).toNat * 512 + 1 * (y 0).val = _
      omega
    have h1 : ((((cfgM m hO).win (4 : Fin 5)).blk t).view.emb y : S34816x1024.Idx) 1 = (y 1 : Fin 1024) := by
      refine Fin.ext ?_
      show ((cfgM m hO).win (4 : Fin 5)).index t 1 * 1024 + 1 * (y 1).val = (y 1).val
      rw [index4 hO]
      show 0 * 1024 + 1 * (y 1).val = _
      omega
    show (dats m hO 0 (0 : Dev nD)).after (4 : Fin 5) t y = ∑ s ∈ Finset.range 150, adds L s _ _
    rw [h0, h1]
    refine (congrFun (after4 m hO (0 : Dev nD) t) y).trans ?_
    refine (congrArg (traj m hO 0 t.val t.isLt).2 hy).trans ((traj_acc L hO t.val t.isLt (y 0) (y 1)).trans ?_)
    rw [← Finset.sum_range_add_sum_Ico _ (show t.val + 1 ≤ 150 by omega), Finset.sum_eq_zero (s := Finset.Ico _ _), add_zero]
    intro s hs
    have := Finset.mem_Ico.1 hs
    exact adds_after L hO t hf s (by omega) (by omega) _ _
  · obtain ⟨w, hw, -⟩ := L.last ((i 0).val / 512) (by have : (i 0).val < 34816 := (i 0).isLt; omega)
    obtain ⟨t, -, hf, hi⟩ := ((cfgM m hO).win (4 : Fin 5)).exists_flush_same_index rfl (⟨2 * w.val, by show 2 * w.val < (cfgM m hO).N; omega⟩ : Fin (cfgM m hO).N)
    refine ⟨t, hf, ?_⟩
    have hi := hi.trans (index4 hO _)
    rw [show item (⟨2 * w.val, by show 2 * w.val < (cfgM m hO).N; omega⟩ : Fin (cfgM m hO).N).val = w from Fin.ext (by show 2 * w.val / 2 % 75 = w.val; omega), hw] at hi
    refine (((cfgM m hO).win (4 : Fin 5)).emb_mem_blk_iff t i rfl).mpr fun a => ?_
    rw [hi]
    fin_cases a
    · show (i 0).val / 512 * 512 ≤ (i 0).val ∧ (i 0).val < (i 0).val / 512 * 512 + 512
      omega
    · have : (i 1).val < 1024 := (i 1).isLt
      show 0 * 1024 ≤ (i 1).val ∧ (i 1).val < 0 * 1024 + 1024
      omega

end

end Cert.MoeIdeal.Experts

end
-- ==== Proof.MoeRef.lean ====
/-
  The experts' reference: its result as one function of the argument arrays, and that function read at an index.
-/
module

public import proofs.«01_k».proof.Proof.Gen.MoeRefIdeal.Run
public import proofs.«01_k».proof.Proof.FfnRef
public import Idealize.ShloMosaic.Lib.Pointwise
public import Idealize.ShloMosaic.Lib.WordCmp
public import Idealize.ShloMosaic.PureOps.Ideal

@[expose] public section

set_option maxRecDepth 16384

noncomputable section

open Idealize.ShloMosaic Idealize.ShloMosaic.TcCoe Idealize.SL.Sem

namespace Cert.MoeRefIdeal.Term

open Cert.MoeRefIdeal Cert.MoeRefIdeal.Gen
open Cert.FfnRefIdeal.Term (unit)

/-- Row numbers, one per row and item. -/
def ROW : IVec S34816x75 32 := broadcastInDim S34816x75 ![0, 1] bcast_S34816x1_S34816x75_0_1 (broadcastInDim S34816x1 ![0] bcast_S34816_S34816x1_0 (iotaInDim S34816 32 0))

/-- An item's number, for every row. -/
def ITEM (x : IVec S75 32) : IVec S34816x75 32 := broadcastInDim S34816x75 ![0, 1] bcast_S1x75_S34816x75_0_1 (broadcastInDim S1x75 ![1] bcast_S75_S1x75_1 x)

/-- An item's tile's first row. -/
def FROM (wt : IVec S75 32) : IVec S75 32 := muli wt (broadcastInDim S75 ![] bcast_S_S75 (constantI S_ 32 512#32))

/-- One where a row is of an item's tile and among its rows. -/
def MINE (wt lo hi : IVec S75 32) : FVec Ideal S34816x75 .f32 :=
  uitofp .f32 (andi (andi (andi (cmpi .sge ROW (ITEM (FROM wt))) (cmpi .slt ROW (ITEM (addi (FROM wt) (broadcastInDim S75 ![] bcast_S_S75 (constantI S_ 32 512#32))))))
    (cmpi .sge ROW (ITEM lo))) (cmpi .slt ROW (ITEM hi)))

/-- One where an item's expert is the given one. -/
def CHOSEN (we : IVec S75 32) : FVec Ideal S75x8 .f32 :=
  uitofp .f32 (cmpi .eq (broadcastInDim S75x8 ![0, 1] bcast_S75x1_S75x8_0_1 (broadcastInDim S75x1 ![0] bcast_S75_S75x1_0 we)) (broadcastInDim S75x8 ![0, 1] bcast_S1x8_S75x8_0_1 (broadcastInDim S1x8 ![1] bcast_S8_S1x8_1 (iotaInDim S8 32 0))))

/-- How many items give a row to an expert. -/
def COMBINE (mine : FVec Ideal S34816x75 .f32) (chosen : FVec Ideal S75x8 .f32) : FVec Ideal S34816x8 .f32 :=
  Host.dotGeneral dot_S34816x75_S75x8_S34816x8_1_0_0_1_n_n none mine chosen

/-- Every expert's up-projection of every row. -/
def UP (x : FVec Ideal S34816x1024 .f32) (w : FVec Ideal S2x8x1024x3584 .bf16) : FVec Ideal S8x34816x3584 .f32 :=
  transpose S8x34816x3584 [0, 2, 1] (Host.dotGeneral dot_S8x1024x3584_S34816x1024_S8x3584x34816_1_1_02_0_n_n none (extf .f32 (shapeCast _ (extractStridedSlice S1x8x1024x3584 ![0, 0, 0, 0] w slices_S2x8x1024x3584_S1x8x1024x3584_0_0_0_0) shapeCasts_S1x8x1024x3584_S8x1024x3584) bitsLt_bf16_f32) x) transposes_S8x3584x34816_S8x34816x3584_0_2_1

/-- The gated hidden units. -/
def ACT (g u : FVec Ideal S8x34816x3584 .f32) : FVec Ideal S8x34816x3584 .f32 :=
  mulf (mulf g (Host.divf (broadcastInDim S8x34816x3584 ![] bcast_S_S8x34816x3584 (constant S_ .f32 0x3F800000#32)) (addf (broadcastInDim S8x34816x3584 ![] bcast_S_S8x34816x3584 (constant S_ .f32 0x3F800000#32)) (Host.exp (Host.negf g))))) u

/-- Every expert's down-projection. -/
def DOWN (a : FVec Ideal S8x34816x3584 .f32) (w : FVec Ideal S2x8x3584x1024 .bf16) : FVec Ideal S8x34816x1024 .f32 :=
  Host.dotGeneral dot_S8x34816x3584_S8x3584x1024_S8x34816x1024_2_1_1_2_0_0 none a (extf .f32 (shapeCast _ (extractStridedSlice S1x8x3584x1024 ![0, 0, 0, 0] w slices_S2x8x3584x1024_S1x8x3584x1024_0_0_0_0) shapeCasts_S1x8x3584x1024_S8x3584x1024) bitsLt_bf16_f32)

/-- The experts' outputs, combined. -/
def MIX (c : FVec Ideal S34816x8 .f32) (y : FVec Ideal S8x34816x1024 .f32) : FVec Ideal S34816x1024 .f32 :=
  Host.dotGeneral dot_S34816x8_S8x34816x1024_S34816x1024_1_0_n_2_0_1 none c y

/-- The reference's function of its arguments: the list's tiles, experts, first and last rows, the rows, the weights. -/
def REF (wt we lo hi : IVec S75 32) (x : FVec Ideal S34816x1024 .f32) (wg wu : FVec Ideal S2x8x1024x3584 .bf16) (wd : FVec Ideal S2x8x3584x1024 .bf16) :
    FVec Ideal S34816x1024 .f32 :=
  MIX (COMBINE (MINE wt lo hi) (CHOSEN we)) (DOWN (ACT (UP x wg) (UP x wu)) wd)

theorem UP_at (x : FVec Ideal S34816x1024 .f32) (w : FVec Ideal S2x8x1024x3584 .bf16) (e : Fin 8) (n : Fin 34816) (f : Fin 3584) :
    UP x w (ix3 e n f) = ∑ d : Fin 1024, x (ix2 n d) * w (ix4 0 e d f) := by
  pointwise [UP]
  exact Finset.sum_congr rfl fun d _ => mul_comm _ _

theorem ACT_at (g u : FVec Ideal S8x34816x3584 .f32) (e : Fin 8) (n : Fin 34816) (f : Fin 3584) :
    ACT g u (ix3 e n f) = unit (g (ix3 e n f)) (u (ix3 e n f)) := by
  pointwise [ACT, unit]

theorem DOWN_at (a : FVec Ideal S8x34816x3584 .f32) (w : FVec Ideal S2x8x3584x1024 .bf16) (e : Fin 8) (n : Fin 34816) (k : Fin 1024) :
    DOWN a w (ix3 e n k) = ∑ f : Fin 3584, a (ix3 e n f) * w (ix4 0 e f k) := by
  pointwise [DOWN]

theorem COMBINE_at (mine : FVec Ideal S34816x75 .f32) (chosen : FVec Ideal S75x8 .f32) (n : Fin 34816) (e : Fin 8) :
    COMBINE mine chosen (ix2 n e) = ∑ w : Fin 75, mine (ix2 n w) * chosen (ix2 w e) := by
  pointwise [COMBINE]

theorem MIX_at (c : FVec Ideal S34816x8 .f32) (y : FVec Ideal S8x34816x1024 .f32) (n : Fin 34816) (k : Fin 1024) :
    MIX c y (ix2 n k) = ∑ e : Fin 8, c (ix2 n e) * y (ix3 e n k) := by
  pointwise [MIX]

/-- A condition's bit as a number. -/
theorem bit_eq (p : Prop) [Decidable p] : (FloatOps.uitofp FTy.f32 (BitVec.ofBool (decide p)) : Ideal FTy.f32) = (if p then 1 else 0 : EReal) := by
  show (((BitVec.ofBool (decide p)).toNat : ℝ) : EReal) = _
  by_cases h : p <;> simp [h]

theorem CHOSEN_at (we : IVec S75 32) (w : Fin 75) (e : Fin 8) : CHOSEN we (ix2 w e) = (if (we (ix1 w)).toNat = e.val then 1 else 0 : EReal) := by
  pointwise [CHOSEN]
  rw [WordCmp.cmpi_eq_eq_toNat, WordCmp.toNat_ofNat_of_lt (by omega), bit_eq]

/-- A row is an item's when the item's tile holds it and it lies between the item's first and last rows. -/
theorem MINE_at (wt lo hi : IVec S75 32) (n : Fin 34816) (w : Fin 75) : MINE wt lo hi (ix2 n w)
    = (if (((wt (ix1 w) * 512#32).toInt ≤ n ∧ (n : ℤ) < (wt (ix1 w) * 512#32 + 512#32).toInt) ∧ (lo (ix1 w)).toInt ≤ n) ∧ (n : ℤ) < (hi (ix1 w)).toInt then 1 else 0 : EReal) := by
  pointwise [MINE, ITEM, ROW, FROM]
  simp only [IntOp.muli, IntOp.addi, WordCmp.cmpi_slt_eq, WordCmp.cmpi_sge_eq, WordCmp.andi_ofBool, ← Bool.decide_and,
    WordCmp.toInt_ofNat_of_lt (w := 32) (a := n.val) (by omega)]
  rw [bit_eq]

/-- A row's outcome: each expert's output as often as an item gives the row to the expert. -/
theorem REF_at (wt we lo hi : IVec S75 32) (x : FVec Ideal S34816x1024 .f32) (wg wu : FVec Ideal S2x8x1024x3584 .bf16) (wd : FVec Ideal S2x8x3584x1024 .bf16)
    (n : Fin 34816) (k : Fin 1024) : REF wt we lo hi x wg wu wd (ix2 n k)
    = ∑ e : Fin 8, (∑ w : Fin 75, MINE wt lo hi (ix2 n w) * CHOSEN we (ix2 w e))
      * ∑ f : Fin 3584, unit (∑ d : Fin 1024, x (ix2 n d) * wg (ix4 0 e d f)) (∑ d : Fin 1024, x (ix2 n d) * wu (ix4 0 e d f)) * wd (ix4 0 e f k) := by
  rw [REF, MIX_at]
  refine Finset.sum_congr rfl fun e _ => ?_
  rw [COMBINE_at, DOWN_at]
  refine congrArg _ (Finset.sum_congr rfl fun f _ => ?_)
  rw [ACT_at, UP_at, UP_at]

end Cert.MoeRefIdeal.Term

end
-- ==== Proof.MoeMeet.lean ====
/-
  The experts: the kernel's sum over grid points is the reference's combination of the experts' outputs.
-/
module

public import proofs.«01_k».proof.Proof.MoeValue
public import proofs.«01_k».proof.Proof.MoeRef

@[expose] public section

set_option maxRecDepth 16384

noncomputable section

open Idealize.ShloMosaic Idealize.ShloMosaic.TcCoe Idealize.SL.Sem

namespace Cert.MoeIdeal.Experts

open Cert.MoeIdeal Cert.MoeIdeal.Gen
open Cert.FfnRefIdeal.Term (unit)
open Cert.MoeRefIdeal.Term (REF REF_at MINE MINE_at CHOSEN CHOSEN_at)
open Cert.Pre_work_list.Read (Listed)

/-- A sum of numbers at least zero, times `y`. -/
theorem sum_mul_of_nonneg {ι : Type} (s : Finset ι) (a : ι → EReal) (ha : ∀ i, 0 ≤ a i) (y : EReal) : (∑ i ∈ s, a i) * y = ∑ i ∈ s, a i * y := by
  classical
  induction s using Finset.induction_on with
  | empty => simp
  | insert i s hi ih => rw [Finset.sum_insert hi, Finset.sum_insert hi, EReal.right_distrib_of_nonneg (ha i) (Finset.sum_nonneg fun j _ => ha j), ih]

/-- Items give rows to experts: counting an expert's items and summing over the experts is summing over the items. -/
theorem combine_eq (p : Fin 75 → Prop) [DecidablePred p] (who : Fin 75 → Fin 8) (y : Fin 8 → EReal) :
    ∑ e : Fin 8, (∑ w : Fin 75, (if p w then 1 else 0 : EReal) * (if (who w).val = e.val then 1 else 0)) * y e = ∑ w : Fin 75, if p w then y (who w) else 0 := by
  have nn (w : Fin 75) (e : Fin 8) : (0 : EReal) ≤ (if p w then 1 else 0 : EReal) * (if (who w).val = e.val then 1 else 0) :=
    mul_nonneg (by split <;> simp) (by split <;> simp)
  rw [Finset.sum_congr rfl fun e _ => sum_mul_of_nonneg Finset.univ _ (fun w => nn w e) (y e), Finset.sum_comm]
  refine Finset.sum_congr rfl fun w _ => ?_
  rw [Finset.sum_eq_single (who w)]
  · by_cases h : p w <;> simp [h]
  · intro e _ he
    rw [if_neg (show ¬ (who w).val = e.val from fun h => he (Fin.ext h).symm), mul_zero, zero_mul]
  · exact fun h => absurd (Finset.mem_univ _) h

/-- An expert's two halves make the expert. -/
theorem halves (x : Fin 1024 → EReal) (wg wu : Vec Ideal S2x8x1024x3584 .bf16) (wd : Vec Ideal S2x8x3584x1024 .bf16) (e : Fin 8) (k : Fin 1024) :
    half x wg wu wd e 0 k + half x wg wu wd e 1 k
    = ∑ f : Fin 3584, unit (∑ d : Fin 1024, x d * wg (ix4 0 e d f)) (∑ d : Fin 1024, x d * wu (ix4 0 e d f)) * wd (ix4 0 e f k) := by
  rw [Fin.sum_univ_tiles 2 1792 (by norm_num), Fin.sum_univ_two]
  rfl

variable {m : (ℓ : Loc nD τ sig) → Buf (Elt Ideal) ℓ} (L : Listed (WT m) (WE m) (FI m))

/-- An item's two points together. -/
theorem adds_item (w : Fin 75) (n : Fin 34816) (k : Fin 1024) : adds L (w.val * 2 + (0 : Fin 2).val) n k + adds L (w.val * 2 + (1 : Fin 2).val) n k
    = if (WT m (ix1 w)).toNat = n / 512 ∧ Within (LO m (ix1 w)) (HI m (ix1 w)) n then
        ∑ f : Fin 3584, unit (∑ d : Fin 1024, XS m (ix2 n d) * WG m (ix4 0 (who L w) d f)) (∑ d : Fin 1024, XS m (ix2 n d) * WU m (ix4 0 (who L w) d f))
          * WD m (ix4 0 (who L w) f k)
      else 0 := by
  have i0 : item (w.val * 2 + (0 : Fin 2).val) = w := Fin.ext (by show (w.val * 2 + 0) / 2 % 75 = w.val; omega)
  have i1 : item (w.val * 2 + (1 : Fin 2).val) = w := Fin.ext (by show (w.val * 2 + 1) / 2 % 75 = w.val; omega)
  have j0 (h) : (⟨(w.val * 2 + (0 : Fin 2).val) % 2, h⟩ : Fin 2) = 0 := Fin.ext (by show (w.val * 2 + 0) % 2 = 0; omega)
  have j1 (h) : (⟨(w.val * 2 + (1 : Fin 2).val) % 2, h⟩ : Fin 2) = 1 := Fin.ext (by show (w.val * 2 + 1) % 2 = 1; omega)
  unfold adds
  rw [i0, i1, j0, j1, ← halves]
  by_cases h1 : (WT m (ix1 w)).toNat = n.val / 512 <;> by_cases h2 : Within (LO m (ix1 w)) (HI m (ix1 w)) n.val <;> simp [h1, h2]

/-- What the kernel leaves is the reference's function of the arguments. -/
theorem meets : (fun y => ∑ s ∈ Finset.range 150, adds L s (y 0) (y 1) : Vec Ideal S34816x1024 .f32)
    = REF (WT m) (WE m) (LO m) (HI m) (XS m) (WG m) (WU m) (WD m) := by
  funext y
  obtain ⟨n, k, rfl⟩ : ∃ (n : Fin 34816) (k : Fin 1024), y = ix2 n k := ⟨y 0, y 1, by funext a; fin_cases a <;> rfl⟩
  rw [REF_at]
  have mine (w : Fin 75) : MINE (WT m) (LO m) (HI m) (ix2 n w)
      = (if (WT m (ix1 w)).toNat = n / 512 ∧ Within (LO m (ix1 w)) (HI m (ix1 w)) n then 1 else 0 : EReal) := by
    have h0 := start_word0 (L.tile w)
    have h1 := start_word (L.tile w) 512 (by omega)
    rw [MINE_at]
    refine if_congr ?_ rfl rfl
    rw [h0, show (512#32 : BitVec 32) = BitVec.ofNat 32 512 from rfl, h1]
    unfold Within
    omega
  have chosen (w : Fin 75) (e : Fin 8) : CHOSEN (WE m) (ix2 w e) = (if (who L w).val = e.val then 1 else 0 : EReal) := CHOSEN_at _ w e
  rw [Finset.sum_congr rfl fun e _ => congrArg (· * _) (Finset.sum_congr rfl fun w _ => congrArg₂ (· * ·) (mine w) (chosen w e))]
  refine Eq.trans ?_ (combine_eq (fun w => (WT m (ix1 w)).toNat = n / 512 ∧ Within (LO m (ix1 w)) (HI m (ix1 w)) n) (who L) _).symm
  rw [Finset.sum_range]
  show ∑ s : Fin 150, adds L s.val n k = _
  rw [Fin.sum_univ_tiles 75 2 (by norm_num)]
  refine Finset.sum_congr rfl fun w _ => ?_
  rw [Fin.sum_univ_two]
  exact adds_item L w n k

end Cert.MoeIdeal.Experts

end
-- ==== Proof.MoeDevice.lean ====
/-
  The experts' kernel at the device's formats is the same program as the one read at the extended reals.
-/
module

public import proofs.«01_k».proof.Proof.MoeReady
public import proofs.«01_k».proof.Proof.Gen.Moe

@[expose] public section

noncomputable section

open Idealize.ShloMosaic Idealize.ShloMosaic.TcCoe Idealize.SL.Sem

namespace Cert.Moe.Same

theorem part_eq : @Cert.Moe.k0_part1 Bits _ _ = @Cert.MoeIdeal.k0_part1 Bits _ _ := rfl

set_option maxHeartbeats 4000000 in
theorem body_eq : @Cert.Moe.cc0_moe_ffn Bits _ _ = @Cert.MoeIdeal.cc0_moe_ffn Bits _ _ := by
  unfold Cert.Moe.cc0_moe_ffn Cert.MoeIdeal.cc0_moe_ffn
  rw [part_eq]
  rfl

set_option maxHeartbeats 4000000 in
theorem rows_eq : Cert.Moe.defs₀ (F := Bits) = Cert.MoeIdeal.defs₀ (F := Bits) := by
  unfold Cert.Moe.defs₀ Cert.MoeIdeal.defs₀
  rw [body_eq]
  refine congrArg Defs.onTc (funext fun l => funext fun x => ?_)
  match l, x with
  | 0, (t, s) => rfl

set_option maxHeartbeats 4000000 in
theorem defs_eq : Cert.Moe.defs (F := Bits) = Cert.MoeIdeal.defs (F := Bits) := by
  unfold Cert.Moe.defs Cert.MoeIdeal.defs
  rw [rows_eq]
  rfl

end Cert.Moe.Same

end
-- ==== Proof.MoeClaim.lean ====
/-
  The experts' call: its claims.
-/
module

public import proofs.«01_k».proof.Defs
public import proofs.«01_k».proof.Proof.MoeMeet
public import proofs.«01_k».proof.Proof.MoeDevice
public import Idealize.ShloMosaic.Lib.Quiescent

@[expose] public section

noncomputable section

open Idealize.ShloMosaic Idealize.ShloMosaic.TcCoe Idealize.SL.Sem

namespace Cert.Claims

open Cert.MoeIdeal.Experts (ok_of_listed starts_of_listed frame_args args_kept run final meets)
open Cert.Pre_work_list.Read (listed)

/-- The idealized kernel runs, leaves its arguments and ends with no signal outstanding. -/
theorem moe_frame : Cert.quiescent_MoeIdeal := fun m ρ h =>
  have L := listed _ _ _ _ _ _ _ _ _ (h (0 : Dev Cert.MoeIdeal.nD))
  frame_args m ρ (ok_of_listed L) (starts_of_listed L _)

/-- The kernel's text is the idealized one's, so the kernel at its own formats runs the same way. -/
theorem moe_frame_device : Cert.quiescent_Moe := by
  intro m ρ h
  have L := listed _ _ _ _ _ _ _ _ _ (h (0 : Dev Cert.Moe.nD))
  rw [Cert.Moe.Same.defs_eq]
  exact frame_args (F := Bits) m ρ (ok_of_listed (m := m) L) (starts_of_listed (m := m) L _)

/-- The reference runs, leaves its arguments and ends with no signal outstanding. -/
theorem moe_reference_frame (m : (ℓ : Loc Cert.MoeRefIdeal.nD Cert.MoeRefIdeal.τ Cert.MoeRefIdeal.sig) → Buf (Elt Ideal) ℓ) (ρ : Dev Cert.MoeRefIdeal.nD → PrngReg) :
    θ_run (Cert.MoeRefIdeal.defs (F := Ideal)) (onTc (τ := Cert.MoeRefIdeal.τ) (Cert.MoeRefIdeal.main (F := Ideal))) ⟨m, fun _ => 0, ρ⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7)
      ∧ r.2.mem ((c.tc : Thread Cert.MoeRefIdeal.nD Cert.MoeRefIdeal.τ).loc Cert.MoeRefIdeal.main_arg8) = m ((c.tc : Thread Cert.MoeRefIdeal.nD Cert.MoeRefIdeal.τ).loc Cert.MoeRefIdeal.main_arg8)) ∧ r.2.sem = fun _ => 0) :=
  (θ_run Cert.MoeRefIdeal.defs _ _).mono (fun r h => ⟨fun c => (h c).2, sem_eq_zero_of_no_sems (by decide) r.2⟩) (Cert.MoeRefIdeal.Value.run (F := Ideal) m ρ)

/-- Kernel and reference end with the same array. -/
theorem moe_algebraic : Cert.algebraic_MoeIdeal_MoeRefIdeal := by
  intro m ρ m' ρ' pre hag
  have L := listed _ _ _ _ _ _ _ _ _ (pre (0 : Dev Cert.MoeIdeal.nD))
  refine ⟨fun c => Cert.MoeRefIdeal.Term.REF (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7)) (m ((c.tc : Thread Cert.MoeIdeal.nD Cert.MoeIdeal.τ).loc Cert.MoeIdeal.main_arg8)), ?_, ?_⟩
  · refine (θ_run Cert.MoeIdeal.defs _ _).mono (fun _ h c => ⟨?_, args_kept m (ok_of_listed L) h.1 c⟩) (run m ρ (ok_of_listed L) (starts_of_listed L _))
    obtain rfl : c = 0 := Subsingleton.elim _ _
    exact ((h.1 (0 : Dev Cert.MoeIdeal.nD)).1 (4 : Fin 5)).trans ((final L _).trans (meets L))
  · refine (θ_run Cert.MoeRefIdeal.defs _ _).mono (fun _ h c => ⟨(h c).1.trans ?_, (h c).2⟩) (Cert.MoeRefIdeal.Value.run (F := Ideal) m' ρ')
    rw [(hag c).1, (hag c).2.1, (hag c).2.2.1, (hag c).2.2.2.1, (hag c).2.2.2.2.2.1, (hag c).2.2.2.2.2.2.1, (hag c).2.2.2.2.2.2.2.1, (hag c).2.2.2.2.2.2.2.2]
    rfl

end Cert.Claims

end
-- ==== Proof.OutRef.lean ====
/-
  The output projection's reference: its three results as functions of the argument arrays, read at an index.
-/
module

public import proofs.«01_k».proof.Proof.Gen.OutRefIdeal.Run
public import Idealize.ShloMosaic.Lib.Pointwise
public import Idealize.ShloMosaic.PureOps.Ideal

@[expose] public section

set_option maxRecDepth 16384

noncomputable section

open Idealize.ShloMosaic Idealize.ShloMosaic.TcCoe Idealize.SL.Sem

namespace Cert.OutRefIdeal.Term

open Cert.OutRefIdeal Cert.OutRefIdeal.Gen

/-- The four mixers' outputs side by side. -/
def CAT (a b c d : FVec Ideal S4x4352x256 .bf16) : FVec Ideal S4x4352x1024 .f32 :=
  concatenate S4x4352x1024 2 [⟨S4x4352x256, extf .f32 a bitsLt_bf16_f32⟩, ⟨S4x4352x256, extf .f32 b bitsLt_bf16_f32⟩, ⟨S4x4352x256, extf .f32 c bitsLt_bf16_f32⟩, ⟨S4x4352x256, extf .f32 d bitsLt_bf16_f32⟩] concatenates_S4x4352x256_S4x4352x256_S4x4352x256_S4x4352x256_S4x4352x1024_d2

/-- Their projection. -/
def MIX (x : FVec Ideal S4x4352x1024 .f32) (w : FVec Ideal S4x1024x1024 .bf16) : FVec Ideal S4x4352x1024 .f32 :=
  Host.dotGeneral dot_S4x4352x1024_S1024x1024_S4x4352x1024_2_0_01_1_n_n none x (extf .f32 (shapeCast _ (extractStridedSlice S1x1024x1024 ![1, 0, 0] w slices_S4x1024x1024_S1x1024x1024_1_0_0) shapeCasts_S1x1024x1024_S1024x1024) bitsLt_bf16_f32)

/-- The context's residual. -/
def HC (h : FVec Ideal S4x4352x1024 .f32) (p : FVec Ideal S4x2x8x1024 .f32) (y : FVec Ideal S4x4352x1024 .f32) : FVec Ideal S4x256x1024 .f32 :=
  addf (extractStridedSlice S4x256x1024 ![0, 0, 0] h slices_S4x4352x1024_S4x256x1024_0_0_0) (mulf (broadcastInDim S4x256x1024 ![0, 1, 2] bcast_S4x1x1024_S4x256x1024_0_1_2 (broadcastInDim S4x1x1024 ![0, 2] bcast_S4x1024_S4x1x1024_0_2 (shapeCast _ (extractStridedSlice S4x1x1x1024 ![0, 0, 2, 0] p slices_S4x2x8x1024_S4x1x1x1024_0_0_2_0) shapeCasts_S4x1x1x1024_S4x1024))) (extractStridedSlice S4x256x1024 ![0, 0, 0] y slices_S4x4352x1024_S4x256x1024_0_0_0))

/-- The latents' residual. -/
def HX (h : FVec Ideal S4x4352x1024 .f32) (p : FVec Ideal S4x2x8x1024 .f32) (y : FVec Ideal S4x4352x1024 .f32) : FVec Ideal S4x4096x1024 .f32 :=
  addf (extractStridedSlice S4x4096x1024 ![0, 256, 0] h slices_S4x4352x1024_S4x4096x1024_0_256_0) (mulf (broadcastInDim S4x4096x1024 ![0, 1, 2] bcast_S4x1x1024_S4x4096x1024_0_1_2 (broadcastInDim S4x1x1024 ![0, 2] bcast_S4x1024_S4x1x1024_0_2 (shapeCast _ (extractStridedSlice S4x1x1x1024 ![0, 1, 2, 0] p slices_S4x2x8x1024_S4x1x1x1024_0_1_2_0) shapeCasts_S4x1x1x1024_S4x1024))) (extractStridedSlice S4x4096x1024 ![0, 256, 0] y slices_S4x4352x1024_S4x4096x1024_0_256_0))

/-- The context's modulated norm. -/
def VC (h : FVec Ideal S4x256x1024 .f32) (g : FVec Ideal S1x1024 .f32) (p : FVec Ideal S4x2x8x1024 .f32) : FVec Ideal S4x256x1024 .f32 :=
  addf (mulf (mulf (mulf h (broadcastInDim S4x256x1024 ![0, 1, 2] bcast_S4x256x1_S4x256x1024_0_1_2 (Host.rsqrt (addf (Host.divf (broadcastInDim S4x256x1 ![0, 1] bcast_S4x256_S4x256x1_0_1 (Host.reduceAdd (mulf h h) (constant S_ .f32 0x00000000#32) reducesTo_S4x256x1024_S4x256_d2 h_S_)) (broadcastInDim S4x256x1 ![] bcast_S_S4x256x1 (constant S_ .f32 0x44800000#32))) (broadcastInDim S4x256x1 ![] bcast_S_S4x256x1 (constant S_ .f32 0x358637BD#32)))))) (broadcastInDim S4x256x1024 ![0, 1, 2] bcast_S1x1x1024_S4x256x1024_0_1_2 (broadcastInDim S1x1x1024 ![2] bcast_S1024_S1x1x1024_2 (shapeCast _ g shapeCasts_S1x1024_S1024)))) (broadcastInDim S4x256x1024 ![0, 1, 2] bcast_S4x1x1024_S4x256x1024_0_1_2 (addf (broadcastInDim S4x1x1024 ![] bcast_S_S4x1x1024 (constant S_ .f32 0x3F800000#32)) (broadcastInDim S4x1x1024 ![0, 2] bcast_S4x1024_S4x1x1024_0_2 (shapeCast _ (extractStridedSlice S4x1x1x1024 ![0, 0, 4, 0] p slices_S4x2x8x1024_S4x1x1x1024_0_0_4_0) shapeCasts_S4x1x1x1024_S4x1024))))) (broadcastInDim S4x256x1024 ![0, 1, 2] bcast_S4x1x1024_S4x256x1024_0_1_2 (broadcastInDim S4x1x1024 ![0, 2] bcast_S4x1024_S4x1x1024_0_2 (shapeCast _ (extractStridedSlice S4x1x1x1024 ![0, 0, 3, 0] p slices_S4x2x8x1024_S4x1x1x1024_0_0_3_0) shapeCasts_S4x1x1x1024_S4x1024)))

/-- The latents' modulated norm. -/
def VX (h : FVec Ideal S4x4096x1024 .f32) (g : FVec Ideal S1x1024 .f32) (p : FVec Ideal S4x2x8x1024 .f32) : FVec Ideal S4x4096x1024 .f32 :=
  addf (mulf (mulf (mulf h (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf h h) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 (shapeCast _ g shapeCasts_S1x1024_S1024)))) (broadcastInDim S4x4096x1024 ![0, 1, 2] bcast_S4x1x1024_S4x4096x1024_0_1_2 (addf (broadcastInDim S4x1x1024 ![] bcast_S_S4x1x1024 (constant S_ .f32 0x3F800000#32)) (broadcastInDim S4x1x1024 ![0, 2] bcast_S4x1024_S4x1x1024_0_2 (shapeCast _ (extractStridedSlice S4x1x1x1024 ![0, 1, 4, 0] p slices_S4x2x8x1024_S4x1x1x1024_0_1_4_0) shapeCasts_S4x1x1x1024_S4x1024))))) (broadcastInDim S4x4096x1024 ![0, 1, 2] bcast_S4x1x1024_S4x4096x1024_0_1_2 (broadcastInDim S4x1x1024 ![0, 2] bcast_S4x1024_S4x1x1024_0_2 (shapeCast _ (extractStridedSlice S4x1x1x1024 ![0, 1, 3, 0] p slices_S4x2x8x1024_S4x1x1x1024_0_1_3_0) shapeCasts_S4x1x1x1024_S4x1024)))

/-- Context and latent rows as one list of rows. -/
def FLAT (c : FVec Ideal S4x256x1024 .f32) (x : FVec Ideal S4x4096x1024 .f32) : FVec Ideal S17408x1024 .f32 :=
  shapeCast _ (concatenate S4x4352x1024 1 [⟨S4x256x1024, c⟩, ⟨S4x4096x1024, x⟩] concatenates_S4x256x1024_S4x4096x1024_S4x4352x1024_d1) shapeCasts_S4x4352x1024_S17408x1024

/-- The router's logits of the rows. -/
def LOGITS (v : FVec Ideal S17408x1024 .f32) (w : FVec Ideal S1024x128 .f32) : FVec Ideal S17408x128 .f32 :=
  Host.dotGeneral dot_S17408x1024_S1024x128_S17408x128_1_0_0_1_n_n none v w

/-- The residual stream: mixers' outputs `a b c d`, stream `h`, modulation `p`, projection `w`. -/
def REFH (a b c d : FVec Ideal S4x4352x256 .bf16) (h : FVec Ideal S4x4352x1024 .f32) (p : FVec Ideal S4x2x8x1024 .f32) (w : FVec Ideal S4x1024x1024 .bf16) :
    FVec Ideal S17408x1024 .f32 := FLAT (HC h p (MIX (CAT a b c d) w)) (HX h p (MIX (CAT a b c d) w))

/-- The rows that the next part reads. -/
def REFV (a b c d : FVec Ideal S4x4352x256 .bf16) (h : FVec Ideal S4x4352x1024 .f32) (p : FVec Ideal S4x2x8x1024 .f32) (g : FVec Ideal S1x1024 .f32)
    (w : FVec Ideal S4x1024x1024 .bf16) : FVec Ideal S17408x1024 .f32 :=
  FLAT (VC (HC h p (MIX (CAT a b c d) w)) g p) (VX (HX h p (MIX (CAT a b c d) w)) g p)

/-- Their logits. -/
def REFL (a b c d : FVec Ideal S4x4352x256 .bf16) (h : FVec Ideal S4x4352x1024 .f32) (p : FVec Ideal S4x2x8x1024 .f32) (g : FVec Ideal S1x1024 .f32)
    (w : FVec Ideal S4x1024x1024 .bf16) (wr : FVec Ideal S1024x128 .f32) : FVec Ideal S17408x128 .f32 := LOGITS (REFV a b c d h p g w) wr

/-- The run's second result is that function of the arguments. -/
theorem res_v (m : (ℓ : Loc nD τ sig) → Buf (Elt Ideal) ℓ) (c : Dev nD) : Value.res_out1 m c
    = REFV (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) := rfl

/-- And the third. -/
theorem res_l (m : (ℓ : Loc nD τ sig) → Buf (Elt Ideal) ℓ) (c : Dev nD) : Value.res_out2 m c
    = REFL (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) := rfl

theorem CAT_at (a b c d : FVec Ideal S4x4352x256 .bf16) (i : Fin 4) (l : Fin 4352) (j : Fin 4) (t : Fin 256) :
    CAT a b c d (ix3 i l ⟨j * 256 + t, by omega⟩) = (![a, b, c, d] j : FVec Ideal S4x4352x256 .bf16) (ix3 i l t) := by
  pointwise [CAT]
  obtain h | h | h | h : j = 0 ∨ j = 1 ∨ j = 2 ∨ j = 3 := by omega
  all_goals have hj := congrArg Fin.val h
  all_goals simp only [Fin.val_zero, Fin.val_one, Fin.val_two, show ((3 : Fin 4) : ℕ) = 3 from rfl] at hj
  · refine (dif_pos (by omega)).trans ?_
    subst h
    exact congrArg (fun k => a (ix3 i l k)) (Fin.ext (by dsimp only; omega))
  · refine (dif_neg (by omega)).trans ((dif_pos (by omega)).trans ?_)
    subst h
    exact congrArg (fun k => b (ix3 i l k)) (Fin.ext (by dsimp only; omega))
  · refine (dif_neg (by omega)).trans ((dif_neg (by omega)).trans ((dif_pos (by omega)).trans ?_))
    subst h
    exact congrArg (fun k => c (ix3 i l k)) (Fin.ext (by dsimp only; omega))
  · refine (dif_neg (by omega)).trans ((dif_neg (by omega)).trans ((dif_neg (by omega)).trans ?_))
    subst h
    exact congrArg (fun k => d (ix3 i l k)) (Fin.ext (by dsimp only; omega))

theorem MIX_at (x : FVec Ideal S4x4352x1024 .f32) (w : FVec Ideal S4x1024x1024 .bf16) (i : Fin 4) (l : Fin 4352) (e : Fin 1024) :
    MIX x w (ix3 i l e) = ∑ d : Fin 1024, x (ix3 i l d) * w (ix3 1 d e) := by
  pointwise [MIX]

theorem HC_at (h : FVec Ideal S4x4352x1024 .f32) (p : FVec Ideal S4x2x8x1024 .f32) (y : FVec Ideal S4x4352x1024 .f32) (i : Fin 4) (l : Fin 256) (e : Fin 1024) :
    HC h p y (ix3 i l e) = h (ix3 i ⟨l, by omega⟩ e) + p (ix4 i 0 2 e) * y (ix3 i ⟨l, by omega⟩ e) := by
  pointwise [HC]

theorem HX_at (h : FVec Ideal S4x4352x1024 .f32) (p : FVec Ideal S4x2x8x1024 .f32) (y : FVec Ideal S4x4352x1024 .f32) (i : Fin 4) (l : Fin 4096) (e : Fin 1024) :
    HX h p y (ix3 i l e) = h (ix3 i ⟨256 + l, by omega⟩ e) + p (ix4 i 1 2 e) * y (ix3 i ⟨256 + l, by omega⟩ e) := by
  pointwise [HX]

/-- A row's modulated norm at channel `e`: the row over its root mean square, times the gain `g` and one plus the scale `s`, plus the shift `t`. -/
def nrm (h : Fin 1024 → EReal) (g s t : EReal) (e : Fin 1024) : EReal :=
  h e * Ideal.rsqrt (Ideal.div (∑ d, h d * h d) (Ideal.ofBits .f32 0x44800000#32) + Ideal.ofBits .f32 0x358637BD#32) * g * (1 + s) + t

theorem VC_at (h : FVec Ideal S4x256x1024 .f32) (g : FVec Ideal S1x1024 .f32) (p : FVec Ideal S4x2x8x1024 .f32) (i : Fin 4) (l : Fin 256) (e : Fin 1024) :
    VC h g p (ix3 i l e) = nrm (fun d => h (ix3 i l d)) (g (ix2 0 e)) (p (ix4 i 0 4 e)) (p (ix4 i 0 3 e)) e := by
  pointwise [VC, nrm]

theorem VX_at (h : FVec Ideal S4x4096x1024 .f32) (g : FVec Ideal S1x1024 .f32) (p : FVec Ideal S4x2x8x1024 .f32) (i : Fin 4) (l : Fin 4096) (e : Fin 1024) :
    VX h g p (ix3 i l e) = nrm (fun d => h (ix3 i l d)) (g (ix2 0 e)) (p (ix4 i 1 4 e)) (p (ix4 i 1 3 e)) e := by
  pointwise [VX, nrm]

theorem FLAT_at (c : FVec Ideal S4x256x1024 .f32) (x : FVec Ideal S4x4096x1024 .f32) (R : Fin 17408) (e : Fin 1024) :
    FLAT c x (ix2 R e) = if h : (R : ℕ) % 4352 < 256 then c (ix3 ⟨↑R / 4352, by omega⟩ ⟨↑R % 4352, h⟩ e) else x (ix3 ⟨↑R / 4352, by omega⟩ ⟨↑R % 4352 - 256, by omega⟩ e) := by
  pointwise [FLAT]

theorem LOGITS_at (v : FVec Ideal S17408x1024 .f32) (w : FVec Ideal S1024x128 .f32) (R : Fin 17408) (o : Fin 128) :
    LOGITS v w (ix2 R o) = ∑ d : Fin 1024, v (ix2 R d) * w (ix2 d o) := by
  pointwise [LOGITS]

/-- Row `R` of the mixers' projection, a mixer at a time. -/
def mix (a b c d : FVec Ideal S4x4352x256 .bf16) (w : FVec Ideal S4x1024x1024 .bf16) (R : Fin 17408) (e : Fin 1024) : EReal :=
  ∑ j : Fin 4, ∑ t : Fin 256, (![a, b, c, d] j : FVec Ideal S4x4352x256 .bf16) (ix3 ⟨↑R / 4352, by omega⟩ ⟨↑R % 4352, by omega⟩ t)
    * w (ix3 1 ⟨j * 256 + t, by omega⟩ e)

theorem mix_eq (a b c d : FVec Ideal S4x4352x256 .bf16) (w : FVec Ideal S4x1024x1024 .bf16) (R : Fin 17408) (e : Fin 1024) :
    MIX (CAT a b c d) w (ix3 ⟨↑R / 4352, by omega⟩ ⟨↑R % 4352, by omega⟩ e) = mix a b c d w R e := by
  rw [MIX_at, Fin.sum_univ_tiles 4 256 rfl]
  unfold mix
  refine Finset.sum_congr rfl fun j _ => Finset.sum_congr rfl fun t _ => ?_
  rw [CAT_at]

/-- Row `R`'s modulation row `k`: the context's or the latents'. -/
def par (p : FVec Ideal S4x2x8x1024 .f32) (k : Fin 8) (R : Fin 17408) (e : Fin 1024) : EReal :=
  p (ix4 ⟨↑R / 4352, by omega⟩ (if (R : ℕ) % 4352 < 256 then 0 else 1) k e)

theorem REFH_at (a b c d : FVec Ideal S4x4352x256 .bf16) (h : FVec Ideal S4x4352x1024 .f32) (p : FVec Ideal S4x2x8x1024 .f32) (w : FVec Ideal S4x1024x1024 .bf16)
    (R : Fin 17408) (e : Fin 1024) : REFH a b c d h p w (ix2 R e)
      = h (ix3 ⟨↑R / 4352, by omega⟩ ⟨↑R % 4352, by omega⟩ e) + par p 2 R e * mix a b c d w R e := by
  rw [← mix_eq]
  unfold REFH par
  generalize MIX (CAT a b c d) w = y
  rw [FLAT_at]
  by_cases hR : (R : ℕ) % 4352 < 256
  · rw [dif_pos hR, if_pos hR, HC_at]
  · rw [dif_neg hR, if_neg hR, HX_at]
    exact congrArg (fun l => h (ix3 ⟨↑R / 4352, by omega⟩ l e) + p (ix4 ⟨↑R / 4352, by omega⟩ 1 2 e) * y (ix3 ⟨↑R / 4352, by omega⟩ l e))
      (Fin.ext (by dsimp only; omega))

theorem REFV_at (a b c d : FVec Ideal S4x4352x256 .bf16) (h : FVec Ideal S4x4352x1024 .f32) (p : FVec Ideal S4x2x8x1024 .f32) (g : FVec Ideal S1x1024 .f32)
    (w : FVec Ideal S4x1024x1024 .bf16) (R : Fin 17408) (e : Fin 1024) : REFV a b c d h p g w (ix2 R e)
      = nrm (fun k => REFH a b c d h p w (ix2 R k)) (g (ix2 0 e)) (par p 4 R e) (par p 3 R e) e := by
  unfold REFV REFH par
  simp only [FLAT_at]
  by_cases hR : (R : ℕ) % 4352 < 256
  · simp only [dif_pos hR, if_pos hR, VC_at]
  · simp only [dif_neg hR, if_neg hR, VX_at]

theorem REFL_at (a b c d : FVec Ideal S4x4352x256 .bf16) (h : FVec Ideal S4x4352x1024 .f32) (p : FVec Ideal S4x2x8x1024 .f32) (g : FVec Ideal S1x1024 .f32)
    (w : FVec Ideal S4x1024x1024 .bf16) (wr : FVec Ideal S1024x128 .f32) (R : Fin 17408) (o : Fin 128) : REFL a b c d h p g w wr (ix2 R o)
      = ∑ k : Fin 1024, REFV a b c d h p g w (ix2 R k) * wr (ix2 k o) := LOGITS_at _ _ R o

end Cert.OutRefIdeal.Term

end
-- ==== Proof.OutValue.lean ====
/-
  The output projection's kernel: its three result arrays are the reference's functions of the nine argument arrays.
-/
module

public import proofs.«01_k».proof.Proof.Gen.OutIdeal.Value
public import proofs.«01_k».proof.Proof.OutRef
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OutIdeal.Result

open Cert.OutIdeal Cert.OutIdeal.Gen
open Cert.OutRefIdeal.Term (nrm par mix REFH REFV REFL)

theorem nrm_congr {h h' : Fin 1024 → EReal} {g g' s s' t t' : EReal} (e : Fin 1024) (eh : h = h') (eg : g = g') (es : s = s') (et : t = t') :
    nrm h g s t e = nrm h' g' s' t' e := by
  rw [eh, eg, es, et]

section Block

variable (x0 x1 x2 x3 : Vec Ideal S512x256 .bf16) (x4 : Vec Ideal S512x1024 .f32) (x5 x6 : Vec Ideal S1x1x8x1024 .f32)
  (x7 : Vec Ideal S1x1024 .f32) (x8 : Vec Ideal S1x1024x1024 .bf16) (x9 : Vec Ideal S1024x128 .f32)

/-- Row `r` of the block's four mixers' projections. -/
def proj (r : Fin 512) (e : Fin 1024) : EReal :=
  ∑ j : Fin 4, ∑ t : Fin 256, (![x0, x1, x2, x3] j : Vec Ideal S512x256 .bf16) (ix2 r t) * x8 (ix3 0 ⟨j * 256 + t, by omega⟩ e)

theorem sum_at (a b c d : Vec Ideal S512x256 .bf16) (u v w z : Vec Ideal S1x256x1024 .bf16) (r : Fin 512) (e : Fin 1024) :
    k0_pay1 (F := Ideal) a u b v c w d z (ix2 r e)
      = (∑ t : Fin 256, a (ix2 r t) * u (ix3 0 t e)) + (∑ t : Fin 256, b (ix2 r t) * v (ix3 0 t e))
        + (∑ t : Fin 256, c (ix2 r t) * w (ix3 0 t e)) + ∑ t : Fin 256, d (ix2 r t) * z (ix3 0 t e) := by
  pointwise [k0_pay1]

theorem proj_at (r : Fin 512) (e : Fin 1024) :
    k0_pay12 (F := Ideal) x0 x1 x2 x3 x4 x5 x6 x7 x8 x9 (ix2 r e) = proj x0 x1 x2 x3 x8 r e := by
  unfold k0_pay12 proj
  rw [sum_at, Fin.sum_univ_four]
  refine congrArg₂ (· + ·) (congrArg₂ (· + ·) (congrArg₂ (· + ·) ?_ ?_) ?_) ?_ <;>
  · refine Finset.sum_congr rfl fun f _ => ?_
    blk_point [] <;>
    · refine View.ld_unit_apply_of _ _ _ _ _ _ fun a => ?_
      fin_cases a <;> simp

/-- The residual of the block's first 256 rows. -/
theorem upper_h (h g : Vec Ideal S256x1024 .f32) (p : Vec Ideal S1x1x1x1024 .f32) (r : Fin 256) (e : Fin 1024) :
    k0_pay5 (F := Ideal) (k0_pay2 h) g (k0_pay4 p) (ix2 r e) = h (ix2 r e) + p (ix4 0 0 0 e) * g (ix2 r e) := by
  pointwise [k0_pay5, k0_pay2, k0_pay4]

/-- Of the other 256. -/
theorem lower_h (y : FVec Ideal S512x1024 .f32) (h : Vec Ideal S256x1024 .f32) (p : Vec Ideal S1x1x1x1024 .f32) (r : Fin 256) (e : Fin 1024) :
    k0_pay9 (F := Ideal) y (k0_pay8 h) p (ix2 r e) = h (ix2 r e) + p (ix4 0 0 0 e) * y (ix2 ⟨256 + r, by omega⟩ e) := by
  pointwise [k0_pay9, k0_pay8]

theorem upper_v (h g p : FVec Ideal S256x1024 .f32) (w : Vec Ideal S1x1024 .f32) (s t : Vec Ideal S1x1x1x1024 .f32) (r : Fin 256) (e : Fin 1024) :
    k0_pay6 (F := Ideal) h g p w s t (ix2 r e)
      = nrm (fun k => k0_pay5 (F := Ideal) h g p (ix2 r k)) (w (ix2 0 e)) (s (ix4 0 0 0 e)) (t (ix4 0 0 0 e)) e := by
  unfold k0_pay6
  generalize k0_pay5 (F := Ideal) h g p = y
  pointwise [nrm]

theorem lower_v (y : FVec Ideal S512x1024 .f32) (h : FVec Ideal S256x1024 .f32) (p : Vec Ideal S1x1x1x1024 .f32) (w : Vec Ideal S1x1024 .f32)
    (s t : Vec Ideal S1x1x1x1024 .f32) (r : Fin 256) (e : Fin 1024) :
    k0_pay10 (F := Ideal) y h p w s t (ix2 r e)
      = nrm (fun k => k0_pay9 (F := Ideal) y h p (ix2 r k)) (w (ix2 0 e)) (s (ix4 0 0 0 e)) (t (ix4 0 0 0 e)) e := by
  unfold k0_pay10
  generalize k0_pay9 (F := Ideal) y h p = z
  pointwise [nrm]

theorem upper_l (h g p : FVec Ideal S256x1024 .f32) (w : Vec Ideal S1x1024 .f32) (s t : Vec Ideal S1x1x1x1024 .f32) (z : Vec Ideal S1024x128 .f32)
    (r : Fin 256) (o : Fin 128) : k0_pay7 (F := Ideal) h g p w s t z (ix2 r o)
      = ∑ k : Fin 1024, k0_pay6 (F := Ideal) h g p w s t (ix2 r k) * z (ix2 k o) := by
  unfold k0_pay7
  generalize k0_pay6 (F := Ideal) h g p w s t = y
  pointwise []

theorem lower_l (y : FVec Ideal S512x1024 .f32) (h : FVec Ideal S256x1024 .f32) (p : Vec Ideal S1x1x1x1024 .f32) (w : Vec Ideal S1x1024 .f32)
    (s t : Vec Ideal S1x1x1x1024 .f32) (z : Vec Ideal S1024x128 .f32) (r : Fin 256) (o : Fin 128) : k0_pay11 (F := Ideal) y h p w s t z (ix2 r o)
      = ∑ k : Fin 1024, k0_pay10 (F := Ideal) y h p w s t (ix2 r k) * z (ix2 k o) := by
  unfold k0_pay11
  generalize k0_pay10 (F := Ideal) y h p w s t = q
  pointwise []

/-- The residual's block is its two stores. -/
theorem h_upper (r : Fin 256) (e : Fin 1024) : out0_10 (F := Ideal) x0 x1 x2 x3 x4 x5 x6 x7 x8 x9 (ix2 ⟨r, by omega⟩ e)
      = k0_pay5 (F := Ideal) (k0_pay13 x0 x1 x2 x3 x4 x5 x6 x7 x8 x9) (k0_pay14 x0 x1 x2 x3 x4 x5 x6 x7 x8 x9) (k0_pay15 x0 x1 x2 x3 x4 x5 x6 x7 x8 x9) (ix2 r e) := by
  canon_tiles x h
  · exact absurd h0 (by simp; omega)
  · exact congrArg _ (by funext i; fin_cases i; exacts [Fin.ext h0.symm, Fin.ext h1.symm])

theorem h_lower (r : Fin 256) (e : Fin 1024) : out0_10 (F := Ideal) x0 x1 x2 x3 x4 x5 x6 x7 x8 x9 (ix2 ⟨256 + r, by omega⟩ e)
      = k0_pay9 (F := Ideal) (k0_pay12 x0 x1 x2 x3 x4 x5 x6 x7 x8 x9) (k0_pay16 x0 x1 x2 x3 x4 x5 x6 x7 x8 x9) (View.ld x6 r0_6) (ix2 r e) := by
  canon_tiles x h
  · exact congrArg _ (by funext i; fin_cases i; exacts [Fin.ext (Nat.add_left_cancel h0.symm), Fin.ext h1.symm])
  · exact absurd (show 256 + (r : ℕ) = (x 0).val from h0) (by omega)

/-- Row `r`'s modulation row `k`: its half's. -/
def half (k : Fin 8) (r : Fin 512) (e : Fin 1024) : EReal := if (r : ℕ) < 256 then x5 (ix4 0 0 k e) else x6 (ix4 0 0 k e)

theorem cases (r : Fin 512) : (∃ a : Fin 256, r = ⟨a, by omega⟩) ∨ ∃ a : Fin 256, r = ⟨256 + a, by omega⟩ := by
  by_cases h : (r : ℕ) < 256
  · exact .inl ⟨⟨r, h⟩, rfl⟩
  · exact .inr ⟨⟨r - 256, by omega⟩, Fin.ext (by dsimp only; omega)⟩

/-- A row of the block: the residual stream. -/
theorem H_at (r : Fin 512) (e : Fin 1024) : out0_10 (F := Ideal) x0 x1 x2 x3 x4 x5 x6 x7 x8 x9 (ix2 r e)
      = x4 (ix2 r e) + half x5 x6 2 r e * proj x0 x1 x2 x3 x8 r e := by
  rw [← proj_at x0 x1 x2 x3 x4 x5 x6 x7 x8 x9]
  unfold half
  obtain ⟨a, rfl⟩ | ⟨a, rfl⟩ := cases r
  · rw [h_upper, if_pos a.isLt]
    refine (upper_h _ _ _ a e).trans (congrArg₂ (· + ·) ?_ (congrArg₂ (· * ·) ?_ ?_))
    · refine View.ld_unit_apply_of _ _ _ _ _ _ fun i => ?_
      fin_cases i <;> simp
    · refine View.ld_unit_apply_of _ _ _ _ _ _ fun i => ?_
      fin_cases i <;> simp
    · unfold k0_pay14 k0_pay12
      pointwise [k0_pay3]
  · rw [h_lower, if_neg (by dsimp only; omega)]
    refine (lower_h _ _ _ a e).trans (congrArg₂ (· + ·) ?_ (congrArg₂ (· * ·) ?_ rfl))
    · refine View.ld_unit_apply_of _ _ _ _ _ _ fun i => ?_
      fin_cases i <;> simp
    · refine View.ld_unit_apply_of _ _ _ _ _ _ fun i => ?_
      fin_cases i <;> simp

/-- Its modulated norm. -/
theorem V_at (r : Fin 512) (e : Fin 1024) : out0_11 (F := Ideal) x0 x1 x2 x3 x4 x5 x6 x7 x8 x9 (ix2 r e)
      = nrm (fun k => out0_10 (F := Ideal) x0 x1 x2 x3 x4 x5 x6 x7 x8 x9 (ix2 r k)) (x7 (ix2 0 e)) (half x5 x6 4 r e) (half x5 x6 3 r e) e := by
  unfold half
  canon_tiles x h
  · obtain ⟨a, b, rfl⟩ : ∃ (a : Fin 256) (b : Fin 1024), x = ix2 a b := ⟨x 0, x 1, by funext i; fin_cases i <;> rfl⟩
    obtain rfl : r = ⟨256 + a, Nat.add_lt_add_left a.isLt 256⟩ := Fin.ext h0
    obtain rfl : e = b := Fin.ext h1
    simp only [h_lower]
    rw [if_neg (by omega), if_neg (by omega), lower_v]
    refine nrm_congr e rfl ?_ ?_ ?_ <;>
    · refine View.ld_unit_apply_of _ _ _ _ _ _ fun i => ?_
      fin_cases i <;> simp
  · obtain ⟨a, b, rfl⟩ : ∃ (a : Fin 256) (b : Fin 1024), x = ix2 a b := ⟨x 0, x 1, by funext i; fin_cases i <;> rfl⟩
    obtain rfl : r = ⟨a, a.isLt.trans (by decide)⟩ := Fin.ext h0
    obtain rfl : e = b := Fin.ext h1
    simp only [h_upper]
    rw [if_pos a.isLt, if_pos a.isLt, upper_v]
    refine nrm_congr e rfl ?_ ?_ ?_ <;>
    · refine View.ld_unit_apply_of _ _ _ _ _ _ fun i => ?_
      fin_cases i <;> simp

theorem v_upper (r : Fin 256) (e : Fin 1024) : out0_11 (F := Ideal) x0 x1 x2 x3 x4 x5 x6 x7 x8 x9 (ix2 ⟨r, by omega⟩ e)
      = k0_pay6 (F := Ideal) (k0_pay13 x0 x1 x2 x3 x4 x5 x6 x7 x8 x9) (k0_pay14 x0 x1 x2 x3 x4 x5 x6 x7 x8 x9) (k0_pay15 x0 x1 x2 x3 x4 x5 x6 x7 x8 x9)
          (View.ld x7 r0_7) (View.ld x5 r0_8) (View.ld x5 r0_9) (ix2 r e) := by
  canon_tiles x h
  · exact absurd h0 (by simp; omega)
  · exact congrArg _ (by funext i; fin_cases i; exacts [Fin.ext h0.symm, Fin.ext h1.symm])

theorem v_lower (r : Fin 256) (e : Fin 1024) : out0_11 (F := Ideal) x0 x1 x2 x3 x4 x5 x6 x7 x8 x9 (ix2 ⟨256 + r, by omega⟩ e)
      = k0_pay10 (F := Ideal) (k0_pay12 x0 x1 x2 x3 x4 x5 x6 x7 x8 x9) (k0_pay16 x0 x1 x2 x3 x4 x5 x6 x7 x8 x9) (View.ld x6 r0_6)
          (View.ld x7 r0_7) (View.ld x6 r0_8) (View.ld x6 r0_9) (ix2 r e) := by
  canon_tiles x h
  · exact congrArg _ (by funext i; fin_cases i; exacts [Fin.ext (Nat.add_left_cancel h0.symm), Fin.ext h1.symm])
  · exact absurd (show 256 + (r : ℕ) = (x 0).val from h0) (by omega)

/-- Its logits. -/
theorem L_at (r : Fin 512) (o : Fin 128) : out0_12 (F := Ideal) x0 x1 x2 x3 x4 x5 x6 x7 x8 x9 (ix2 r o)
      = ∑ k : Fin 1024, out0_11 (F := Ideal) x0 x1 x2 x3 x4 x5 x6 x7 x8 x9 (ix2 r k) * x9 (ix2 k o) := by
  canon_tiles x h
  · obtain ⟨a, b, rfl⟩ : ∃ (a : Fin 256) (b : Fin 128), x = ix2 a b := ⟨x 0, x 1, by funext i; fin_cases i <;> rfl⟩
    obtain rfl : r = ⟨256 + a, Nat.add_lt_add_left a.isLt 256⟩ := Fin.ext h0
    obtain rfl : o = b := Fin.ext h1
    simp only [v_lower]
    rw [lower_l]
    refine Finset.sum_congr rfl fun k _ => congrArg _ ?_
    refine View.ld_unit_apply_of _ _ _ _ _ _ fun i => ?_
    fin_cases i <;> simp
  · obtain ⟨a, b, rfl⟩ : ∃ (a : Fin 256) (b : Fin 128), x = ix2 a b := ⟨x 0, x 1, by funext i; fin_cases i <;> rfl⟩
    obtain rfl : r = ⟨a, a.isLt.trans (by decide)⟩ := Fin.ext h0
    obtain rfl : o = b := Fin.ext h1
    simp only [v_upper]
    rw [upper_l]
    refine Finset.sum_congr rfl fun k _ => congrArg _ ?_
    refine View.ld_unit_apply_of _ _ _ _ _ _ fun i => ?_
    fin_cases i <;> simp

end Block

variable (m : (ℓ : Loc nD τ sig) → Buf (Elt Ideal) ℓ)

/-- Every window's block at grid point `t`. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0]
    ∧ win0_5.index t = ![2 * t.val / 17, (if 2 * t.val % 17 = 0 then 0 else 1), 0, 0]
    ∧ win0_6.index t = ![(2 * t.val + 1) / 17, (if (2 * t.val + 1) % 17 = 0 then 0 else 1), 0, 0]
    ∧ win0_7.index t = ![0, 0] ∧ win0_8.index t = ![1, 0, 0] ∧ win0_9.index t = ![0, 0]
    ∧ win0_10.index t = ![t.val, 0] ∧ win0_11.index t = ![t.val, 0] ∧ win0_12.index t = ![t.val, 0] :=
  (by decide +kernel : ∀ t : Fin grid0.N, _)

/-- The block's modulation rows are the reference's. -/
theorem par_at (c : Dev nD) (t : Fin cfg0.N) (k : Fin 8) (r : Fin 512) (e : Fin 1024) (R : Fin 17408) (hR : (R : ℕ) = 512 * t.val + r) :
    half (iblk m c 5 t) (iblk m c 6 t) k r e = par (m ((c : Thread nD τ).loc main_arg5)) k R e := by
  unfold half par
  have ht : t.val < 34 := lt_of_lt_of_eq t.isLt N_0
  have hi := idx t
  by_cases hr : (r : ℕ) < 256
  · rw [if_pos hr]
    by_cases h : 2 * t.val % 17 = 0
    · rw [if_pos h] at hi
      rw [if_pos (by omega)]
      blk_ext [iblk, V, hi]
    · rw [if_neg h] at hi
      rw [if_neg (by omega)]
      blk_ext [iblk, V, hi]
  · rw [if_neg hr]
    by_cases h : (2 * t.val + 1) % 17 = 0
    · rw [if_pos h] at hi
      rw [if_pos (by omega)]
      blk_ext [iblk, V, hi]
    · rw [if_neg h] at hi
      rw [if_neg (by omega)]
      blk_ext [iblk, V, hi]

/-- The block's projections are the reference's. -/
theorem mix_at (c : Dev nD) (t : Fin cfg0.N) (r : Fin 512) (e : Fin 1024) (R : Fin 17408) (hR : (R : ℕ) = 512 * t.val + r) :
    proj (iblk m c 0 t) (iblk m c 1 t) (iblk m c 2 t) (iblk m c 3 t) (iblk m c 8 t) r e
      = mix (m ((c : Thread nD τ).loc main_arg0)) (m ((c : Thread nD τ).loc main_arg1)) (m ((c : Thread nD τ).loc main_arg2))
        (m ((c : Thread nD τ).loc main_arg3)) (m ((c : Thread nD τ).loc main_arg7)) R e := by
  unfold proj mix
  have ht : t.val < 34 := lt_of_lt_of_eq t.isLt N_0
  rw [Fin.sum_univ_four, Fin.sum_univ_four]
  refine congrArg₂ (· + ·) (congrArg₂ (· + ·) (congrArg₂ (· + ·) ?_ ?_) ?_) ?_ <;>
  · refine Finset.sum_congr rfl fun f _ => ?_
    blk_point [iblk, V, idx t]

/-- A row of block `t` against row `512 t + r` of the reference. -/
theorem row_h (c : Dev nD) (t : Fin cfg0.N) (r : Fin 512) (e : Fin 1024) (R : Fin 17408) (hR : (R : ℕ) = 512 * t.val + r) :
    out0_10 (iblk m c 0 t) (iblk m c 1 t) (iblk m c 2 t) (iblk m c 3 t) (iblk m c 4 t) (iblk m c 5 t) (iblk m c 6 t) (iblk m c 7 t) (iblk m c 8 t) (iblk m c 9 t) (ix2 r e)
      = REFH (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg7)) (ix2 R e) := by
  have ht : t.val < 34 := lt_of_lt_of_eq t.isLt N_0
  refine (H_at _ _ _ _ _ _ _ _ _ _ r e).trans (Eq.trans ?_ (Cert.OutRefIdeal.Term.REFH_at _ _ _ _ _ _ _ R e).symm)
  refine congrArg₂ (· + ·) ?_ (congrArg₂ (· * ·) (par_at m c t 2 r e R hR) (mix_at m c t r e R hR))
  blk_point [iblk, V, idx t]

theorem row_v (c : Dev nD) (t : Fin cfg0.N) (r : Fin 512) (e : Fin 1024) (R : Fin 17408) (hR : (R : ℕ) = 512 * t.val + r) :
    out0_11 (iblk m c 0 t) (iblk m c 1 t) (iblk m c 2 t) (iblk m c 3 t) (iblk m c 4 t) (iblk m c 5 t) (iblk m c 6 t) (iblk m c 7 t) (iblk m c 8 t) (iblk m c 9 t) (ix2 r e)
      = REFV (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (ix2 R e) := by
  refine (V_at _ _ _ _ _ _ _ _ _ _ r e).trans (Eq.trans ?_ (Cert.OutRefIdeal.Term.REFV_at _ _ _ _ _ _ _ _ R e).symm)
  refine nrm_congr e (funext fun k => row_h m c t r k R hR) ?_ ?_ ?_
  · blk_point [iblk, V, idx t]
  · exact par_at m c t 4 r e R hR
  · exact par_at m c t 3 r e R hR

theorem row_l (c : Dev nD) (t : Fin cfg0.N) (r : Fin 512) (o : Fin 128) (R : Fin 17408) (hR : (R : ℕ) = 512 * t.val + r) :
    out0_12 (iblk m c 0 t) (iblk m c 1 t) (iblk m c 2 t) (iblk m c 3 t) (iblk m c 4 t) (iblk m c 5 t) (iblk m c 6 t) (iblk m c 7 t) (iblk m c 8 t) (iblk m c 9 t) (ix2 r o)
      = REFL (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) (ix2 R o) := by
  refine (L_at _ _ _ _ _ _ _ _ _ _ r o).trans (Eq.trans ?_ (Cert.OutRefIdeal.Term.REFL_at _ _ _ _ _ _ _ _ _ R o).symm)
  refine Finset.sum_congr rfl fun k _ => congrArg₂ (· * ·) (row_v m c t r k R hR) ?_
  blk_point [iblk, V, idx t]

/-- The kernel's first result array. -/
theorem final_h (c : Dev nD) : (dats m 0 c).arrAt 10 (cfgs 0).N
    = REFH (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg7)) := by
  refine (dats m 0 c).arrAt_eq_of_covers 10 _ (by decide +kernel) fun t _ y => ?_
  have ht : t.val < 34 := lt_of_lt_of_eq t.isLt N_0
  blk_simp
  rw [after0_10]
  idx_vars y
  refine (row_h m c t y0 y1 ⟨512 * t.val + y0, by omega⟩ rfl).trans (congrArg _ ?_)
  blk_ext [idx t]

/-- The second. -/
theorem final_v (c : Dev nD) : (dats m 0 c).arrAt 11 (cfgs 0).N
    = REFV (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (dats m 0 c).arrAt_eq_of_covers 11 _ (by decide +kernel) fun t _ y => ?_
  have ht : t.val < 34 := lt_of_lt_of_eq t.isLt N_0
  blk_simp
  rw [after0_11]
  idx_vars y
  refine (row_v m c t y0 y1 ⟨512 * t.val + y0, by omega⟩ rfl).trans (congrArg _ ?_)
  blk_ext [idx t]

/-- The third. -/
theorem final_l (c : Dev nD) : (dats m 0 c).arrAt 12 (cfgs 0).N
    = REFL (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  refine (dats m 0 c).arrAt_eq_of_covers 12 _ (by decide +kernel) fun t _ y => ?_
  have ht : t.val < 34 := lt_of_lt_of_eq t.isLt N_0
  blk_simp
  rw [after0_12]
  idx_vars y
  refine (row_l m c t y0 y1 ⟨512 * t.val + y0, by omega⟩ rfl).trans (congrArg _ ?_)
  blk_ext [idx t]

end Cert.OutIdeal.Result

end
-- ==== Proof.OutClaim.lean ====
/-
  The output projection's call: its claims.
-/
module

public import proofs.«01_k».proof.Defs
public import proofs.«01_k».proof.Proof.OutValue
public import Idealize.ShloMosaic.Lib.Quiescent

@[expose] public section

noncomputable section

open Idealize.ShloMosaic Idealize.ShloMosaic.TcCoe Idealize.SL.Sem

namespace Cert.Claims

/-- The reference runs, leaves its arguments and ends with no signal outstanding. -/
theorem out_reference_frame (m : (ℓ : Loc Cert.OutRefIdeal.nD Cert.OutRefIdeal.τ Cert.OutRefIdeal.sig) → Buf (Elt Ideal) ℓ) (ρ : Dev Cert.OutRefIdeal.nD → PrngReg) :
    θ_run (Cert.OutRefIdeal.defs (F := Ideal)) (onTc (τ := Cert.OutRefIdeal.τ) (Cert.OutRefIdeal.main (F := Ideal))) ⟨m, fun _ => 0, ρ⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7)
      ∧ r.2.mem ((c.tc : Thread Cert.OutRefIdeal.nD Cert.OutRefIdeal.τ).loc Cert.OutRefIdeal.main_arg8) = m ((c.tc : Thread Cert.OutRefIdeal.nD Cert.OutRefIdeal.τ).loc Cert.OutRefIdeal.main_arg8)) ∧ r.2.sem = fun _ => 0) :=
  (θ_run Cert.OutRefIdeal.defs _ _).mono (fun r h => ⟨fun c => (h c).2.2.2, sem_eq_zero_of_no_sems (by decide) r.2⟩) (Cert.OutRefIdeal.Value.run (F := Ideal) m ρ)

/-- Kernel and reference end with the same three arrays. -/
theorem out_algebraic : Cert.algebraic_OutIdeal_OutRefIdeal := by
  intro m ρ m' ρ' pre hag
  refine ⟨fun c => Cert.OutRefIdeal.Term.REFH (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)) (m ((c.tc : Thread Cert.OutIdeal.nD Cert.OutIdeal.τ).loc Cert.OutIdeal.main_arg4)) (m ((c.tc : Thread Cert.OutIdeal.nD Cert.OutIdeal.τ).loc Cert.OutIdeal.main_arg5)) (m ((c.tc : Thread Cert.OutIdeal.nD Cert.OutIdeal.τ).loc Cert.OutIdeal.main_arg7)),
    fun c => Cert.OutRefIdeal.Term.REFV (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)) (m ((c.tc : Thread Cert.OutIdeal.nD Cert.OutIdeal.τ).loc Cert.OutIdeal.main_arg4)) (m ((c.tc : Thread Cert.OutIdeal.nD Cert.OutIdeal.τ).loc Cert.OutIdeal.main_arg5)) (m ((c.tc : Thread Cert.OutIdeal.nD Cert.OutIdeal.τ).loc Cert.OutIdeal.main_arg6)) (m ((c.tc : Thread Cert.OutIdeal.nD Cert.OutIdeal.τ).loc Cert.OutIdeal.main_arg7)),
    fun c => Cert.OutRefIdeal.Term.REFL (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)) (m ((c.tc : Thread Cert.OutIdeal.nD Cert.OutIdeal.τ).loc Cert.OutIdeal.main_arg4)) (m ((c.tc : Thread Cert.OutIdeal.nD Cert.OutIdeal.τ).loc Cert.OutIdeal.main_arg5)) (m ((c.tc : Thread Cert.OutIdeal.nD Cert.OutIdeal.τ).loc Cert.OutIdeal.main_arg6)) (m ((c.tc : Thread Cert.OutIdeal.nD Cert.OutIdeal.τ).loc Cert.OutIdeal.main_arg7)) (m ((c.tc : Thread Cert.OutIdeal.nD Cert.OutIdeal.τ).loc Cert.OutIdeal.main_arg8)), ?_, ?_⟩
  · exact (θ_run Cert.OutIdeal.defs _ _).mono (fun _ h c => ⟨(h c).1.trans (Cert.OutIdeal.Result.final_h m c), (h c).2.1.trans (Cert.OutIdeal.Result.final_v m c),
      (h c).2.2.1.trans (Cert.OutIdeal.Result.final_l m c), (h c).2.2.2⟩) (Cert.OutIdeal.Value.run_blocks m ρ)
  · refine (θ_run Cert.OutRefIdeal.defs _ _).mono (fun _ h c => ⟨(h c).1.trans ?_, (h c).2.1.trans ?_, (h c).2.2.1.trans ?_, (h c).2.2.2⟩) (Cert.OutRefIdeal.Value.run (F := Ideal) m' ρ')
    · dsimp only
      rw [← (hag c).1, ← (hag c).2.1, ← (hag c).2.2.1, ← (hag c).2.2.2.1, ← (hag c).2.2.2.2.1, ← (hag c).2.2.2.2.2.1, ← (hag c).2.2.2.2.2.2.2.1]
      rfl
    · refine (Cert.OutRefIdeal.Term.res_v m' c).trans ?_
      rw [(hag c).1, (hag c).2.1, (hag c).2.2.1, (hag c).2.2.2.1, (hag c).2.2.2.2.1, (hag c).2.2.2.2.2.1, (hag c).2.2.2.2.2.2.1, (hag c).2.2.2.2.2.2.2.1]
    · refine (Cert.OutRefIdeal.Term.res_l m' c).trans ?_
      rw [(hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2]

end Cert.Claims

end
-- ==== Proof.InRef.lean ====
/-
  The input projection's reference: its six results as functions of the argument arrays, read at an index.
-/
module

public import proofs.«01_k».proof.Proof.Gen.InRefIdeal.Run
public import proofs.«01_k».proof.Proof.OutRef
public import Idealize.ShloMosaic.Lib.Pipeline.ValueKit
public import Idealize.ShloMosaic.Lib.Pointwise
public import Idealize.ShloMosaic.PureOps.Ideal

@[expose] public section

set_option maxRecDepth 16384

noncomputable section

open Idealize.ShloMosaic Idealize.ShloMosaic.TcCoe Idealize.SL.Sem

namespace Cert.InRefIdeal.Term

open Cert.InRefIdeal Cert.InRefIdeal.Gen
open Cert.OutRefIdeal.Term (nrm par)

/-- The context's modulated norm. -/
def VC (h : FVec Ideal S4x256x1024 .f32) (g : FVec Ideal S1x1024 .f32) (p : FVec Ideal S4x2x8x1024 .f32) : FVec Ideal S4x256x1024 .f32 :=
  addf (mulf (mulf (mulf h (broadcastInDim S4x256x1024 ![0, 1, 2] bcast_S4x256x1_S4x256x1024_0_1_2 (Host.rsqrt (addf (Host.divf (broadcastInDim S4x256x1 ![0, 1] bcast_S4x256_S4x256x1_0_1 (Host.reduceAdd (mulf h h) (constant S_ .f32 0x00000000#32) reducesTo_S4x256x1024_S4x256_d2 h_S_)) (broadcastInDim S4x256x1 ![] bcast_S_S4x256x1 (constant S_ .f32 0x44800000#32))) (broadcastInDim S4x256x1 ![] bcast_S_S4x256x1 (constant S_ .f32 0x358637BD#32)))))) (broadcastInDim S4x256x1024 ![0, 1, 2] bcast_S1x1x1024_S4x256x1024_0_1_2 (broadcastInDim S1x1x1024 ![2] bcast_S1024_S1x1x1024_2 (shapeCast _ g shapeCasts_S1x1024_S1024)))) (broadcastInDim S4x256x1024 ![0, 1, 2] bcast_S4x1x1024_S4x256x1024_0_1_2 (addf (broadcastInDim S4x1x1024 ![] bcast_S_S4x1x1024 (constant S_ .f32 0x3F800000#32)) (broadcastInDim S4x1x1024 ![0, 2] bcast_S4x1024_S4x1x1024_0_2 (shapeCast _ (extractStridedSlice S4x1x1x1024 ![0, 0, 1, 0] p slices_S4x2x8x1024_S4x1x1x1024_0_0_1_0) shapeCasts_S4x1x1x1024_S4x1024))))) (broadcastInDim S4x256x1024 ![0, 1, 2] bcast_S4x1x1024_S4x256x1024_0_1_2 (broadcastInDim S4x1x1024 ![0, 2] bcast_S4x1024_S4x1x1024_0_2 (shapeCast _ (extractStridedSlice S4x1x1x1024 ![0, 0, 0, 0] p slices_S4x2x8x1024_S4x1x1x1024_0_0_0_0) shapeCasts_S4x1x1x1024_S4x1024)))

/-- The latents' modulated norm. -/
def VX (h : FVec Ideal S4x4096x1024 .f32) (g : FVec Ideal S1x1024 .f32) (p : FVec Ideal S4x2x8x1024 .f32) : FVec Ideal S4x4096x1024 .f32 :=
  addf (mulf (mulf (mulf h (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf h h) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 (shapeCast _ g shapeCasts_S1x1024_S1024)))) (broadcastInDim S4x4096x1024 ![0, 1, 2] bcast_S4x1x1024_S4x4096x1024_0_1_2 (addf (broadcastInDim S4x1x1024 ![] bcast_S_S4x1x1024 (constant S_ .f32 0x3F800000#32)) (broadcastInDim S4x1x1024 ![0, 2] bcast_S4x1024_S4x1x1024_0_2 (shapeCast _ (extractStridedSlice S4x1x1x1024 ![0, 1, 1, 0] p slices_S4x2x8x1024_S4x1x1x1024_0_1_1_0) shapeCasts_S4x1x1x1024_S4x1024))))) (broadcastInDim S4x4096x1024 ![0, 1, 2] bcast_S4x1x1024_S4x4096x1024_0_1_2 (broadcastInDim S4x1x1024 ![0, 2] bcast_S4x1024_S4x1x1024_0_2 (shapeCast _ (extractStridedSlice S4x1x1x1024 ![0, 1, 0, 0] p slices_S4x2x8x1024_S4x1x1x1024_0_1_0_0) shapeCasts_S4x1x1x1024_S4x1024)))

/-- Both, one sequence after the other. -/
def U (h : FVec Ideal S4x4352x1024 .f32) (p : FVec Ideal S4x2x8x1024 .f32) (g : FVec Ideal S1x1024 .f32) : FVec Ideal S4x4352x1024 .f32 :=
  concatenate S4x4352x1024 1 [⟨S4x256x1024, VC (extractStridedSlice S4x256x1024 ![0, 0, 0] h slices_S4x4352x1024_S4x256x1024_0_0_0) g p⟩, ⟨S4x4096x1024, VX (extractStridedSlice S4x4096x1024 ![0, 256, 0] h slices_S4x4352x1024_S4x4096x1024_0_256_0) g p⟩] concatenates_S4x256x1024_S4x4096x1024_S4x4352x1024_d1

/-- Its projection. -/
def PROJ (u : FVec Ideal S4x4352x1024 .f32) (w : FVec Ideal S4x1024x4736 .bf16) : FVec Ideal S4x4352x4736 .f32 :=
  Host.dotGeneral dot_S4x4352x1024_S1024x4736_S4x4352x4736_2_0_01_1_n_n none u (extf .f32 (shapeCast _ (extractStridedSlice S1x1024x4736 ![0, 0, 0] w slices_S4x1024x4736_S1x1024x4736_0_0_0) shapeCasts_S1x1024x4736_S1024x4736) bitsLt_bf16_f32)

/-- The window attention's columns of a projection `y`: 640 rotated, 128 as they are. -/
def RA (y : FVec Ideal S4x4352x4736 .f32) (cs sn : FVec Ideal S4352x1280 .f32) : FVec Ideal S4x4352x768 .f32 :=
  concatenate S4x4352x768 2 [⟨S4x4352x640, addf (mulf (extractStridedSlice S4x4352x640 ![0, 0, 0] y slices_S4x4352x4736_S4x4352x640_0_0_0) (broadcastInDim S4x4352x640 ![0, 1, 2] bcast_S1x4352x640_S4x4352x640_0_1_2 (broadcastInDim S1x4352x640 ![1, 2] bcast_S4352x640_S1x4352x640_1_2 (extractStridedSlice S4352x640 ![0, 0] cs slices_S4352x1280_S4352x640_0_0)))) (mulf (extractStridedSlice S4x4352x640 ![0, 0, 3456] y slices_S4x4352x4736_S4x4352x640_0_0_3456) (broadcastInDim S4x4352x640 ![0, 1, 2] bcast_S1x4352x640_S4x4352x640_0_1_2 (broadcastInDim S1x4352x640 ![1, 2] bcast_S4352x640_S1x4352x640_1_2 (extractStridedSlice S4352x640 ![0, 0] sn slices_S4352x1280_S4352x640_0_0))))⟩, ⟨S4x4352x128, extractStridedSlice S4x4352x128 ![0, 0, 640] y slices_S4x4352x4736_S4x4352x128_0_0_640⟩] concatenates_S4x4352x640_S4x4352x128_S4x4352x768_d2

/-- The retention's: 512 rotated, 512 as they are. -/
def RD (y : FVec Ideal S4x4352x4736 .f32) (cs sn : FVec Ideal S4352x1280 .f32) : FVec Ideal S4x4352x1024 .f32 :=
  concatenate S4x4352x1024 2 [⟨S4x4352x512, addf (mulf (extractStridedSlice S4x4352x512 ![0, 0, 2432] y slices_S4x4352x4736_S4x4352x512_0_0_2432) (broadcastInDim S4x4352x512 ![0, 1, 2] bcast_S1x4352x512_S4x4352x512_0_1_2 (broadcastInDim S1x4352x512 ![1, 2] bcast_S4352x512_S1x4352x512_1_2 (extractStridedSlice S4352x512 ![0, 768] cs slices_S4352x1280_S4352x512_0_768)))) (mulf (extractStridedSlice S4x4352x512 ![0, 0, 4224] y slices_S4x4352x4736_S4x4352x512_0_0_4224) (broadcastInDim S4x4352x512 ![0, 1, 2] bcast_S1x4352x512_S4x4352x512_0_1_2 (broadcastInDim S1x4352x512 ![1, 2] bcast_S4352x512_S1x4352x512_1_2 (extractStridedSlice S4352x512 ![0, 768] sn slices_S4352x1280_S4352x512_0_768))))⟩, ⟨S4x4352x512, extractStridedSlice S4x4352x512 ![0, 0, 2944] y slices_S4x4352x4736_S4x4352x512_0_0_2944⟩] concatenates_S4x4352x512_S4x4352x512_S4x4352x1024_d2

/-- The latent attention's rotated key columns. -/
def KR (y : FVec Ideal S4x4352x4736 .f32) (cs sn : FVec Ideal S4352x1280 .f32) : FVec Ideal S4x4352x128 .f32 :=
  addf (mulf (extractStridedSlice S4x4352x128 ![0, 0, 2304] y slices_S4x4352x4736_S4x4352x128_0_0_2304) (broadcastInDim S4x4352x128 ![0, 1, 2] bcast_S1x4352x128_S4x4352x128_0_1_2 (broadcastInDim S1x4352x128 ![1, 2] bcast_S4352x128_S1x4352x128_1_2 (extractStridedSlice S4352x128 ![0, 640] cs slices_S4352x1280_S4352x128_0_640)))) (mulf (extractStridedSlice S4x4352x128 ![0, 0, 4096] y slices_S4x4352x4736_S4x4352x128_0_0_4096) (broadcastInDim S4x4352x128 ![0, 1, 2] bcast_S1x4352x128_S4x4352x128_0_1_2 (broadcastInDim S1x4352x128 ![1, 2] bcast_S4352x128_S1x4352x128_1_2 (extractStridedSlice S4352x128 ![0, 640] sn slices_S4352x1280_S4352x128_0_640))))

/-- The normed query latents. -/
def NQ (y : FVec Ideal S4x4352x4736 .f32) (g : FVec Ideal S1x256 .f32) : FVec Ideal S4x4352x256 .f32 :=
  mulf (mulf (extractStridedSlice S4x4352x256 ![0, 0, 1920] y slices_S4x4352x4736_S4x4352x256_0_0_1920) (broadcastInDim S4x4352x256 ![0, 1, 2] bcast_S4x4352x1_S4x4352x256_0_1_2 (Host.rsqrt (addf (Host.divf (broadcastInDim S4x4352x1 ![0, 1] bcast_S4x4352_S4x4352x1_0_1 (Host.reduceAdd (mulf (extractStridedSlice S4x4352x256 ![0, 0, 1920] y slices_S4x4352x4736_S4x4352x256_0_0_1920) (extractStridedSlice S4x4352x256 ![0, 0, 1920] y slices_S4x4352x4736_S4x4352x256_0_0_1920)) (constant S_ .f32 0x00000000#32) reducesTo_S4x4352x256_S4x4352_d2 h_S_)) (broadcastInDim S4x4352x1 ![] bcast_S_S4x4352x1 (constant S_ .f32 0x43800000#32))) (broadcastInDim S4x4352x1 ![] bcast_S_S4x4352x1 (constant S_ .f32 0x358637BD#32)))))) (broadcastInDim S4x4352x256 ![0, 1, 2] bcast_S1x1x256_S4x4352x256_0_1_2 (broadcastInDim S1x1x256 ![2] bcast_S256_S1x1x256_2 (shapeCast _ g shapeCasts_S1x256_S256)))

/-- The normed key and value latents. -/
def NK (y : FVec Ideal S4x4352x4736 .f32) (g : FVec Ideal S1x128 .f32) : FVec Ideal S4x4352x128 .f32 :=
  mulf (mulf (extractStridedSlice S4x4352x128 ![0, 0, 2176] y slices_S4x4352x4736_S4x4352x128_0_0_2176) (broadcastInDim S4x4352x128 ![0, 1, 2] bcast_S4x4352x1_S4x4352x128_0_1_2 (Host.rsqrt (addf (Host.divf (broadcastInDim S4x4352x1 ![0, 1] bcast_S4x4352_S4x4352x1_0_1 (Host.reduceAdd (mulf (extractStridedSlice S4x4352x128 ![0, 0, 2176] y slices_S4x4352x4736_S4x4352x128_0_0_2176) (extractStridedSlice S4x4352x128 ![0, 0, 2176] y slices_S4x4352x4736_S4x4352x128_0_0_2176)) (constant S_ .f32 0x00000000#32) reducesTo_S4x4352x128_S4x4352_d2 h_S_)) (broadcastInDim S4x4352x1 ![] bcast_S_S4x4352x1 (constant S_ .f32 0x43000000#32))) (broadcastInDim S4x4352x1 ![] bcast_S_S4x4352x1 (constant S_ .f32 0x358637BD#32)))))) (broadcastInDim S4x4352x128 ![0, 1, 2] bcast_S1x1x128_S4x4352x128_0_1_2 (broadcastInDim S1x1x128 ![2] bcast_S128_S1x1x128_2 (shapeCast _ g shapeCasts_S1x128_S128)))

/-- The queries, a head at a time. -/
def HQ (z : FVec Ideal S4x4352x256 .f32) (cs sn : FVec Ideal S4352x1280 .f32) (wq wr : FVec Ideal S256x512 .bf16) : FVec Ideal S4x4352x4x128 .f32 :=
  addf (mulf (shapeCast S4x4352x4x128 (Host.dotGeneral dot_S4x4352x256_S256x512_S4x4352x512_2_0_01_1_n_n none z (extf .f32 wq bitsLt_bf16_f32)) shapeCasts_S4x4352x512_S4x4352x4x128) (broadcastInDim S4x4352x4x128 ![0, 1, 2, 3] bcast_S1x4352x1x128_S4x4352x4x128_0_1_2_3 (broadcastInDim S1x4352x1x128 ![1, 2, 3] bcast_S4352x1x128_S1x4352x1x128_1_2_3 (broadcastInDim S4352x1x128 ![0, 2] bcast_S4352x128_S4352x1x128_0_2 (extractStridedSlice S4352x128 ![0, 640] cs slices_S4352x1280_S4352x128_0_640))))) (mulf (shapeCast S4x4352x4x128 (Host.dotGeneral dot_S4x4352x256_S256x512_S4x4352x512_2_0_01_1_n_n none z (extf .f32 wr bitsLt_bf16_f32)) shapeCasts_S4x4352x512_S4x4352x4x128) (broadcastInDim S4x4352x4x128 ![0, 1, 2, 3] bcast_S1x4352x1x128_S4x4352x4x128_0_1_2_3 (broadcastInDim S1x4352x1x128 ![1, 2, 3] bcast_S4352x1x128_S1x4352x1x128_1_2_3 (broadcastInDim S4352x1x128 ![0, 2] bcast_S4352x128_S4352x1x128_0_2 (extractStridedSlice S4352x128 ![0, 640] sn slices_S4352x1280_S4352x128_0_640)))))

/-- The keys. -/
def HK (z k : FVec Ideal S4x4352x128 .f32) (wk : FVec Ideal S128x512 .bf16) : FVec Ideal S4x4352x4x128 .f32 :=
  addf (shapeCast S4x4352x4x128 (Host.dotGeneral dot_S4x4352x128_S128x512_S4x4352x512_2_0_01_1_n_n none z (extf .f32 wk bitsLt_bf16_f32)) shapeCasts_S4x4352x512_S4x4352x4x128) (broadcastInDim S4x4352x4x128 ![0, 1, 2, 3] bcast_S4x4352x1x128_S4x4352x4x128_0_1_2_3 (broadcastInDim S4x4352x1x128 ![0, 1, 3] bcast_S4x4352x128_S4x4352x1x128_0_1_3 k))

/-- The values. -/
def VV (z : FVec Ideal S4x4352x128 .f32) (wv : FVec Ideal S128x256 .bf16) : FVec Ideal S4x4352x256 .f32 :=
  Host.dotGeneral dot_S4x4352x128_S128x256_S4x4352x256_2_0_01_1_n_n none z (extf .f32 wv bitsLt_bf16_f32)

/-- The first result: stream `h`, modulation `p`, gain `g`, projection `w`, rotary tables `cs sn`. -/
def REFA (h : FVec Ideal S4x4352x1024 .f32) (p : FVec Ideal S4x2x8x1024 .f32) (g : FVec Ideal S1x1024 .f32) (w : FVec Ideal S4x1024x4736 .bf16) (cs sn : FVec Ideal S4352x1280 .f32) : FVec Ideal S17408x768 .bf16 :=
  truncf .bf16 (shapeCast _ (RA (PROJ (U h p g) w) cs sn) shapeCasts_S4x4352x768_S17408x768) bitsLt_bf16_f32

/-- The second. -/
def REFB (h : FVec Ideal S4x4352x1024 .f32) (p : FVec Ideal S4x2x8x1024 .f32) (g : FVec Ideal S1x1024 .f32) (w : FVec Ideal S4x1024x4736 .bf16) : FVec Ideal S17408x1152 .f32 :=
  shapeCast _ (extractStridedSlice S4x4352x1152 ![0, 0, 768] (PROJ (U h p g) w) slices_S4x4352x4736_S4x4352x1152_0_0_768) shapeCasts_S4x4352x1152_S17408x1152

/-- The queries' rows: norm's gain `qn`, weights `wq` and their rotated `wr`. -/
def REFQ (h : FVec Ideal S4x4352x1024 .f32) (p : FVec Ideal S4x2x8x1024 .f32) (g : FVec Ideal S1x1024 .f32) (w : FVec Ideal S4x1024x4736 .bf16) (cs sn : FVec Ideal S4352x1280 .f32) (qn : FVec Ideal S1x256 .f32) (wq wr : FVec Ideal S256x512 .bf16) : FVec Ideal S17408x512 .bf16 :=
  truncf .bf16 (shapeCast _ (HQ (NQ (PROJ (U h p g) w) qn) cs sn wq wr) shapeCasts_S4x4352x4x128_S17408x512) bitsLt_bf16_f32

/-- The keys' rows. -/
def REFK (h : FVec Ideal S4x4352x1024 .f32) (p : FVec Ideal S4x2x8x1024 .f32) (g : FVec Ideal S1x1024 .f32) (w : FVec Ideal S4x1024x4736 .bf16) (cs sn : FVec Ideal S4352x1280 .f32) (kn : FVec Ideal S1x128 .f32) (wk : FVec Ideal S128x512 .bf16) : FVec Ideal S17408x512 .bf16 :=
  truncf .bf16 (shapeCast _ (HK (NK (PROJ (U h p g) w) kn) (KR (PROJ (U h p g) w) cs sn) wk) shapeCasts_S4x4352x4x128_S17408x512) bitsLt_bf16_f32

/-- The values' rows. -/
def REFV (h : FVec Ideal S4x4352x1024 .f32) (p : FVec Ideal S4x2x8x1024 .f32) (g : FVec Ideal S1x1024 .f32) (w : FVec Ideal S4x1024x4736 .bf16) (kn : FVec Ideal S1x128 .f32) (wv : FVec Ideal S128x256 .bf16) : FVec Ideal S17408x256 .bf16 :=
  truncf .bf16 (shapeCast _ (VV (NK (PROJ (U h p g) w) kn) wv) shapeCasts_S4x4352x256_S17408x256) bitsLt_bf16_f32

/-- The sixth. -/
def REFD (h : FVec Ideal S4x4352x1024 .f32) (p : FVec Ideal S4x2x8x1024 .f32) (g : FVec Ideal S1x1024 .f32) (w : FVec Ideal S4x1024x4736 .bf16) (cs sn : FVec Ideal S4352x1280 .f32) : FVec Ideal S17408x1024 .f32 :=
  shapeCast _ (RD (PROJ (U h p g) w) cs sn) shapeCasts_S4x4352x1024_S17408x1024

/-- The run's results are those functions of the arguments. -/
theorem res_a (m : (ℓ : Loc nD τ sig) → Buf (Elt Ideal) ℓ) (c : Dev nD) : Value.res_out0 m c
    = REFA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := rfl

theorem res_b (m : (ℓ : Loc nD τ sig) → Buf (Elt Ideal) ℓ) (c : Dev nD) : Value.res_out1 m c
    = REFB (m ((c.tc : Thread nD τ).loc main_arg0)) (m ((c.tc : Thread nD τ).loc main_arg1)) (m ((c.tc : Thread nD τ).loc main_arg2)) (m ((c.tc : Thread nD τ).loc main_arg3)) := rfl

theorem res_q (m : (ℓ : Loc nD τ sig) → Buf (Elt Ideal) ℓ) (c : Dev nD) : Value.res_out2 m c
    = REFQ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg8)) (m ((c.tc : Thread nD τ).loc main_arg9)) := rfl

theorem res_k (m : (ℓ : Loc nD τ sig) → Buf (Elt Ideal) ℓ) (c : Dev nD) : Value.res_out3 m c
    = REFK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg10)) := rfl

theorem res_v (m : (ℓ : Loc nD τ sig) → Buf (Elt Ideal) ℓ) (c : Dev nD) : Value.res_out4 m c
    = REFV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg11)) := rfl

theorem res_d (m : (ℓ : Loc nD τ sig) → Buf (Elt Ideal) ℓ) (c : Dev nD) : Value.res_out5 m c
    = REFD (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := rfl

theorem VC_at (h : FVec Ideal S4x256x1024 .f32) (g : FVec Ideal S1x1024 .f32) (p : FVec Ideal S4x2x8x1024 .f32) (i : Fin 4) (l : Fin 256) (e : Fin 1024) :
    VC h g p (ix3 i l e) = nrm (fun d => h (ix3 i l d)) (g (ix2 0 e)) (p (ix4 i 0 1 e)) (p (ix4 i 0 0 e)) e := by
  pointwise [VC, nrm]

theorem VX_at (h : FVec Ideal S4x4096x1024 .f32) (g : FVec Ideal S1x1024 .f32) (p : FVec Ideal S4x2x8x1024 .f32) (i : Fin 4) (l : Fin 4096) (e : Fin 1024) :
    VX h g p (ix3 i l e) = nrm (fun d => h (ix3 i l d)) (g (ix2 0 e)) (p (ix4 i 1 1 e)) (p (ix4 i 1 0 e)) e := by
  pointwise [VX, nrm]

theorem JOIN_at (a : FVec Ideal S4x256x1024 .f32) (b : FVec Ideal S4x4096x1024 .f32) (i : Fin 4) (l : Fin 4352) (e : Fin 1024) :
    concatenate S4x4352x1024 1 [⟨S4x256x1024, a⟩, ⟨S4x4096x1024, b⟩] concatenates_S4x256x1024_S4x4096x1024_S4x4352x1024_d1 (ix3 i l e)
      = if h : (l : ℕ) < 256 then a (ix3 i ⟨l, h⟩ e) else b (ix3 i ⟨l - 256, by omega⟩ e) := by
  pointwise []

theorem HEAD_at (h : FVec Ideal S4x4352x1024 .f32) (i : Fin 4) (l : Fin 256) (e : Fin 1024) :
    extractStridedSlice S4x256x1024 ![0, 0, 0] h slices_S4x4352x1024_S4x256x1024_0_0_0 (ix3 i l e) = h (ix3 i ⟨l, by omega⟩ e) := by
  pointwise []

theorem TAIL_at (h : FVec Ideal S4x4352x1024 .f32) (i : Fin 4) (l : Fin 4096) (e : Fin 1024) :
    extractStridedSlice S4x4096x1024 ![0, 256, 0] h slices_S4x4352x1024_S4x4096x1024_0_256_0 (ix3 i l e) = h (ix3 i ⟨256 + l, by omega⟩ e) := by
  pointwise []

/-- Row `R` of the modulated norm. -/
def un (h : FVec Ideal S4x4352x1024 .f32) (p : FVec Ideal S4x2x8x1024 .f32) (g : FVec Ideal S1x1024 .f32) (R : Fin 17408) (d : Fin 1024) : EReal :=
  nrm (fun k => h (ix3 ⟨↑R / 4352, by omega⟩ ⟨↑R % 4352, by omega⟩ k)) (g (ix2 0 d)) (par p 1 R d) (par p 0 R d) d

theorem U_at (h : FVec Ideal S4x4352x1024 .f32) (p : FVec Ideal S4x2x8x1024 .f32) (g : FVec Ideal S1x1024 .f32) (R : Fin 17408) (d : Fin 1024) :
    U h p g (ix3 ⟨↑R / 4352, by omega⟩ ⟨↑R % 4352, by omega⟩ d) = un h p g R d := by
  unfold U un par
  rw [JOIN_at]
  by_cases hR : (R : ℕ) % 4352 < 256
  · rw [dif_pos hR, if_pos hR, VC_at]
    simp only [HEAD_at]
  · rw [dif_neg hR, if_neg hR, VX_at]
    simp only [TAIL_at]
    refine congrArg (fun f => nrm f _ _ _ d) (funext fun k => congrArg (fun l => h (ix3 _ l k)) (Fin.ext (by dsimp only; omega)))

theorem PROJ_at (u : FVec Ideal S4x4352x1024 .f32) (w : FVec Ideal S4x1024x4736 .bf16) (i : Fin 4) (l : Fin 4352) (o : Fin 4736) :
    PROJ u w (ix3 i l o) = ∑ d : Fin 1024, u (ix3 i l d) * w (ix3 0 d o) := by
  pointwise [PROJ]

/-- Row `R` of the projection. -/
def pr (h : FVec Ideal S4x4352x1024 .f32) (p : FVec Ideal S4x2x8x1024 .f32) (g : FVec Ideal S1x1024 .f32) (w : FVec Ideal S4x1024x4736 .bf16) (R : Fin 17408) (o : Fin 4736) : EReal := ∑ d : Fin 1024, un h p g R d * w (ix3 0 d o)

theorem pr_eq (h : FVec Ideal S4x4352x1024 .f32) (p : FVec Ideal S4x2x8x1024 .f32) (g : FVec Ideal S1x1024 .f32) (w : FVec Ideal S4x1024x4736 .bf16) (R : Fin 17408) (o : Fin 4736) :
    PROJ (U h p g) w (ix3 ⟨↑R / 4352, by omega⟩ ⟨↑R % 4352, by omega⟩ o) = pr h p g w R o := by
  rw [PROJ_at]
  exact Finset.sum_congr rfl fun d _ => congrArg (· * _) (U_at h p g R d)

theorem RA_rotated (y : FVec Ideal S4x4352x4736 .f32) (cs sn : FVec Ideal S4352x1280 .f32) (i : Fin 4) (l : Fin 4352) (e : Fin 640) : RA y cs sn (ix3 i l ⟨e, by omega⟩)
    = y (ix3 i l ⟨e, by omega⟩) * cs (ix2 l ⟨e, by omega⟩) + y (ix3 i l ⟨3456 + e, by omega⟩) * sn (ix2 l ⟨e, by omega⟩) := by
  pointwise [RA]

theorem RA_plain (y : FVec Ideal S4x4352x4736 .f32) (cs sn : FVec Ideal S4352x1280 .f32) (i : Fin 4) (l : Fin 4352) (e : Fin 128) : RA y cs sn (ix3 i l ⟨640 + e, by omega⟩) = y (ix3 i l ⟨640 + e, by omega⟩) := by
  pointwise [RA]

theorem RD_rotated (y : FVec Ideal S4x4352x4736 .f32) (cs sn : FVec Ideal S4352x1280 .f32) (i : Fin 4) (l : Fin 4352) (e : Fin 512) : RD y cs sn (ix3 i l ⟨e, by omega⟩)
    = y (ix3 i l ⟨2432 + e, by omega⟩) * cs (ix2 l ⟨768 + e, by omega⟩) + y (ix3 i l ⟨4224 + e, by omega⟩) * sn (ix2 l ⟨768 + e, by omega⟩) := by
  pointwise [RD]

theorem RD_plain (y : FVec Ideal S4x4352x4736 .f32) (cs sn : FVec Ideal S4352x1280 .f32) (i : Fin 4) (l : Fin 4352) (e : Fin 512) : RD y cs sn (ix3 i l ⟨512 + e, by omega⟩) = y (ix3 i l ⟨2944 + e, by omega⟩) := by
  pointwise [RD]

theorem KR_at (y : FVec Ideal S4x4352x4736 .f32) (cs sn : FVec Ideal S4352x1280 .f32) (i : Fin 4) (l : Fin 4352) (e : Fin 128) : KR y cs sn (ix3 i l e)
    = y (ix3 i l ⟨2304 + e, by omega⟩) * cs (ix2 l ⟨640 + e, by omega⟩) + y (ix3 i l ⟨4096 + e, by omega⟩) * sn (ix2 l ⟨640 + e, by omega⟩) := by
  pointwise [KR]

/-- A row over its root mean square, times the gain `g`, at channel `e`; `N` is the row's length as a number's bits. -/
def rn {n : ℕ} (N : BitVec 32) (h : Fin n → EReal) (g : EReal) (e : Fin n) : EReal :=
  h e * Ideal.rsqrt (Ideal.div (∑ d, h d * h d) (Ideal.ofBits .f32 N) + Ideal.ofBits .f32 0x358637BD#32) * g

theorem NQ_at (y : FVec Ideal S4x4352x4736 .f32) (g : FVec Ideal S1x256 .f32) (i : Fin 4) (l : Fin 4352) (e : Fin 256) :
    NQ y g (ix3 i l e) = rn 0x43800000#32 (fun k : Fin 256 => y (ix3 i l ⟨1920 + k, by omega⟩)) (g (ix2 0 e)) e := by
  pointwise [NQ, rn]

theorem NK_at (y : FVec Ideal S4x4352x4736 .f32) (g : FVec Ideal S1x128 .f32) (i : Fin 4) (l : Fin 4352) (e : Fin 128) :
    NK y g (ix3 i l e) = rn 0x43000000#32 (fun k : Fin 128 => y (ix3 i l ⟨2176 + k, by omega⟩)) (g (ix2 0 e)) e := by
  pointwise [NK, rn]

theorem HQ_at (z : FVec Ideal S4x4352x256 .f32) (cs sn : FVec Ideal S4352x1280 .f32) (wq wr : FVec Ideal S256x512 .bf16) (i : Fin 4) (l : Fin 4352) (j : Fin 4) (t : Fin 128) : HQ z cs sn wq wr (ix4 i l j t)
    = (∑ k : Fin 256, z (ix3 i l k) * wq (ix2 k ⟨j * 128 + t, by omega⟩)) * cs (ix2 l ⟨640 + t, by omega⟩)
      + (∑ k : Fin 256, z (ix3 i l k) * wr (ix2 k ⟨j * 128 + t, by omega⟩)) * sn (ix2 l ⟨640 + t, by omega⟩) := by
  pointwise [HQ]

theorem HK_at (z k : FVec Ideal S4x4352x128 .f32) (wk : FVec Ideal S128x512 .bf16) (i : Fin 4) (l : Fin 4352) (j : Fin 4) (t : Fin 128) : HK z k wk (ix4 i l j t)
    = (∑ d : Fin 128, z (ix3 i l d) * wk (ix2 d ⟨j * 128 + t, by omega⟩)) + k (ix3 i l t) := by
  pointwise [HK]

theorem VV_at (z : FVec Ideal S4x4352x128 .f32) (wv : FVec Ideal S128x256 .bf16) (i : Fin 4) (l : Fin 4352) (e : Fin 256) :
    VV z wv (ix3 i l e) = ∑ d : Fin 128, z (ix3 i l d) * wv (ix2 d e) := by
  pointwise [VV]

/-- Rows of heads as rows, at column `128 j + t`. -/
theorem heads_at (z : FVec Ideal S4x4352x4x128 .f32) (R : Fin 17408) (e : Fin 512) :
    (truncf .bf16 (shapeCast S17408x512 z shapeCasts_S4x4352x4x128_S17408x512) bitsLt_bf16_f32 : FVec Ideal S17408x512 .bf16) (ix2 R e)
      = z (ix4 ⟨↑R / 4352, by omega⟩ ⟨↑R % 4352, by omega⟩ ⟨↑e / 128, by omega⟩ ⟨↑e % 128, by omega⟩) := by
  pointwise []

theorem REFA_flat (h : FVec Ideal S4x4352x1024 .f32) (p : FVec Ideal S4x2x8x1024 .f32) (g : FVec Ideal S1x1024 .f32) (w : FVec Ideal S4x1024x4736 .bf16) (cs sn : FVec Ideal S4352x1280 .f32) (R : Fin 17408) (e : Fin 768) : REFA h p g w cs sn (ix2 R e) = RA (PROJ (U h p g) w) cs sn (ix3 ⟨↑R / 4352, by omega⟩ ⟨↑R % 4352, by omega⟩ e) := by
  unfold REFA
  generalize RA (PROJ (U h p g) w) cs sn = z
  pointwise []

theorem REFA_rotated (h : FVec Ideal S4x4352x1024 .f32) (p : FVec Ideal S4x2x8x1024 .f32) (g : FVec Ideal S1x1024 .f32) (w : FVec Ideal S4x1024x4736 .bf16) (cs sn : FVec Ideal S4352x1280 .f32) (R : Fin 17408) (e : Fin 640) : REFA h p g w cs sn (ix2 R ⟨e, by omega⟩)
    = pr h p g w R ⟨e, by omega⟩ * cs (ix2 ⟨↑R % 4352, by omega⟩ ⟨e, by omega⟩) + pr h p g w R ⟨3456 + e, by omega⟩ * sn (ix2 ⟨↑R % 4352, by omega⟩ ⟨e, by omega⟩) := by
  rw [REFA_flat, RA_rotated, pr_eq, pr_eq]

theorem REFA_plain (h : FVec Ideal S4x4352x1024 .f32) (p : FVec Ideal S4x2x8x1024 .f32) (g : FVec Ideal S1x1024 .f32) (w : FVec Ideal S4x1024x4736 .bf16) (cs sn : FVec Ideal S4352x1280 .f32) (R : Fin 17408) (e : Fin 128) : REFA h p g w cs sn (ix2 R ⟨640 + e, by omega⟩) = pr h p g w R ⟨640 + e, by omega⟩ := by
  rw [REFA_flat, RA_plain, pr_eq]

theorem REFB_at (h : FVec Ideal S4x4352x1024 .f32) (p : FVec Ideal S4x2x8x1024 .f32) (g : FVec Ideal S1x1024 .f32) (w : FVec Ideal S4x1024x4736 .bf16) (R : Fin 17408) (e : Fin 1152) : REFB h p g w (ix2 R e) = pr h p g w R ⟨768 + e, by omega⟩ := by
  rw [← pr_eq]
  unfold REFB
  generalize PROJ (U h p g) w = z
  pointwise []

theorem REFD_flat (h : FVec Ideal S4x4352x1024 .f32) (p : FVec Ideal S4x2x8x1024 .f32) (g : FVec Ideal S1x1024 .f32) (w : FVec Ideal S4x1024x4736 .bf16) (cs sn : FVec Ideal S4352x1280 .f32) (R : Fin 17408) (e : Fin 1024) : REFD h p g w cs sn (ix2 R e) = RD (PROJ (U h p g) w) cs sn (ix3 ⟨↑R / 4352, by omega⟩ ⟨↑R % 4352, by omega⟩ e) := by
  unfold REFD
  generalize RD (PROJ (U h p g) w) cs sn = z
  pointwise []

theorem REFD_rotated (h : FVec Ideal S4x4352x1024 .f32) (p : FVec Ideal S4x2x8x1024 .f32) (g : FVec Ideal S1x1024 .f32) (w : FVec Ideal S4x1024x4736 .bf16) (cs sn : FVec Ideal S4352x1280 .f32) (R : Fin 17408) (e : Fin 512) : REFD h p g w cs sn (ix2 R ⟨e, by omega⟩)
    = pr h p g w R ⟨2432 + e, by omega⟩ * cs (ix2 ⟨↑R % 4352, by omega⟩ ⟨768 + e, by omega⟩)
      + pr h p g w R ⟨4224 + e, by omega⟩ * sn (ix2 ⟨↑R % 4352, by omega⟩ ⟨768 + e, by omega⟩) := by
  rw [REFD_flat, RD_rotated, pr_eq, pr_eq]

theorem REFD_plain (h : FVec Ideal S4x4352x1024 .f32) (p : FVec Ideal S4x2x8x1024 .f32) (g : FVec Ideal S1x1024 .f32) (w : FVec Ideal S4x1024x4736 .bf16) (cs sn : FVec Ideal S4352x1280 .f32) (R : Fin 17408) (e : Fin 512) : REFD h p g w cs sn (ix2 R ⟨512 + e, by omega⟩) = pr h p g w R ⟨2944 + e, by omega⟩ := by
  rw [REFD_flat, RD_plain, pr_eq]

/-- Row `R` of the normed query latents. -/
def nq (h : FVec Ideal S4x4352x1024 .f32) (p : FVec Ideal S4x2x8x1024 .f32) (g : FVec Ideal S1x1024 .f32) (w : FVec Ideal S4x1024x4736 .bf16) (qn : FVec Ideal S1x256 .f32) (R : Fin 17408) (k : Fin 256) : EReal :=
  rn 0x43800000#32 (fun k : Fin 256 => pr h p g w R ⟨1920 + k, by omega⟩) (qn (ix2 0 k)) k

/-- Of the normed key and value latents. -/
def nk (h : FVec Ideal S4x4352x1024 .f32) (p : FVec Ideal S4x2x8x1024 .f32) (g : FVec Ideal S1x1024 .f32) (w : FVec Ideal S4x1024x4736 .bf16) (kn : FVec Ideal S1x128 .f32) (R : Fin 17408) (k : Fin 128) : EReal :=
  rn 0x43000000#32 (fun k : Fin 128 => pr h p g w R ⟨2176 + k, by omega⟩) (kn (ix2 0 k)) k

theorem nq_eq (h : FVec Ideal S4x4352x1024 .f32) (p : FVec Ideal S4x2x8x1024 .f32) (g : FVec Ideal S1x1024 .f32) (w : FVec Ideal S4x1024x4736 .bf16) (qn : FVec Ideal S1x256 .f32) (R : Fin 17408) (k : Fin 256) : NQ (PROJ (U h p g) w) qn (ix3 ⟨↑R / 4352, by omega⟩ ⟨↑R % 4352, by omega⟩ k) = nq h p g w qn R k := by
  rw [NQ_at]
  simp only [pr_eq]
  rfl

theorem nk_eq (h : FVec Ideal S4x4352x1024 .f32) (p : FVec Ideal S4x2x8x1024 .f32) (g : FVec Ideal S1x1024 .f32) (w : FVec Ideal S4x1024x4736 .bf16) (kn : FVec Ideal S1x128 .f32) (R : Fin 17408) (k : Fin 128) : NK (PROJ (U h p g) w) kn (ix3 ⟨↑R / 4352, by omega⟩ ⟨↑R % 4352, by omega⟩ k) = nk h p g w kn R k := by
  rw [NK_at]
  simp only [pr_eq]
  rfl

theorem REFQ_at (h : FVec Ideal S4x4352x1024 .f32) (p : FVec Ideal S4x2x8x1024 .f32) (g : FVec Ideal S1x1024 .f32) (w : FVec Ideal S4x1024x4736 .bf16) (cs sn : FVec Ideal S4352x1280 .f32) (qn : FVec Ideal S1x256 .f32) (wq wr : FVec Ideal S256x512 .bf16) (R : Fin 17408) (e : Fin 512) : REFQ h p g w cs sn qn wq wr (ix2 R e)
    = (∑ k : Fin 256, nq h p g w qn R k * wq (ix2 k e)) * cs (ix2 ⟨↑R % 4352, by omega⟩ ⟨640 + ↑e % 128, by omega⟩)
      + (∑ k : Fin 256, nq h p g w qn R k * wr (ix2 k e)) * sn (ix2 ⟨↑R % 4352, by omega⟩ ⟨640 + ↑e % 128, by omega⟩) := by
  unfold REFQ
  rw [heads_at, HQ_at]
  have he : (⟨↑e / 128 * 128 + ↑e % 128, by omega⟩ : Fin 512) = e := Fin.ext (by dsimp only; omega)
  simp only [nq_eq, he]

theorem REFK_at (h : FVec Ideal S4x4352x1024 .f32) (p : FVec Ideal S4x2x8x1024 .f32) (g : FVec Ideal S1x1024 .f32) (w : FVec Ideal S4x1024x4736 .bf16) (cs sn : FVec Ideal S4352x1280 .f32) (kn : FVec Ideal S1x128 .f32) (wk : FVec Ideal S128x512 .bf16) (R : Fin 17408) (e : Fin 512) : REFK h p g w cs sn kn wk (ix2 R e)
    = (∑ k : Fin 128, nk h p g w kn R k * wk (ix2 k e))
      + (pr h p g w R ⟨2304 + ↑e % 128, by omega⟩ * cs (ix2 ⟨↑R % 4352, by omega⟩ ⟨640 + ↑e % 128, by omega⟩)
        + pr h p g w R ⟨4096 + ↑e % 128, by omega⟩ * sn (ix2 ⟨↑R % 4352, by omega⟩ ⟨640 + ↑e % 128, by omega⟩)) := by
  unfold REFK
  rw [heads_at, HK_at, KR_at]
  have he : (⟨↑e / 128 * 128 + ↑e % 128, by omega⟩ : Fin 512) = e := Fin.ext (by dsimp only; omega)
  simp only [nk_eq, he, pr_eq]

theorem REFV_at (h : FVec Ideal S4x4352x1024 .f32) (p : FVec Ideal S4x2x8x1024 .f32) (g : FVec Ideal S1x1024 .f32) (w : FVec Ideal S4x1024x4736 .bf16) (kn : FVec Ideal S1x128 .f32) (wv : FVec Ideal S128x256 .bf16) (R : Fin 17408) (e : Fin 256) : REFV h p g w kn wv (ix2 R e)
    = ∑ k : Fin 128, nk h p g w kn R k * wv (ix2 k e) := by
  have hz : REFV h p g w kn wv (ix2 R e) = VV (NK (PROJ (U h p g) w) kn) wv (ix3 ⟨↑R / 4352, by omega⟩ ⟨↑R % 4352, by omega⟩ e) := by
    unfold REFV
    generalize VV (NK (PROJ (U h p g) w) kn) wv = z
    pointwise []
  rw [hz, VV_at]
  simp only [nk_eq]

end Cert.InRefIdeal.Term

end
-- ==== Proof.InPay.lean ====
/-
  The input projection's kernel: what its body computes, read at an index.
-/
module

public import proofs.«01_k».proof.Proof.Gen.InIdeal.Skeleton
public import proofs.«01_k».proof.Proof.InRef
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.InIdeal.Result

open Cert.InIdeal Cert.InIdeal.Gen
open Cert.OutRefIdeal.Term (nrm)
open Cert.InRefIdeal.Term (rn)

/-- The modulated norm of the block's first 256 rows. -/
theorem u_upper (h : Vec Ideal S512x1024 .f32) (g : Vec Ideal S1x1024 .f32) (s t s' t' : Vec Ideal S1x1x1x1024 .f32) (r : Fin 256) (d : Fin 1024) :
    k0_pay5 (F := Ideal) (k0_pay3 h g s t) (k0_pay4 h g s') t' (ix2 ⟨r, by omega⟩ d)
      = nrm (fun k => h (ix2 ⟨r, by omega⟩ k)) (g (ix2 0 d)) (s (ix4 0 0 0 d)) (t (ix4 0 0 0 d)) d := by
  pointwise [k0_pay5, k0_pay4, k0_pay3, k0_pay2, nrm]

/-- Of the other 256. -/
theorem u_lower (h : Vec Ideal S512x1024 .f32) (g : Vec Ideal S1x1024 .f32) (s t s' t' : Vec Ideal S1x1x1x1024 .f32) (r : Fin 256) (d : Fin 1024) :
    k0_pay5 (F := Ideal) (k0_pay3 h g s t) (k0_pay4 h g s') t' (ix2 ⟨256 + r, by omega⟩ d)
      = nrm (fun k => h (ix2 ⟨256 + r, by omega⟩ k)) (g (ix2 0 d)) (s' (ix4 0 0 0 d)) (t' (ix4 0 0 0 d)) d := by
  pointwise [k0_pay5, k0_pay4, k0_pay3, k0_pay2, nrm]

section Product

variable (a b : FVec Ideal S256x1024 .f32) (q : Vec Ideal S1x1x1x1024 .f32) (r : Fin 512)

theorem prod_a (w : Vec Ideal S1x1024x768 .bf16) (e : Fin 768) : k0_pay6 (F := Ideal) a b q w (ix2 r e)
    = ∑ d : Fin 1024, k0_pay5 (F := Ideal) a b q (ix2 r d) * w (ix3 0 d e) := by
  unfold k0_pay6
  generalize k0_pay5 (F := Ideal) a b q = u
  pointwise []

theorem prod_a_rot (w : Vec Ideal S1x1024x640 .bf16) (e : Fin 640) : k0_pay7 (F := Ideal) a b q w (ix2 r e)
    = ∑ d : Fin 1024, k0_pay5 (F := Ideal) a b q (ix2 r d) * w (ix3 0 d e) := by
  unfold k0_pay7
  generalize k0_pay5 (F := Ideal) a b q = u
  pointwise []

theorem prod_b (w : Vec Ideal S1x1024x1152 .bf16) (e : Fin 1152) : k0_pay8 (F := Ideal) a b q w (ix2 r e)
    = ∑ d : Fin 1024, k0_pay5 (F := Ideal) a b q (ix2 r d) * w (ix3 0 d e) := by
  unfold k0_pay8
  generalize k0_pay5 (F := Ideal) a b q = u
  pointwise []

theorem prod_c (w : Vec Ideal S1x1024x512 .bf16) (e : Fin 512) : k0_pay9 (F := Ideal) a b q w (ix2 r e)
    = ∑ d : Fin 1024, k0_pay5 (F := Ideal) a b q (ix2 r d) * w (ix3 0 d e) := by
  unfold k0_pay9
  generalize k0_pay5 (F := Ideal) a b q = u
  pointwise []

theorem prod_c_rot (w : Vec Ideal S1x1024x128 .bf16) (e : Fin 128) : k0_pay10 (F := Ideal) a b q w (ix2 r e)
    = ∑ d : Fin 1024, k0_pay5 (F := Ideal) a b q (ix2 r d) * w (ix3 0 d e) := by
  unfold k0_pay10
  generalize k0_pay5 (F := Ideal) a b q = u
  pointwise []

theorem prod_d (w : Vec Ideal S1x1024x1024 .bf16) (e : Fin 1024) : k0_pay11 (F := Ideal) a b q w (ix2 r e)
    = ∑ d : Fin 1024, k0_pay5 (F := Ideal) a b q (ix2 r d) * w (ix3 0 d e) := by
  unfold k0_pay11
  generalize k0_pay5 (F := Ideal) a b q = u
  pointwise []

theorem prod_d_rot (w : Vec Ideal S1x1024x512 .bf16) (e : Fin 512) : k0_pay12 (F := Ideal) a b q w (ix2 r e)
    = ∑ d : Fin 1024, k0_pay5 (F := Ideal) a b q (ix2 r d) * w (ix3 0 d e) := by
  unfold k0_pay12
  generalize k0_pay5 (F := Ideal) a b q = u
  pointwise []

theorem plain_a (w : Vec Ideal S1x1024x768 .bf16) (e : Fin 128) : k0_pay13 (F := Ideal) a b q w (ix2 r e)
    = k0_pay6 (F := Ideal) a b q w (ix2 r ⟨640 + e, by omega⟩) := by
  unfold k0_pay13
  generalize k0_pay6 (F := Ideal) a b q w = u
  pointwise []

end Product

theorem plain_d (x : FVec Ideal S512x1024 .f32) (r e : Fin 512) : k0_pay14 (F := Ideal) x (ix2 r e) = x (ix2 r ⟨512 + e, by omega⟩) := by
  pointwise [k0_pay14]

/-- The rotated columns, of the block's first 256 rows and of the other 256. -/
theorem rot_a_upper (x : FVec Ideal S512x768 .f32) (y : FVec Ideal S512x640 .f32) (c s : Vec Ideal S256x640 .f32) (r : Fin 256) (e : Fin 640) :
    k0_pay21 (F := Ideal) x y c s (ix2 r e)
      = x (ix2 ⟨r, by omega⟩ ⟨e, by omega⟩) * c (ix2 r e) + y (ix2 ⟨r, by omega⟩ e) * s (ix2 r e) := by
  pointwise [k0_pay21]

theorem rot_a_lower (x : FVec Ideal S512x768 .f32) (y : FVec Ideal S512x640 .f32) (c s : Vec Ideal S256x640 .f32) (r : Fin 256) (e : Fin 640) :
    k0_pay25 (F := Ideal) x y c s (ix2 r e)
      = x (ix2 ⟨256 + r, by omega⟩ ⟨e, by omega⟩) * c (ix2 r e) + y (ix2 ⟨256 + r, by omega⟩ e) * s (ix2 r e) := by
  pointwise [k0_pay25]

theorem rot_d_upper (x : FVec Ideal S512x1024 .f32) (y : FVec Ideal S512x512 .f32) (c s : Vec Ideal S256x512 .f32) (r : Fin 256) (e : Fin 512) :
    k0_pay24 (F := Ideal) x y c s (ix2 r e)
      = x (ix2 ⟨r, by omega⟩ ⟨e, by omega⟩) * c (ix2 r e) + y (ix2 ⟨r, by omega⟩ e) * s (ix2 r e) := by
  pointwise [k0_pay24]

theorem rot_d_lower (x : FVec Ideal S512x1024 .f32) (y : FVec Ideal S512x512 .f32) (c s : Vec Ideal S256x512 .f32) (r : Fin 256) (e : Fin 512) :
    k0_pay1 (F := Ideal) x y c s (ix2 r e)
      = x (ix2 ⟨256 + r, by omega⟩ ⟨e, by omega⟩) * c (ix2 r e) + y (ix2 ⟨256 + r, by omega⟩ e) * s (ix2 r e) := by
  pointwise [k0_pay1]

/-- The two latents' norms. -/
theorem norm_q (x : FVec Ideal S512x512 .f32) (g : Vec Ideal S1x256 .f32) (r : Fin 512) (k : Fin 256) :
    k0_pay15 (F := Ideal) x g (ix2 r k) = rn 0x43800000#32 (fun j : Fin 256 => x (ix2 r ⟨j, by omega⟩)) (g (ix2 0 k)) k := by
  pointwise [k0_pay15, rn]

theorem norm_k (x : FVec Ideal S512x512 .f32) (g : Vec Ideal S1x128 .f32) (r : Fin 512) (k : Fin 128) :
    k0_pay16 (F := Ideal) x g (ix2 r k) = rn 0x43000000#32 (fun j : Fin 128 => x (ix2 r ⟨256 + j, by omega⟩)) (g (ix2 0 k)) k := by
  pointwise [k0_pay16, rn]

/-- Their products with the heads' weights. -/
theorem head_q (x : FVec Ideal S512x512 .f32) (g : Vec Ideal S1x256 .f32) (w : Vec Ideal S256x512 .bf16) (r e : Fin 512) :
    k0_pay17 (F := Ideal) x g w (ix2 r e) = ∑ k : Fin 256, k0_pay15 (F := Ideal) x g (ix2 r k) * w (ix2 k e) := by
  unfold k0_pay17
  generalize k0_pay15 (F := Ideal) x g = u
  pointwise []

theorem head_q_rot (x : FVec Ideal S512x512 .f32) (g : Vec Ideal S1x256 .f32) (w : Vec Ideal S256x512 .bf16) (r e : Fin 512) :
    k0_pay18 (F := Ideal) x g w (ix2 r e) = ∑ k : Fin 256, k0_pay15 (F := Ideal) x g (ix2 r k) * w (ix2 k e) := by
  unfold k0_pay18
  generalize k0_pay15 (F := Ideal) x g = u
  pointwise []

theorem head_k (z : FVec Ideal S512x128 .bf16) (w : Vec Ideal S128x512 .bf16) (r e : Fin 512) :
    k0_pay19 (F := Ideal) z w (ix2 r e) = ∑ k : Fin 128, z (ix2 r k) * w (ix2 k e) := by
  pointwise [k0_pay19]

theorem head_v (z : FVec Ideal S512x128 .bf16) (w : Vec Ideal S128x256 .bf16) (r : Fin 512) (e : Fin 256) :
    k0_pay20 (F := Ideal) z w (ix2 r e) = ∑ k : Fin 128, z (ix2 r k) * w (ix2 k e) := by
  pointwise [k0_pay20]

/-- The rotated queries and keys. -/
theorem rot_q_upper (x y : FVec Ideal S512x512 .f32) (c s : Vec Ideal S256x128 .f32) (r : Fin 256) (e : Fin 512) :
    k0_pay22 (F := Ideal) x y c s (ix2 r e)
      = x (ix2 ⟨r, by omega⟩ e) * c (ix2 r ⟨e % 128, by omega⟩) + y (ix2 ⟨r, by omega⟩ e) * s (ix2 r ⟨e % 128, by omega⟩) := by
  pointwise [k0_pay22]
  blk_point []

theorem rot_q_lower (x y : FVec Ideal S512x512 .f32) (c s : Vec Ideal S256x128 .f32) (r : Fin 256) (e : Fin 512) :
    k0_pay26 (F := Ideal) x y c s (ix2 r e)
      = x (ix2 ⟨256 + r, by omega⟩ e) * c (ix2 r ⟨e % 128, by omega⟩) + y (ix2 ⟨256 + r, by omega⟩ e) * s (ix2 r ⟨e % 128, by omega⟩) := by
  pointwise [k0_pay26]
  blk_point []

theorem rot_k_upper (x : FVec Ideal S512x512 .f32) (y : FVec Ideal S512x128 .f32) (z : FVec Ideal S512x128 .bf16) (w : Vec Ideal S128x512 .bf16)
    (c s : Vec Ideal S256x128 .f32) (r : Fin 256) (e : Fin 512) :
    k0_pay23 (F := Ideal) x y z w c s (ix2 r e) = k0_pay19 (F := Ideal) z w (ix2 ⟨r, by omega⟩ e)
      + (x (ix2 ⟨r, by omega⟩ ⟨384 + e % 128, by omega⟩) * c (ix2 r ⟨e % 128, by omega⟩)
        + y (ix2 ⟨r, by omega⟩ ⟨e % 128, by omega⟩) * s (ix2 r ⟨e % 128, by omega⟩)) := by
  unfold k0_pay23
  generalize k0_pay19 (F := Ideal) z w = u
  pointwise []
  refine congrArg _ ?_
  blk_point []

theorem rot_k_lower (x : FVec Ideal S512x512 .f32) (y : FVec Ideal S512x128 .f32) (u : FVec Ideal S512x512 .f32)
    (c s : Vec Ideal S256x128 .f32) (r : Fin 256) (e : Fin 512) :
    k0_pay27 (F := Ideal) x y u c s (ix2 r e) = u (ix2 ⟨256 + r, by omega⟩ e)
      + (x (ix2 ⟨256 + r, by omega⟩ ⟨384 + e % 128, by omega⟩) * c (ix2 r ⟨e % 128, by omega⟩)
        + y (ix2 ⟨256 + r, by omega⟩ ⟨e % 128, by omega⟩) * s (ix2 r ⟨e % 128, by omega⟩)) := by
  pointwise [k0_pay27]
  refine congrArg _ ?_
  blk_point []

end Cert.InIdeal.Result

end
-- ==== Proof.InValue.lean ====
/-
  The input projection's kernel: its six result arrays are the reference's functions of the argument arrays.
-/
module

public import proofs.«01_k».proof.Proof.Gen.InIdeal.Value
public import proofs.«01_k».proof.Proof.OutValue
public import proofs.«01_k».proof.Proof.InPay
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InIdeal.Result

open Cert.InIdeal Cert.InIdeal.Gen
open Cert.OutRefIdeal.Term (nrm par)
open Cert.OutIdeal.Result (half cases nrm_congr)
open Cert.InRefIdeal.Term

theorem rn_congr {n : ℕ} {N : BitVec 32} {f f' : Fin n → EReal} {g g' : EReal} (k : Fin n) (ef : f = f') (eg : g = g') : rn N f g k = rn N f' g' k := by
  rw [ef, eg]

variable (m : (ℓ : Loc nD τ sig) → Buf (Elt Ideal) ℓ)

/-- Every window's block at grid point `t`. -/
theorem idx : ∀ t : Fin cfg0.N, win0_0.index t = ![t.val, 0]
    ∧ win0_1.index t = ![2 * t.val / 17, (if 2 * t.val % 17 = 0 then 0 else 1), 0, 0]
    ∧ win0_2.index t = ![(2 * t.val + 1) / 17, (if (2 * t.val + 1) % 17 = 0 then 0 else 1), 0, 0]
    ∧ win0_3.index t = ![0, 0] ∧ win0_4.index t = ![0, 0, 0]
    ∧ win0_5.index t = ![2 * t.val % 17, 0] ∧ win0_6.index t = ![2 * t.val % 17, 0]
    ∧ win0_7.index t = ![(2 * t.val + 1) % 17, 0] ∧ win0_8.index t = ![(2 * t.val + 1) % 17, 0]
    ∧ win0_9.index t = ![0, 0] ∧ win0_10.index t = ![0, 0] ∧ win0_11.index t = ![0, 0] ∧ win0_12.index t = ![0, 0]
    ∧ win0_13.index t = ![0, 0] ∧ win0_14.index t = ![0, 0]
    ∧ win0_15.index t = ![t.val, 0] ∧ win0_16.index t = ![t.val, 0] ∧ win0_17.index t = ![t.val, 0]
    ∧ win0_18.index t = ![t.val, 0] ∧ win0_19.index t = ![t.val, 0] ∧ win0_20.index t = ![t.val, 0] :=
  (by decide +kernel : ∀ t : Fin grid0.N, _)

section Arguments

variable (c : Dev nD)

abbrev A0 : FVec Ideal S4x4352x1024 .f32 := m ((c : Thread nD τ).loc main_arg0)
abbrev A1 : FVec Ideal S4x2x8x1024 .f32 := m ((c : Thread nD τ).loc main_arg1)
abbrev A2 : FVec Ideal S1x1024 .f32 := m ((c : Thread nD τ).loc main_arg2)
abbrev A3 : FVec Ideal S4x1024x4736 .bf16 := m ((c : Thread nD τ).loc main_arg3)
abbrev A4 : FVec Ideal S4352x1280 .f32 := m ((c : Thread nD τ).loc main_arg4)
abbrev A5 : FVec Ideal S4352x1280 .f32 := m ((c : Thread nD τ).loc main_arg5)
abbrev A6 : FVec Ideal S1x256 .f32 := m ((c : Thread nD τ).loc main_arg6)
abbrev A7 : FVec Ideal S1x128 .f32 := m ((c : Thread nD τ).loc main_arg7)
abbrev A8 : FVec Ideal S256x512 .bf16 := m ((c : Thread nD τ).loc main_arg8)
abbrev A9 : FVec Ideal S256x512 .bf16 := m ((c : Thread nD τ).loc main_arg9)
abbrev A10 : FVec Ideal S128x512 .bf16 := m ((c : Thread nD τ).loc main_arg10)
abbrev A11 : FVec Ideal S128x256 .bf16 := m ((c : Thread nD τ).loc main_arg11)

end Arguments

/-- The block's modulation rows are the reference's. -/
theorem par_at (c : Dev nD) (t : Fin cfg0.N) (k : Fin 8) (r : Fin 512) (e : Fin 1024) (R : Fin 17408) (hR : (R : ℕ) = 512 * t.val + r) :
    half (iblk m c 1 t) (iblk m c 2 t) k r e = par (A1 m c) k R e := by
  unfold half par
  have ht : t.val < 34 := lt_of_lt_of_eq t.isLt N_0
  have hi := idx t
  by_cases hr : (r : ℕ) < 256
  · rw [if_pos hr]
    by_cases h : 2 * t.val % 17 = 0
    · rw [if_pos h] at hi
      rw [if_pos (by omega)]
      blk_ext [iblk, V, hi]
    · rw [if_neg h] at hi
      rw [if_neg (by omega)]
      blk_ext [iblk, V, hi]
  · rw [if_neg hr]
    by_cases h : (2 * t.val + 1) % 17 = 0
    · rw [if_pos h] at hi
      rw [if_pos (by omega)]
      blk_ext [iblk, V, hi]
    · rw [if_neg h] at hi
      rw [if_neg (by omega)]
      blk_ext [iblk, V, hi]

/-- The parts of the block's modulated norm, as the kernel's body computes them. -/
abbrev ua (c : Dev nD) (t : Fin cfg0.N) : FVec Ideal S256x1024 .f32 :=
  k0_pay3 (F := Ideal) (iblk m c 0 t) (iblk m c 3 t)
    (View.ld (iblk m c 1 t : Vec Ideal S1x1x8x1024 .f32) (Rect.unit (s := S1x1x8x1024) ![0, 0, 1, 0] ![1, 1, 1, 1024] (by decide)))
    (View.ld (iblk m c 1 t : Vec Ideal S1x1x8x1024 .f32) (Rect.unit (s := S1x1x8x1024) ![0, 0, 0, 0] ![1, 1, 1, 1024] (by decide)))

abbrev uc (c : Dev nD) (t : Fin cfg0.N) : FVec Ideal S256x1024 .f32 :=
  k0_pay4 (F := Ideal) (iblk m c 0 t) (iblk m c 3 t)
    (View.ld (iblk m c 2 t : Vec Ideal S1x1x8x1024 .f32) (Rect.unit (s := S1x1x8x1024) ![0, 0, 1, 0] ![1, 1, 1, 1024] (by decide)))

abbrev uq (c : Dev nD) (t : Fin cfg0.N) : Vec Ideal S1x1x1x1024 .f32 :=
  View.ld (iblk m c 2 t : Vec Ideal S1x1x8x1024 .f32) (Rect.unit (s := S1x1x8x1024) ![0, 0, 0, 0] ![1, 1, 1, 1024] (by decide))

/-- The block's columns `off ..` of the call's weights. -/
abbrev wc (c : Dev nD) (t : Fin cfg0.N) (off n : ℕ)
    (inb : ∀ a, (![0, 0, off] : Fin 3 → ℕ) a + (![1, 1024, n] : Fin 3 → ℕ) a ≤ S1x1024x4736.size a) : (⟨3, ![1, 1024, n]⟩ : Shape).Idx → EReal :=
  View.ld (iblk m c 4 t : Vec Ideal S1x1024x4736 .bf16) (Rect.unit (s := S1x1024x4736) ![0, 0, off] ![1, 1024, n] inb)

/-- The block's modulated norm is the reference's. -/
theorem un_at (c : Dev nD) (t : Fin cfg0.N) (r : Fin 512) (d : Fin 1024) (R : Fin 17408) (hR : (R : ℕ) = 512 * t.val + r) :
    k0_pay5 (F := Ideal) (ua m c t) (uc m c t) (uq m c t) (ix2 r d) = un (A0 m c) (A1 m c) (A2 m c) R d := by
  have ht : t.val < 34 := lt_of_lt_of_eq t.isLt N_0
  have e1 := par_at m c t 1 r d R hR
  have e0 := par_at m c t 0 r d R hR
  unfold un
  rw [← e1, ← e0]
  unfold half
  obtain ⟨a, rfl⟩ | ⟨a, rfl⟩ := cases r
  · have hq : (R : ℕ) = 512 * t.val + a := hR
    rw [if_pos a.isLt, if_pos a.isLt]
    refine (u_upper _ _ _ _ _ _ a d).trans (nrm_congr d (funext fun k => ?_) ?_ ?_ ?_)
    · blk_point [iblk, V, idx t]
    · blk_point [iblk, V, idx t]
    · refine View.ld_unit_apply_of _ _ _ _ _ _ fun i => ?_
      fin_cases i <;> simp
    · refine View.ld_unit_apply_of _ _ _ _ _ _ fun i => ?_
      fin_cases i <;> simp
  · have hq : (R : ℕ) = 512 * t.val + (256 + a) := hR
    rw [if_neg (by dsimp only; omega), if_neg (by dsimp only; omega)]
    refine (u_lower _ _ _ _ _ _ a d).trans (nrm_congr d (funext fun k => ?_) ?_ ?_ ?_)
    · blk_point [iblk, V, idx t]
    · blk_point [iblk, V, idx t]
    · refine View.ld_unit_apply_of _ _ _ _ _ _ fun i => ?_
      fin_cases i <;> simp
    · refine View.ld_unit_apply_of _ _ _ _ _ _ fun i => ?_
      fin_cases i <;> simp

/-- A column of the block's projections is a column of the reference's. -/
theorem col (c : Dev nD) (t : Fin cfg0.N) (off n : ℕ)
    (inb : ∀ a, (![0, 0, off] : Fin 3 → ℕ) a + (![1, 1024, n] : Fin 3 → ℕ) a ≤ S1x1024x4736.size a)
    (r : Fin 512) (R : Fin 17408) (hR : (R : ℕ) = 512 * t.val + r) (e : Fin n)
    (C : Fin 4736) (hC : (C : ℕ) = off + e) :
    ∑ d : Fin 1024, k0_pay5 (F := Ideal) (ua m c t) (uc m c t) (uq m c t) (ix2 r d) * wc m c t off n inb (ix3 0 d e)
      = pr (A0 m c) (A1 m c) (A2 m c) (A3 m c) R C := by
  unfold pr
  refine Finset.sum_congr rfl fun d _ => congrArg₂ (· * ·) (un_at m c t r d R hR) ?_
  refine (View.ld_unit_apply_of _ _ _ _ (ix3 (0 : Fin 1) d e) (ix3 (0 : Fin 1) d C) fun i => ?_).trans ?_
  · fin_cases i <;> simp [hC]
  · blk_point [iblk, V, idx t]

/-- A row of the rotary tables' blocks is the reference's row of the frame. -/
theorem cos_upper (c : Dev nD) (t : Fin cfg0.N) (off n : ℕ) (inb) (a : Fin 256) (e : Fin n) (Q : Fin 4352) (X : Fin 1280)
    (hQ : (Q : ℕ) = (512 * t.val + a) % 4352) (hX : (X : ℕ) = off + e) :
    View.ld (iblk m c 5 t : Vec Ideal S256x1280 .f32) (Rect.unit (s := S256x1280) ![0, off] ![256, n] inb) (ix2 a e) = A4 m c (ix2 Q X) := by
  have ht : t.val < 34 := lt_of_lt_of_eq t.isLt N_0
  have hq : (Q : ℕ) = 2 * t.val % 17 * 256 + a := by omega
  refine (View.ld_unit_apply_of _ _ _ _ (ix2 a e) (ix2 a X) fun i => ?_).trans ?_
  · fin_cases i <;> simp [hX]
  · blk_point [iblk, V, idx t]

theorem sin_upper (c : Dev nD) (t : Fin cfg0.N) (off n : ℕ) (inb) (a : Fin 256) (e : Fin n) (Q : Fin 4352) (X : Fin 1280)
    (hQ : (Q : ℕ) = (512 * t.val + a) % 4352) (hX : (X : ℕ) = off + e) :
    View.ld (iblk m c 6 t : Vec Ideal S256x1280 .f32) (Rect.unit (s := S256x1280) ![0, off] ![256, n] inb) (ix2 a e) = A5 m c (ix2 Q X) := by
  have ht : t.val < 34 := lt_of_lt_of_eq t.isLt N_0
  have hq : (Q : ℕ) = 2 * t.val % 17 * 256 + a := by omega
  refine (View.ld_unit_apply_of _ _ _ _ (ix2 a e) (ix2 a X) fun i => ?_).trans ?_
  · fin_cases i <;> simp [hX]
  · blk_point [iblk, V, idx t]

theorem cos_lower (c : Dev nD) (t : Fin cfg0.N) (off n : ℕ) (inb) (a : Fin 256) (e : Fin n) (Q : Fin 4352) (X : Fin 1280)
    (hQ : (Q : ℕ) = (512 * t.val + (256 + a)) % 4352) (hX : (X : ℕ) = off + e) :
    View.ld (iblk m c 7 t : Vec Ideal S256x1280 .f32) (Rect.unit (s := S256x1280) ![0, off] ![256, n] inb) (ix2 a e) = A4 m c (ix2 Q X) := by
  have ht : t.val < 34 := lt_of_lt_of_eq t.isLt N_0
  have hq : (Q : ℕ) = (2 * t.val + 1) % 17 * 256 + a := by omega
  refine (View.ld_unit_apply_of _ _ _ _ (ix2 a e) (ix2 a X) fun i => ?_).trans ?_
  · fin_cases i <;> simp [hX]
  · blk_point [iblk, V, idx t]

theorem sin_lower (c : Dev nD) (t : Fin cfg0.N) (off n : ℕ) (inb) (a : Fin 256) (e : Fin n) (Q : Fin 4352) (X : Fin 1280)
    (hQ : (Q : ℕ) = (512 * t.val + (256 + a)) % 4352) (hX : (X : ℕ) = off + e) :
    View.ld (iblk m c 8 t : Vec Ideal S256x1280 .f32) (Rect.unit (s := S256x1280) ![0, off] ![256, n] inb) (ix2 a e) = A5 m c (ix2 Q X) := by
  have ht : t.val < 34 := lt_of_lt_of_eq t.isLt N_0
  have hq : (Q : ℕ) = (2 * t.val + 1) % 17 * 256 + a := by omega
  refine (View.ld_unit_apply_of _ _ _ _ (ix2 a e) (ix2 a X) fun i => ?_).trans ?_
  · fin_cases i <;> simp [hX]
  · blk_point [iblk, V, idx t]

/-- The rows of the normed latents. -/
theorem nq_at (c : Dev nD) (t : Fin cfg0.N) (inb) (r : Fin 512) (R : Fin 17408) (hR : (R : ℕ) = 512 * t.val + r) (k : Fin 256) :
    k0_pay15 (F := Ideal) (k0_pay9 (ua m c t) (uc m c t) (uq m c t) (wc m c t 1920 512 inb)) (iblk m c 9 t) (ix2 r k)
      = nq (A0 m c) (A1 m c) (A2 m c) (A3 m c) (A6 m c) R k := by
  refine (norm_q _ _ r k).trans (rn_congr k (funext fun j => (prod_c _ _ _ r _ _).trans (col m c t 1920 512 inb r R hR _ _ rfl)) ?_)
  blk_point [iblk, V, idx t]

theorem nk_at (c : Dev nD) (t : Fin cfg0.N) (inb) (r : Fin 512) (R : Fin 17408) (hR : (R : ℕ) = 512 * t.val + r) (k : Fin 128) :
    k0_pay16 (F := Ideal) (k0_pay9 (ua m c t) (uc m c t) (uq m c t) (wc m c t 1920 512 inb)) (iblk m c 10 t) (ix2 r k)
      = nk (A0 m c) (A1 m c) (A2 m c) (A3 m c) (A7 m c) R k := by
  refine (norm_k _ _ r k).trans (rn_congr k (funext fun j => (prod_c _ _ _ r _ _).trans (col m c t 1920 512 inb r R hR _ _ ?_)) ?_)
  · simp; omega
  · blk_point [iblk, V, idx t]

/-- The rows of the heads' products. -/
theorem hq_at (c : Dev nD) (t : Fin cfg0.N) (inb) (r : Fin 512) (R : Fin 17408) (hR : (R : ℕ) = 512 * t.val + r) (e : Fin 512) :
    k0_pay17 (F := Ideal) (k0_pay9 (ua m c t) (uc m c t) (uq m c t) (wc m c t 1920 512 inb)) (iblk m c 9 t) (iblk m c 11 t) (ix2 r e)
      = ∑ k : Fin 256, nq (A0 m c) (A1 m c) (A2 m c) (A3 m c) (A6 m c) R k * A8 m c (ix2 k e) := by
  refine (head_q _ _ _ r e).trans (Finset.sum_congr rfl fun k _ => congrArg₂ (· * ·) (nq_at m c t inb r R hR k) ?_)
  blk_point [iblk, V, idx t]

theorem hr_at (c : Dev nD) (t : Fin cfg0.N) (inb) (r : Fin 512) (R : Fin 17408) (hR : (R : ℕ) = 512 * t.val + r) (e : Fin 512) :
    k0_pay18 (F := Ideal) (k0_pay9 (ua m c t) (uc m c t) (uq m c t) (wc m c t 1920 512 inb)) (iblk m c 9 t) (iblk m c 12 t) (ix2 r e)
      = ∑ k : Fin 256, nq (A0 m c) (A1 m c) (A2 m c) (A3 m c) (A6 m c) R k * A9 m c (ix2 k e) := by
  refine (head_q_rot _ _ _ r e).trans (Finset.sum_congr rfl fun k _ => congrArg₂ (· * ·) (nq_at m c t inb r R hR k) ?_)
  blk_point [iblk, V, idx t]

theorem hk_at (c : Dev nD) (t : Fin cfg0.N) (inb) (r : Fin 512) (R : Fin 17408) (hR : (R : ℕ) = 512 * t.val + r) (e : Fin 512) :
    k0_pay19 (F := Ideal) (k0_pay16 (k0_pay9 (ua m c t) (uc m c t) (uq m c t) (wc m c t 1920 512 inb)) (iblk m c 10 t)) (iblk m c 13 t) (ix2 r e)
      = ∑ k : Fin 128, nk (A0 m c) (A1 m c) (A2 m c) (A3 m c) (A7 m c) R k * A10 m c (ix2 k e) := by
  refine (head_k _ _ r e).trans (Finset.sum_congr rfl fun k _ => congrArg₂ (· * ·) (nk_at m c t inb r R hR k) ?_)
  blk_point [iblk, V, idx t]

theorem hv_at (c : Dev nD) (t : Fin cfg0.N) (inb) (r : Fin 512) (R : Fin 17408) (hR : (R : ℕ) = 512 * t.val + r) (e : Fin 256) :
    k0_pay20 (F := Ideal) (k0_pay16 (k0_pay9 (ua m c t) (uc m c t) (uq m c t) (wc m c t 1920 512 inb)) (iblk m c 10 t)) (iblk m c 14 t) (ix2 r e)
      = ∑ k : Fin 128, nk (A0 m c) (A1 m c) (A2 m c) (A3 m c) (A7 m c) R k * A11 m c (ix2 k e) := by
  refine (head_v _ _ r e).trans (Finset.sum_congr rfl fun k _ => congrArg₂ (· * ·) (nk_at m c t inb r R hR k) ?_)
  blk_point [iblk, V, idx t]

/-- The kernel's first result array. -/
theorem final_a (c : Dev nD) : (dats m 0 c).arrAt 15 (cfgs 0).N
    = REFA (A0 m c) (A1 m c) (A2 m c) (A3 m c) (A4 m c) (A5 m c) := by
  refine (dats m 0 c).arrAt_eq_of_covers 15 _ (by decide +kernel) fun t _ y => ?_
  have ht : t.val < 34 := lt_of_lt_of_eq t.isLt N_0
  blk_simp
  rw [after0_15]
  unfold outsAt0
  frame_out
  idx_vars y
  rw [show ((View.whole main_v1_0).slice (win0_15.rect t)).emb (ix2 y0 y1) = ix2 ⟨512 * t.val + y0, by omega⟩ y1 from by blk_ext [idx t]]
  canon_tiles x h using View.cover_of_tiledBy _ ![256, 128] (by sl_kernel_rfl) _
  · obtain ⟨a, b, rfl⟩ : ∃ (a : Fin 256) (b : Fin 640), x = ix2 a b := ⟨x 0, x 1, by funext i; fin_cases i <;> rfl⟩
    obtain rfl : y0 = ⟨256 + a, Nat.add_lt_add_left a.isLt 256⟩ := Fin.ext h0
    obtain rfl : y1 = ⟨b, b.isLt.trans (by decide)⟩ := Fin.ext h1
    refine (rot_a_lower _ _ _ _ a b).trans (Eq.trans ?_ (REFA_rotated _ _ _ _ _ _ _ b).symm)
    exact congrArg₂ (· + ·)
      (congrArg₂ (· * ·) ((prod_a _ _ _ _ _ _).trans (col m c t 0 768 _ _ _ rfl _ _ (Nat.zero_add _).symm)) (cos_lower m c t 0 640 _ a b _ _ rfl (Nat.zero_add _).symm))
      (congrArg₂ (· * ·) ((prod_a_rot _ _ _ _ _ _).trans (col m c t 3456 640 _ _ _ rfl _ _ rfl)) (sin_lower m c t 0 640 _ a b _ _ rfl (Nat.zero_add _).symm))
  · obtain ⟨a, b, rfl⟩ : ∃ (a : Fin 256) (b : Fin 640), x = ix2 a b := ⟨x 0, x 1, by funext i; fin_cases i <;> rfl⟩
    obtain rfl : y0 = ⟨a, a.isLt.trans (by decide)⟩ := Fin.ext h0
    obtain rfl : y1 = ⟨b, b.isLt.trans (by decide)⟩ := Fin.ext h1
    refine (rot_a_upper _ _ _ _ a b).trans (Eq.trans ?_ (REFA_rotated _ _ _ _ _ _ _ b).symm)
    exact congrArg₂ (· + ·)
      (congrArg₂ (· * ·) ((prod_a _ _ _ _ _ _).trans (col m c t 0 768 _ _ _ rfl _ _ (Nat.zero_add _).symm)) (cos_upper m c t 0 640 _ a b _ _ rfl (Nat.zero_add _).symm))
      (congrArg₂ (· * ·) ((prod_a_rot _ _ _ _ _ _).trans (col m c t 3456 640 _ _ _ rfl _ _ rfl)) (sin_upper m c t 0 640 _ a b _ _ rfl (Nat.zero_add _).symm))
  · obtain ⟨a, b, rfl⟩ : ∃ (a : Fin 512) (b : Fin 128), x = ix2 a b := ⟨x 0, x 1, by funext i; fin_cases i <;> rfl⟩
    obtain rfl : y0 = a := Fin.ext h0
    obtain rfl : y1 = ⟨640 + b, Nat.add_lt_add_left b.isLt 640⟩ := Fin.ext h1
    refine (plain_a _ _ _ _ _ b).trans (Eq.trans ?_ (REFA_plain _ _ _ _ _ _ _ b).symm)
    exact (prod_a _ _ _ _ _ _).trans (col m c t 0 768 _ _ _ rfl _ _ (Nat.zero_add _).symm)

/-- The second. -/
theorem final_b (c : Dev nD) : (dats m 0 c).arrAt 16 (cfgs 0).N
    = REFB (A0 m c) (A1 m c) (A2 m c) (A3 m c) := by
  refine (dats m 0 c).arrAt_eq_of_covers 16 _ (by decide +kernel) fun t _ y => ?_
  have ht : t.val < 34 := lt_of_lt_of_eq t.isLt N_0
  blk_simp
  rw [after0_16]
  unfold outsAt0
  frame_out
  idx_vars y
  rw [show ((View.whole main_v1_1).slice (win0_16.rect t)).emb (ix2 y0 y1) = ix2 ⟨512 * t.val + y0, by omega⟩ y1 from by blk_ext [idx t]]
  refine Eq.trans ?_ (REFB_at _ _ _ _ _ y1).symm
  exact (prod_b _ _ _ _ _ _).trans (col m c t 768 1152 _ _ _ rfl _ _ rfl)

/-- The third. -/
theorem final_q (c : Dev nD) : (dats m 0 c).arrAt 17 (cfgs 0).N
    = REFQ (A0 m c) (A1 m c) (A2 m c) (A3 m c) (A4 m c) (A5 m c) (A6 m c) (A8 m c) (A9 m c) := by
  refine (dats m 0 c).arrAt_eq_of_covers 17 _ (by decide +kernel) fun t _ y => ?_
  have ht : t.val < 34 := lt_of_lt_of_eq t.isLt N_0
  blk_simp
  rw [after0_17]
  unfold outsAt0
  frame_out
  idx_vars y
  rw [show ((View.whole main_v1_2).slice (win0_17.rect t)).emb (ix2 y0 y1) = ix2 ⟨512 * t.val + y0, by omega⟩ y1 from by blk_ext [idx t]]
  canon_tiles x h
  · obtain ⟨a, b, rfl⟩ : ∃ (a : Fin 256) (b : Fin 512), x = ix2 a b := ⟨x 0, x 1, by funext i; fin_cases i <;> rfl⟩
    obtain rfl : y0 = ⟨256 + a, Nat.add_lt_add_left a.isLt 256⟩ := Fin.ext h0
    obtain rfl : y1 = b := Fin.ext h1
    refine (rot_q_lower _ _ _ _ a y1).trans (Eq.trans ?_ (REFQ_at _ _ _ _ _ _ _ _ _ _ y1).symm)
    exact congrArg₂ (· + ·)
      (congrArg₂ (· * ·) (hq_at m c t _ _ _ rfl y1) (cos_lower m c t 640 128 _ a _ _ _ rfl rfl))
      (congrArg₂ (· * ·) (hr_at m c t _ _ _ rfl y1) (sin_lower m c t 640 128 _ a _ _ _ rfl rfl))
  · obtain ⟨a, b, rfl⟩ : ∃ (a : Fin 256) (b : Fin 512), x = ix2 a b := ⟨x 0, x 1, by funext i; fin_cases i <;> rfl⟩
    obtain rfl : y0 = ⟨a, a.isLt.trans (by decide)⟩ := Fin.ext h0
    obtain rfl : y1 = b := Fin.ext h1
    refine (rot_q_upper _ _ _ _ a y1).trans (Eq.trans ?_ (REFQ_at _ _ _ _ _ _ _ _ _ _ y1).symm)
    exact congrArg₂ (· + ·)
      (congrArg₂ (· * ·) (hq_at m c t _ _ _ rfl y1) (cos_upper m c t 640 128 _ a _ _ _ rfl rfl))
      (congrArg₂ (· * ·) (hr_at m c t _ _ _ rfl y1) (sin_upper m c t 640 128 _ a _ _ _ rfl rfl))

/-- The fourth. -/
theorem final_k (c : Dev nD) : (dats m 0 c).arrAt 18 (cfgs 0).N
    = REFK (A0 m c) (A1 m c) (A2 m c) (A3 m c) (A4 m c) (A5 m c) (A7 m c) (A10 m c) := by
  refine (dats m 0 c).arrAt_eq_of_covers 18 _ (by decide +kernel) fun t _ y => ?_
  have ht : t.val < 34 := lt_of_lt_of_eq t.isLt N_0
  blk_simp
  rw [after0_18]
  unfold outsAt0
  frame_out
  idx_vars y
  rw [show ((View.whole main_v1_3).slice (win0_18.rect t)).emb (ix2 y0 y1) = ix2 ⟨512 * t.val + y0, by omega⟩ y1 from by blk_ext [idx t]]
  canon_tiles x h
  · obtain ⟨a, b, rfl⟩ : ∃ (a : Fin 256) (b : Fin 512), x = ix2 a b := ⟨x 0, x 1, by funext i; fin_cases i <;> rfl⟩
    obtain rfl : y0 = ⟨256 + a, Nat.add_lt_add_left a.isLt 256⟩ := Fin.ext h0
    obtain rfl : y1 = b := Fin.ext h1
    refine (rot_k_lower _ _ _ _ _ a y1).trans (Eq.trans ?_ (REFK_at _ _ _ _ _ _ _ _ _ y1).symm)
    exact congrArg₂ (· + ·) (hk_at m c t _ _ _ rfl y1) (congrArg₂ (· + ·)
      (congrArg₂ (· * ·) ((prod_c _ _ _ _ _ _).trans (col m c t 1920 512 _ _ _ rfl _ _ (by simp; omega))) (cos_lower m c t 640 128 _ a _ _ _ rfl rfl))
      (congrArg₂ (· * ·) ((prod_c_rot _ _ _ _ _ _).trans (col m c t 4096 128 _ _ _ rfl _ _ rfl)) (sin_lower m c t 640 128 _ a _ _ _ rfl rfl)))
  · obtain ⟨a, b, rfl⟩ : ∃ (a : Fin 256) (b : Fin 512), x = ix2 a b := ⟨x 0, x 1, by funext i; fin_cases i <;> rfl⟩
    obtain rfl : y0 = ⟨a, a.isLt.trans (by decide)⟩ := Fin.ext h0
    obtain rfl : y1 = b := Fin.ext h1
    refine (rot_k_upper _ _ _ _ _ _ a y1).trans (Eq.trans ?_ (REFK_at _ _ _ _ _ _ _ _ _ y1).symm)
    exact congrArg₂ (· + ·) (hk_at m c t _ _ _ rfl y1) (congrArg₂ (· + ·)
      (congrArg₂ (· * ·) ((prod_c _ _ _ _ _ _).trans (col m c t 1920 512 _ _ _ rfl _ _ (by simp; omega))) (cos_upper m c t 640 128 _ a _ _ _ rfl rfl))
      (congrArg₂ (· * ·) ((prod_c_rot _ _ _ _ _ _).trans (col m c t 4096 128 _ _ _ rfl _ _ rfl)) (sin_upper m c t 640 128 _ a _ _ _ rfl rfl)))

/-- The fifth. -/
theorem final_v (c : Dev nD) : (dats m 0 c).arrAt 19 (cfgs 0).N
    = REFV (A0 m c) (A1 m c) (A2 m c) (A3 m c) (A7 m c) (A11 m c) := by
  refine (dats m 0 c).arrAt_eq_of_covers 19 _ (by decide +kernel) fun t _ y => ?_
  have ht : t.val < 34 := lt_of_lt_of_eq t.isLt N_0
  blk_simp
  rw [after0_19]
  unfold outsAt0
  frame_out
  idx_vars y
  rw [show ((View.whole main_v1_4).slice (win0_19.rect t)).emb (ix2 y0 y1) = ix2 ⟨512 * t.val + y0, by omega⟩ y1 from by blk_ext [idx t]]
  exact (hv_at m c t _ y0 _ rfl y1).trans (REFV_at _ _ _ _ _ _ _ y1).symm

/-- The sixth. -/
theorem final_d (c : Dev nD) : (dats m 0 c).arrAt 20 (cfgs 0).N
    = REFD (A0 m c) (A1 m c) (A2 m c) (A3 m c) (A4 m c) (A5 m c) := by
  refine (dats m 0 c).arrAt_eq_of_covers 20 _ (by decide +kernel) fun t _ y => ?_
  have ht : t.val < 34 := lt_of_lt_of_eq t.isLt N_0
  blk_simp
  rw [after0_20]
  unfold outsAt0
  frame_out
  idx_vars y
  rw [show ((View.whole main_v1_5).slice (win0_20.rect t)).emb (ix2 y0 y1) = ix2 ⟨512 * t.val + y0, by omega⟩ y1 from by blk_ext [idx t]]
  canon_tiles x h using View.cover_of_tiledBy _ ![256, 512] (by sl_kernel_rfl) _
  · obtain ⟨a, b, rfl⟩ : ∃ (a : Fin 256) (b : Fin 512), x = ix2 a b := ⟨x 0, x 1, by funext i; fin_cases i <;> rfl⟩
    obtain rfl : y0 = ⟨256 + a, Nat.add_lt_add_left a.isLt 256⟩ := Fin.ext h0
    obtain rfl : y1 = ⟨b, b.isLt.trans (by decide)⟩ := Fin.ext h1
    refine (rot_d_lower _ _ _ _ a b).trans (Eq.trans ?_ (REFD_rotated _ _ _ _ _ _ _ b).symm)
    exact congrArg₂ (· + ·)
      (congrArg₂ (· * ·) ((prod_d _ _ _ _ _ _).trans (col m c t 2432 1024 _ _ _ rfl _ _ rfl)) (cos_lower m c t 768 512 _ a b _ _ rfl rfl))
      (congrArg₂ (· * ·) ((prod_d_rot _ _ _ _ _ _).trans (col m c t 4224 512 _ _ _ rfl _ _ rfl)) (sin_lower m c t 768 512 _ a b _ _ rfl rfl))
  · obtain ⟨a, b, rfl⟩ : ∃ (a : Fin 256) (b : Fin 512), x = ix2 a b := ⟨x 0, x 1, by funext i; fin_cases i <;> rfl⟩
    obtain rfl : y0 = ⟨a, a.isLt.trans (by decide)⟩ := Fin.ext h0
    obtain rfl : y1 = ⟨b, b.isLt.trans (by decide)⟩ := Fin.ext h1
    refine (rot_d_upper _ _ _ _ a b).trans (Eq.trans ?_ (REFD_rotated _ _ _ _ _ _ _ b).symm)
    exact congrArg₂ (· + ·)
      (congrArg₂ (· * ·) ((prod_d _ _ _ _ _ _).trans (col m c t 2432 1024 _ _ _ rfl _ _ rfl)) (cos_upper m c t 768 512 _ a b _ _ rfl rfl))
      (congrArg₂ (· * ·) ((prod_d_rot _ _ _ _ _ _).trans (col m c t 4224 512 _ _ _ rfl _ _ rfl)) (sin_upper m c t 768 512 _ a b _ _ rfl rfl))
  · obtain ⟨a, b, rfl⟩ : ∃ (a : Fin 512) (b : Fin 512), x = ix2 a b := ⟨x 0, x 1, by funext i; fin_cases i <;> rfl⟩
    obtain rfl : y0 = a := Fin.ext h0
    obtain rfl : y1 = ⟨512 + b, Nat.add_lt_add_left b.isLt 512⟩ := Fin.ext h1
    refine (plain_d _ y0 b).trans (Eq.trans ?_ (REFD_plain _ _ _ _ _ _ _ b).symm)
    exact (prod_d _ _ _ _ _ _).trans (col m c t 2432 1024 _ _ _ rfl _ _ (by simp; omega))

end Cert.InIdeal.Result

end
-- ==== Proof.InClaim.lean ====
/-
  The input projection's call: its claims.
-/
module

public import proofs.«01_k».proof.Defs
public import proofs.«01_k».proof.Proof.InValue
public import Idealize.ShloMosaic.Lib.Quiescent

@[expose] public section

noncomputable section

open Idealize.ShloMosaic Idealize.ShloMosaic.TcCoe Idealize.SL.Sem

namespace Cert.Claims

open Cert.InIdeal.Result

/-- The reference runs, leaves its arguments and ends with no signal outstanding. -/
theorem in_reference_frame (m : (ℓ : Loc Cert.InRefIdeal.nD Cert.InRefIdeal.τ Cert.InRefIdeal.sig) → Buf (Elt Ideal) ℓ) (ρ : Dev Cert.InRefIdeal.nD → PrngReg) :
    θ_run (Cert.InRefIdeal.defs (F := Ideal)) (onTc (τ := Cert.InRefIdeal.τ) (Cert.InRefIdeal.main (F := Ideal))) ⟨m, fun _ => 0, ρ⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5)
      ∧ r.2.mem ((c.tc : Thread Cert.InRefIdeal.nD Cert.InRefIdeal.τ).loc Cert.InRefIdeal.main_arg6) = m ((c.tc : Thread Cert.InRefIdeal.nD Cert.InRefIdeal.τ).loc Cert.InRefIdeal.main_arg6)
      ∧ r.2.mem ((c.tc : Thread Cert.InRefIdeal.nD Cert.InRefIdeal.τ).loc Cert.InRefIdeal.main_arg7) = m ((c.tc : Thread Cert.InRefIdeal.nD Cert.InRefIdeal.τ).loc Cert.InRefIdeal.main_arg7)
      ∧ r.2.mem ((c.tc : Thread Cert.InRefIdeal.nD Cert.InRefIdeal.τ).loc Cert.InRefIdeal.main_arg8) = m ((c.tc : Thread Cert.InRefIdeal.nD Cert.InRefIdeal.τ).loc Cert.InRefIdeal.main_arg8)
      ∧ r.2.mem ((c.tc : Thread Cert.InRefIdeal.nD Cert.InRefIdeal.τ).loc Cert.InRefIdeal.main_arg9) = m ((c.tc : Thread Cert.InRefIdeal.nD Cert.InRefIdeal.τ).loc Cert.InRefIdeal.main_arg9)
      ∧ r.2.mem ((c.tc : Thread Cert.InRefIdeal.nD Cert.InRefIdeal.τ).loc Cert.InRefIdeal.main_arg10) = m ((c.tc : Thread Cert.InRefIdeal.nD Cert.InRefIdeal.τ).loc Cert.InRefIdeal.main_arg10)
      ∧ r.2.mem ((c.tc : Thread Cert.InRefIdeal.nD Cert.InRefIdeal.τ).loc Cert.InRefIdeal.main_arg11) = m ((c.tc : Thread Cert.InRefIdeal.nD Cert.InRefIdeal.τ).loc Cert.InRefIdeal.main_arg11)) ∧ r.2.sem = fun _ => 0) :=
  (θ_run Cert.InRefIdeal.defs _ _).mono (fun r h => ⟨fun c => (h c).2.2.2.2.2.2, sem_eq_zero_of_no_sems (by decide) r.2⟩) (Cert.InRefIdeal.Value.run (F := Ideal) m ρ)

/-- Kernel and reference end with the same six arrays. -/
theorem in_algebraic : Cert.algebraic_InIdeal_InRefIdeal := by
  intro m ρ m' ρ' pre hag
  refine ⟨fun c => Cert.InRefIdeal.Term.REFA (A0 m c) (A1 m c) (A2 m c) (A3 m c) (A4 m c) (A5 m c),
    fun c => Cert.InRefIdeal.Term.REFB (A0 m c) (A1 m c) (A2 m c) (A3 m c),
    fun c => Cert.InRefIdeal.Term.REFQ (A0 m c) (A1 m c) (A2 m c) (A3 m c) (A4 m c) (A5 m c) (A6 m c) (A8 m c) (A9 m c),
    fun c => Cert.InRefIdeal.Term.REFK (A0 m c) (A1 m c) (A2 m c) (A3 m c) (A4 m c) (A5 m c) (A7 m c) (A10 m c),
    fun c => Cert.InRefIdeal.Term.REFV (A0 m c) (A1 m c) (A2 m c) (A3 m c) (A7 m c) (A11 m c),
    fun c => Cert.InRefIdeal.Term.REFD (A0 m c) (A1 m c) (A2 m c) (A3 m c) (A4 m c) (A5 m c), ?_, ?_⟩
  · exact (θ_run Cert.InIdeal.defs _ _).mono (fun _ h c => ⟨(h c).1.trans (final_a m c),
      (h c).2.1.trans (final_b m c),
      (h c).2.2.1.trans (final_q m c),
      (h c).2.2.2.1.trans (final_k m c),
      (h c).2.2.2.2.1.trans (final_v m c),
      (h c).2.2.2.2.2.1.trans (final_d m c),
      (h c).2.2.2.2.2.2⟩) (Cert.InIdeal.Value.run_blocks m ρ)
  · refine (θ_run Cert.InRefIdeal.defs _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩)
      (Cert.InRefIdeal.Value.run (F := Ideal) m' ρ')
    · refine (Cert.InRefIdeal.Term.res_a m' c).trans ?_
      rw [(hag c).1, (hag c).2.1, (hag c).2.2.1, (hag c).2.2.2.1, (hag c).2.2.2.2.1, (hag c).2.2.2.2.2.1]
    · refine (Cert.InRefIdeal.Term.res_b m' c).trans ?_
      rw [(hag c).1, (hag c).2.1, (hag c).2.2.1, (hag c).2.2.2.1]
    · refine (Cert.InRefIdeal.Term.res_q m' c).trans ?_
      rw [(hag c).1, (hag c).2.1, (hag c).2.2.1, (hag c).2.2.2.1, (hag c).2.2.2.2.1, (hag c).2.2.2.2.2.1, (hag c).2.2.2.2.2.2.1, (hag c).2.2.2.2.2.2.2.2.1, (hag c).2.2.2.2.2.2.2.2.2.1]
    · refine (Cert.InRefIdeal.Term.res_k m' c).trans ?_
      rw [(hag c).1, (hag c).2.1, (hag c).2.2.1, (hag c).2.2.2.1, (hag c).2.2.2.2.1, (hag c).2.2.2.2.2.1, (hag c).2.2.2.2.2.2.2.1, (hag c).2.2.2.2.2.2.2.2.2.2.1]
    · refine (Cert.InRefIdeal.Term.res_v m' c).trans ?_
      rw [(hag c).1, (hag c).2.1, (hag c).2.2.1, (hag c).2.2.2.1, (hag c).2.2.2.2.2.2.2.1, (hag c).2.2.2.2.2.2.2.2.2.2.2]
    · refine (Cert.InRefIdeal.Term.res_d m' c).trans ?_
      rw [(hag c).1, (hag c).2.1, (hag c).2.2.1, (hag c).2.2.2.1, (hag c).2.2.2.2.1, (hag c).2.2.2.2.2.1]

end Cert.Claims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Last
public import proofs.«01_k».proof.Proof.Gen.Last.Skeleton
public import proofs.«01_k».proof.Proof.Gen.Last.Launch
public import proofs.«01_k».proof.Proof.Gen.Last.Points
public import proofs.«01_k».proof.Proof.Gen.Last.Frame
public import proofs.«01_k».proof.Proof.Gen.LastIdeal
public import proofs.«01_k».proof.Proof.Gen.LastIdeal.Skeleton
public import proofs.«01_k».proof.Proof.Gen.LastIdeal.Launch
public import proofs.«01_k».proof.Proof.Gen.LastIdeal.Points
public import proofs.«01_k».proof.Proof.Gen.LastIdeal.Frame
public import proofs.«01_k».proof.Proof.Gen.LastRefIdeal
public import proofs.«01_k».proof.Proof.Gen.Moe
public import proofs.«01_k».proof.Proof.Gen.Moe.Skeleton
public import proofs.«01_k».proof.Proof.Gen.Moe.Launch
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeRefIdeal
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.OutRefIdeal.Run
public import proofs.«01_k».proof.Proof.Gen.OutIdeal.Value
public import proofs.«01_k».proof.Proof.Gen.In
public import proofs.«01_k».proof.Proof.Gen.In.Skeleton
public import proofs.«01_k».proof.Proof.Gen.In.Launch
public import proofs.«01_k».proof.Proof.Gen.In.Points
public import proofs.«01_k».proof.Proof.Gen.In.Frame
public import proofs.«01_k».proof.Proof.Gen.InIdeal
public import proofs.«01_k».proof.Proof.Gen.InIdeal.Skeleton
public import proofs.«01_k».proof.Proof.Gen.InIdeal.Launch
public import proofs.«01_k».proof.Proof.Gen.InIdeal.Points
public import proofs.«01_k».proof.Proof.Gen.InIdeal.Frame
public import proofs.«01_k».proof.Proof.Gen.InRefIdeal
public import proofs.«01_k».proof.Proof.Gen.InRefIdeal.Run
public import proofs.«01_k».proof.Proof.Gen.InIdeal.Value
public import proofs.«01_k».proof.Proof.Gen.Pre_finite_qk
public import proofs.«01_k».proof.Proof.Gen.Pre_work_list
public import proofs.«01_k».proof.Proof.Gen.KernelIdeal.Value
public import proofs.«01_k».proof.Proof.Gen.FfnIdeal.Value
public import proofs.«01_k».proof.Proof.Gen.LastIdeal.Value
public import proofs.«01_k».proof.Proof.Gen.ReferenceIdeal.Run
public import proofs.«01_k».proof.Proof.Gen.FfnRefIdeal.Run
public import proofs.«01_k».proof.Proof.Gen.LastRefIdeal.Run
public import proofs.«01_k».proof.Proof.Gen.MoeRefIdeal.Run
public import proofs.«01_k».proof.Proof.MlaClaim
public import proofs.«01_k».proof.Proof.FfnClaim
public import proofs.«01_k».proof.Proof.LastClaim
public import proofs.«01_k».proof.Proof.MoeClaim
public import proofs.«01_k».proof.Proof.OutClaim
public import proofs.«01_k».proof.Proof.InClaim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Ffn.Gen.facts, Cert.FfnIdeal.Gen.facts, Cert.FfnRefIdeal.Gen.facts, Cert.Last.Gen.facts, Cert.LastIdeal.Gen.facts, Cert.LastRefIdeal.Gen.facts, Cert.Moe.Gen.facts, Cert.MoeIdeal.Gen.facts, Cert.MoeRefIdeal.Gen.facts, Cert.Out.Gen.facts, Cert.OutIdeal.Gen.facts, Cert.OutRefIdeal.Gen.facts, Cert.In.Gen.facts, Cert.InIdeal.Gen.facts, Cert.InRefIdeal.Gen.facts, Cert.Pre_finite_qk.Gen.facts, Cert.Pre_work_list.Gen.facts,
  fun m ρ _ => Cert.Kernel.Gen.frame m ρ, fun m ρ _ => Cert.KernelIdeal.Gen.frame m ρ, fun m ρ _ => Cert.KernelIdeal.Gen.frame m ρ,
  fun m ρ _ => Cert.Claims.mla_reference_frame m ρ, fun m ρ _ => Cert.Claims.mla_reference_frame m ρ,
  fun m ρ _ => Cert.Ffn.Gen.frame m ρ, fun m ρ _ => Cert.FfnIdeal.Gen.frame m ρ, fun m ρ _ => Cert.Claims.ffn_reference_frame m ρ,
  fun m ρ _ => Cert.Last.Gen.frame m ρ, fun m ρ _ => Cert.LastIdeal.Gen.frame m ρ, fun m ρ _ => Cert.Claims.last_reference_frame m ρ,
  Cert.Claims.moe_frame_device, Cert.Claims.moe_frame, fun m ρ _ => Cert.Claims.moe_reference_frame m ρ, fun m ρ _ => Cert.Claims.moe_reference_frame m ρ,
  fun m ρ _ => Cert.Out.Gen.frame m ρ, fun m ρ _ => Cert.OutIdeal.Gen.frame m ρ, fun m ρ _ => Cert.Claims.out_reference_frame m ρ,
  fun m ρ _ => Cert.In.Gen.frame m ρ, fun m ρ _ => Cert.InIdeal.Gen.frame m ρ, fun m ρ _ => Cert.Claims.in_reference_frame m ρ,
  trivial, Cert.Claims.mla_algebraic, trivial, Cert.Claims.ffn_algebraic, trivial, Cert.Claims.last_algebraic, trivial, Cert.Claims.moe_algebraic,
  trivial, Cert.Claims.out_algebraic, trivial, Cert.Claims.in_algebraic⟩

end Cert.Proof

end
